-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel [hPre_slots_in_range : Cert.Pre_slots_in_range.Facts] (m : (ℓ : Loc Cert.OutKernel.nD Cert.OutKernel.τ Cert.OutKernel.sig) → Buf (Elt Bits) ℓ) : Prop :=
  ∀ c : Dev Cert.OutKernel.nD,
    (Cert.Pre_slots_in_range.fn (F := Bits) (m ((c.tc : Thread Cert.OutKernel.nD Cert.OutKernel.τ).loc Cert.OutKernel.main_arg0)) (m ((c.tc : Thread Cert.OutKernel.nD Cert.OutKernel.τ).loc Cert.OutKernel.main_arg1)) (m ((c.tc : Thread Cert.OutKernel.nD Cert.OutKernel.τ).loc Cert.OutKernel.main_arg2)) (m ((c.tc : Thread Cert.OutKernel.nD Cert.OutKernel.τ).loc Cert.OutKernel.main_arg3)) (m ((c.tc : Thread Cert.OutKernel.nD Cert.OutKernel.τ).loc Cert.OutKernel.main_arg4)) (m ((c.tc : Thread Cert.OutKernel.nD Cert.OutKernel.τ).loc Cert.OutKernel.main_arg5)) (m ((c.tc : Thread Cert.OutKernel.nD Cert.OutKernel.τ).loc Cert.OutKernel.main_arg6))) = (fun _ => 1#1)

def Pre_OutKernelIdeal [hPre_slots_in_range : Cert.Pre_slots_in_range.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_slots_in_range.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))) = (fun _ => 1#1)

def Pre_OutReferenceIdeal [hPre_slots_in_range : Cert.Pre_slots_in_range.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_slots_in_range.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6))
      ∧ r.2.sem = fun _ => 0)

def quiescent_OutKernel [hOutKernel : Cert.OutKernel.Facts] [hPre_slots_in_range : Cert.Pre_slots_in_range.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] [hPre_slots_in_range : Cert.Pre_slots_in_range.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] [hPre_slots_in_range : Cert.Pre_slots_in_range.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7)
      ∧ r.2.mem ((c.tc : Thread Cert.ProjKernel.nD Cert.ProjKernel.τ).loc Cert.ProjKernel.main_arg8) = m ((c.tc : Thread Cert.ProjKernel.nD Cert.ProjKernel.τ).loc Cert.ProjKernel.main_arg8)
      ∧ r.2.mem ((c.tc : Thread Cert.ProjKernel.nD Cert.ProjKernel.τ).loc Cert.ProjKernel.main_arg9) = m ((c.tc : Thread Cert.ProjKernel.nD Cert.ProjKernel.τ).loc Cert.ProjKernel.main_arg9)
      ∧ r.2.mem ((c.tc : Thread Cert.ProjKernel.nD Cert.ProjKernel.τ).loc Cert.ProjKernel.main_arg10) = m ((c.tc : Thread Cert.ProjKernel.nD Cert.ProjKernel.τ).loc Cert.ProjKernel.main_arg10)
      ∧ r.2.mem ((c.tc : Thread Cert.ProjKernel.nD Cert.ProjKernel.τ).loc Cert.ProjKernel.main_arg11) = m ((c.tc : Thread Cert.ProjKernel.nD Cert.ProjKernel.τ).loc Cert.ProjKernel.main_arg11)
      ∧ r.2.mem ((c.tc : Thread Cert.ProjKernel.nD Cert.ProjKernel.τ).loc Cert.ProjKernel.main_arg12) = m ((c.tc : Thread Cert.ProjKernel.nD Cert.ProjKernel.τ).loc Cert.ProjKernel.main_arg12)
      ∧ r.2.mem ((c.tc : Thread Cert.ProjKernel.nD Cert.ProjKernel.τ).loc Cert.ProjKernel.main_arg13) = m ((c.tc : Thread Cert.ProjKernel.nD Cert.ProjKernel.τ).loc Cert.ProjKernel.main_arg13))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
      ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
      ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
      ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12)
      ∧ r.2.mem ((c.tc : Thread Cert.ProjKernelIdeal.nD Cert.ProjKernelIdeal.τ).loc Cert.ProjKernelIdeal.main_arg13) = m ((c.tc : Thread Cert.ProjKernelIdeal.nD Cert.ProjKernelIdeal.τ).loc Cert.ProjKernelIdeal.main_arg13))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)) →
    ∃ (v0 : (c : Dev Cert.InKernelIdeal.nD) → Buf (Elt Ideal) ((c.tc : Thread Cert.InKernelIdeal.nD Cert.InKernelIdeal.τ).loc Cert.InKernelIdeal.main_v4_0)) (v1 : (c : Dev Cert.InKernelIdeal.nD) → Buf (Elt Ideal) ((c.tc : Thread Cert.InKernelIdeal.nD Cert.InKernelIdeal.τ).loc Cert.InKernelIdeal.main_v4_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v4_0) = v0 c
          ∧ r.2.mem ((c.tc : Thread Cert.InKernelIdeal.nD Cert.InKernelIdeal.τ).loc Cert.InKernelIdeal.main_v4_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v31) = v0 c
          ∧ r.2.mem ((c.tc : Thread Cert.InReferenceIdeal.nD Cert.InReferenceIdeal.τ).loc Cert.InReferenceIdeal.main_v34) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] [hPre_slots_in_range : Cert.Pre_slots_in_range.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v6)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v6) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v40) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)
      ∧ m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10)
      ∧ m' ((c.tc : Thread Cert.ProjReferenceIdeal.nD Cert.ProjReferenceIdeal.τ).loc Cert.ProjReferenceIdeal.main_arg11) = m ((c.tc : Thread Cert.ProjKernelIdeal.nD Cert.ProjKernelIdeal.τ).loc Cert.ProjKernelIdeal.main_arg11)
      ∧ m' ((c.tc : Thread Cert.ProjReferenceIdeal.nD Cert.ProjReferenceIdeal.τ).loc Cert.ProjReferenceIdeal.main_arg12) = m ((c.tc : Thread Cert.ProjKernelIdeal.nD Cert.ProjKernelIdeal.τ).loc Cert.ProjKernelIdeal.main_arg12)
      ∧ m' ((c.tc : Thread Cert.ProjReferenceIdeal.nD Cert.ProjReferenceIdeal.τ).loc Cert.ProjReferenceIdeal.main_arg13) = m ((c.tc : Thread Cert.ProjKernelIdeal.nD Cert.ProjKernelIdeal.τ).loc Cert.ProjKernelIdeal.main_arg13)) →
    ∃ (v0 : (c : Dev Cert.ProjKernelIdeal.nD) → Buf (Elt Ideal) ((c.tc : Thread Cert.ProjKernelIdeal.nD Cert.ProjKernelIdeal.τ).loc Cert.ProjKernelIdeal.main_v24_0)) (v1 : (c : Dev Cert.ProjKernelIdeal.nD) → Buf (Elt Ideal) ((c.tc : Thread Cert.ProjKernelIdeal.nD Cert.ProjKernelIdeal.τ).loc Cert.ProjKernelIdeal.main_v24_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v24_0) = v0 c
          ∧ r.2.mem ((c.tc : Thread Cert.ProjKernelIdeal.nD Cert.ProjKernelIdeal.τ).loc Cert.ProjKernelIdeal.main_v24_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
          ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
          ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
          ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
          ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11)
          ∧ r.2.mem ((c.tc : Thread Cert.ProjKernelIdeal.nD Cert.ProjKernelIdeal.τ).loc Cert.ProjKernelIdeal.main_arg12) = m ((c.tc : Thread Cert.ProjKernelIdeal.nD Cert.ProjKernelIdeal.τ).loc Cert.ProjKernelIdeal.main_arg12)
          ∧ r.2.mem ((c.tc : Thread Cert.ProjKernelIdeal.nD Cert.ProjKernelIdeal.τ).loc Cert.ProjKernelIdeal.main_arg13) = m ((c.tc : Thread Cert.ProjKernelIdeal.nD Cert.ProjKernelIdeal.τ).loc Cert.ProjKernelIdeal.main_arg13))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v68) = v0 c
          ∧ r.2.mem ((c.tc : Thread Cert.ProjReferenceIdeal.nD Cert.ProjReferenceIdeal.τ).loc Cert.ProjReferenceIdeal.main_v74) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hProjKernel : Cert.ProjKernel.Facts) (hProjKernelIdeal : Cert.ProjKernelIdeal.Facts) (hProjReferenceIdeal : Cert.ProjReferenceIdeal.Facts) (hPre_in_range : Cert.Pre_in_range.Facts) (hPre_slots_in_range : Cert.Pre_slots_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel) (hPre_slots_in_range := hPre_slots_in_range)
    ∧ quiescent_OutKernelIdeal (hOutKernelIdeal := hOutKernelIdeal) (hPre_slots_in_range := hPre_slots_in_range)
    ∧ quiescent_OutReferenceIdeal (hOutReferenceIdeal := hOutReferenceIdeal) (hPre_slots_in_range := hPre_slots_in_range)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal) (hPre_slots_in_range := hPre_slots_in_range)
    ∧ preserves_ProjKernel_ProjKernelIdeal
    ∧ algebraic_ProjKernelIdeal_ProjReferenceIdeal (hProjKernelIdeal := hProjKernelIdeal) (hProjReferenceIdeal := hProjReferenceIdeal)
-- ==== Pre_in_range.lean ====
abbrev S1056 : Shape := ⟨1, ![1056]⟩
abbrev S270336 : Shape := ⟨1, ![270336]⟩
abbrev S65536x1024 : Shape := ⟨2, ![65536, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S1056 : S_.BroadcastsInDim S1056 (![] : Fin 0 → Fin S1056.rank)
  reducesTo_S1056_S_d0 : S1056.ReducesTo [0] S_
  h_S_ : 0 < S_.numel
  bcast_S_S270336 : S_.BroadcastsInDim S270336 (![] : Fin 0 → Fin S270336.rank)
  reducesTo_S270336_S_d0 : S270336.ReducesTo [0] S_

variable [Facts]

def fn {F : FTy → Type} [FloatOps F] (main_arg0 : IVec S1056 32) (main_arg1 : IVec S270336 32) (main_arg2 : FVec F S65536x1024 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S1056 32 := broadcastInDim S1056 ![] bcast_S_S1056 main_c
  let main_v1 : IVec S1056 1 := cmpi .sge main_arg0 main_v0
  let main_c_0 : IVec S_ 32 := constantI S_ 32 32#32
  let main_v2 : IVec S1056 32 := broadcastInDim S1056 ![] bcast_S_S1056 main_c_0
  let main_v3 : IVec S1056 1 := cmpi .slt main_arg0 main_v2
  let main_v4 : IVec S1056 1 := andi main_v1 main_v3
  let main_c_1 : IVec S_ 1 := constantI S_ 1 1#1
  let main_v5 : IVec S_ 1 := (fun x v => Host.reduce IntOp.andi x v reducesTo_S1056_S_d0 h_S_) main_v4 main_c_1
  let main_c_2 : IVec S_ 32 := constantI S_ 32 0#32
  let main_v6 : IVec S270336 32 := broadcastInDim S270336 ![] bcast_S_S270336 main_c_2
  let main_v7 : IVec S270336 1 := cmpi .sge main_arg1 main_v6
  let main_c_3 : IVec S_ 32 := constantI S_ 32 65536#32
  let main_v8 : IVec S270336 32 := broadcastInDim S270336 ![] bcast_S_S270336 main_c_3
  let main_v9 : IVec S270336 1 := cmpi .slt main_arg1 main_v8
  let main_v10 : IVec S270336 1 := andi main_v7 main_v9
  let main_c_4 : IVec S_ 1 := constantI S_ 1 1#1
  let main_v11 : IVec S_ 1 := (fun x v => Host.reduce IntOp.andi x v reducesTo_S270336_S_d0 h_S_) main_v10 main_c_4
  let main_v12 : IVec S_ 1 := andi main_v5 main_v11
  main_v12
-- ==== Pre_slots_in_range.lean ====
abbrev S4x65536 : Shape := ⟨2, ![4, 65536]⟩
abbrev S270336x1024 : Shape := ⟨2, ![270336, 1024]⟩
abbrev S16x4096x1024 : Shape := ⟨3, ![16, 4096, 1024]⟩
abbrev S16x1x1024 : Shape := ⟨3, ![16, 1, 1024]⟩
abbrev S1024 : Shape := ⟨1, ![1024]⟩
abbrev S_ : Shape := ⟨0, ![]⟩

class Facts : Prop where
  bcast_S_S4x65536 : S_.BroadcastsInDim S4x65536 (![] : Fin 0 → Fin S4x65536.rank)
  reducesTo_S4x65536_S_d0_1 : S4x65536.ReducesTo [0, 1] S_
  h_S_ : 0 < S_.numel

variable [Facts]

def fn {F : FTy → Type} [FloatOps F] (main_arg0 : IVec S4x65536 32) (main_arg1 : FVec F S270336x1024 .f32) (main_arg2 : FVec F S4x65536 .f32) (main_arg3 : FVec F S16x4096x1024 .f32) (main_arg4 : FVec F S16x1x1024 .f32) (main_arg5 : FVec F S1024 .f32) (main_arg6 : FVec F S1024 .f32) : IVec S_ 1 :=
  let main_c : IVec S_ 32 := constantI S_ 32 0#32
  let main_v0 : IVec S4x65536 32 := broadcastInDim S4x65536 ![] bcast_S_S4x65536 main_c
  let main_v1 : IVec S4x65536 1 := cmpi .sge main_arg0 main_v0
  let main_c_0 : IVec S_ 32 := constantI S_ 32 270336#32
  let main_v2 : IVec S4x65536 32 := broadcastInDim S4x65536 ![] bcast_S_S4x65536 main_c_0
  let main_v3 : IVec S4x65536 1 := cmpi .slt main_arg0 main_v2
  let main_v4 : IVec S4x65536 1 := andi main_v1 main_v3
  let main_c_1 : IVec S_ 1 := constantI S_ 1 1#1
  let main_v5 : IVec S_ 1 := (fun x v => Host.reduce IntOp.andi x v reducesTo_S4x65536_S_d0_1 h_S_) main_v4 main_c_1
  main_v5
-- ==== Kernel.lean ====
abbrev S1056 : Shape := ⟨1, ![1056]⟩
abbrev S270336 : Shape := ⟨1, ![270336]⟩
abbrev S65536x1024 : Shape := ⟨2, ![65536, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S1056x1x256 : Shape := ⟨3, ![1056, 1, 256]⟩
abbrev S270336x1024 : Shape := ⟨2, ![270336, 1024]⟩
abbrev S1x1x256 : Shape := ⟨3, ![1, 1, 256]⟩
abbrev S1x1024x1024 : Shape := ⟨3, ![1, 1024, 1024]⟩
abbrev S1 : Shape := ⟨1, ![1]⟩
abbrev S1x1x1024 : Shape := ⟨3, ![1, 1, 1024]⟩
abbrev S256x1024 : Shape := ⟨2, ![256, 1024]⟩
abbrev S2x256x1024 : Shape := ⟨3, ![2, 256, 1024]⟩
abbrev S2 : Shape := ⟨1, ![2]⟩
abbrev S1x1x1 : Shape := ⟨3, ![1, 1, 1]⟩
abbrev S_ : Shape := ⟨0, ![]⟩
abbrev S1x1024 : Shape := ⟨2, ![1, 1024]⟩
abbrev S1x256x1024 : Shape := ⟨3, ![1, 256, 1024]⟩
abbrev S1024x1024 : Shape := ⟨2, ![1024, 1024]⟩

abbrev nBuf : Space → Nat
  | .hbm => 18
  | .vmem => 15
  | .smem => 5
  | _ => 0

abbrev bufTy : (tb : Table) → Fin (tcTables nBuf tb) → BufTy
  | .hbm, ⟨0, _⟩ => ⟨S270336, .i32⟩
  | .hbm, ⟨1, _⟩ => ⟨S65536x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024x1024, .bf16⟩
  | .hbm, ⟨8, _⟩ => ⟨S32x1024x1024, .f32⟩
  | .hbm, ⟨9, _⟩ => ⟨S32x1024x1024, .bf16⟩
  | .hbm, ⟨10, _⟩ => ⟨S32x1024, .f32⟩
  | .hbm, ⟨11, _⟩ => ⟨S32x1x1024, .f32⟩
  | .hbm, ⟨12, _⟩ => ⟨S32x1024, .f32⟩
  | .hbm, ⟨13, _⟩ => ⟨S32x1x1024, .f32⟩
  | .hbm, ⟨14, _⟩ => ⟨S32x1024x1024, .bf16⟩
  | .hbm, ⟨15, _⟩ => ⟨S32x1x1024, .f32⟩
  | .hbm, ⟨16, _⟩ => ⟨S1056x1x256, .i32⟩
  | .hbm, ⟨17, _⟩ => ⟨S270336x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S256x1024, .f32⟩
  | .local _ .vmem, ⟨13, _⟩ => ⟨S256x1024, .f32⟩
  | .local _ .vmem, ⟨14, _⟩ => ⟨S2x256x1024, .f32⟩
  | .local _ .smem, ⟨0, _⟩ => ⟨S1056, .i32⟩
  | .local _ .smem, ⟨1, _⟩ => ⟨S1x1x256, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | _, _ => ⟨S270336, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_arg0 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_stg0_0 : Ref sig .tc := ⟨.smem, 1, rfl⟩
abbrev cc0_stg0_1 : Ref sig .tc := ⟨.smem, 2, rfl⟩
abbrev cc0_stg1_0 : Ref sig .tc := ⟨.smem, 3, rfl⟩
abbrev cc0_stg1_1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![1056], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_41 : BitVec 32 := 0#32
  let c256_i32_42 : BitVec 32 := 256#32
  let v64 : BitVec 32 := Scalar.addi c0_i32_41 c256_i32_42
  let c1_i32_43 : BitVec 32 := 1#32
  ⟨c0_i32_41, v64, c1_i32_43⟩
def k0_off2 (k0_t1 : Fin k0_t1_loop.trips) : Fin 3 → Nat :=
  let c0_45 : Index := 0#32
  let c0_46 : Index := 0#32
  let c0_i32_41 : BitVec 32 := 0#32
  let c1_i32_43 : BitVec 32 := 1#32
  let arg14 : BitVec 32 := Scf.iv c0_i32_41 c1_i32_43 k0_t1
  let v65 : Index := Scalar.indexCast arg14
  ![0, 0, v65.toNat]
def k0_off3 (k0_t1 : Fin k0_t1_loop.trips) : Fin 3 → Nat :=
  let c0_i32_47 : BitVec 32 := 0#32
  let c0_i32_41 : BitVec 32 := 0#32
  let c1_i32_43 : BitVec 32 := 1#32
  let arg14 : BitVec 32 := Scf.iv c0_i32_41 c1_i32_43 k0_t1
  let c0_i32_49 : BitVec 32 := 0#32
  ![0, arg14.toNat, 0]
def k0_off4 (v66 : BitVec 32) : Fin 2 → Nat :=
  let c0_i32_50 : BitVec 32 := 0#32
  ![v66.toNat, 0]

def k0_chk1 (i : grid0.Coords) (v66 : BitVec 32) : Prop :=
  (∀ (k0_h1 : k0_cond1 i = 1#1), ∀ a, (k0_off4 v66) a + S1x1024.size a ≤ S65536x1024.size a)
theorem k0_off4_inb : ∀ (i : grid0.Coords) (v66 : BitVec 32) (k0_hw1 : k0_chk1 i v66), ∀ (k0_h1 : k0_cond1 i = 1#1), ∀ a, (k0_off4 v66) a + S1x1024.size a ≤ S65536x1024.size a := fun i v66 k0_hw1 k0_h1 => k0_hw1 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c1056_i32 : BitVec 32 := 1056#32
  let v14 : BitVec 1 := Scalar.cmpi .slt v13 c1056_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_42 : BitVec 32 := 0#32
  let c256_i32_43 : BitVec 32 := 256#32
  let v65 : BitVec 32 := Scalar.addi c0_i32_42 c256_i32_43
  let c1_i32_44 : BitVec 32 := 1#32
  ⟨c0_i32_42, v65, c1_i32_44⟩
def k0_off5 (k0_t2 : Fin k0_t2_loop.trips) : Fin 3 → Nat :=
  let c0_46 : Index := 0#32
  let c0_47 : Index := 0#32
  let c0_i32_42 : BitVec 32 := 0#32
  let c1_i32_44 : BitVec 32 := 1#32
  let arg14 : BitVec 32 := Scf.iv c0_i32_42 c1_i32_44 k0_t2
  let v66 : Index := Scalar.indexCast arg14
  ![0, 0, v66.toNat]
def k0_off6 (i : grid0.Coords) : Fin 1 → Nat :=
  let c1_i32_41 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : BitVec 32 := Scalar.subi c1_i32_41 v9
  ![v64.toNat]
def k0_off7 (i : grid0.Coords) (k0_t2 : Fin k0_t2_loop.trips) : Fin 3 → Nat :=
  let c1_i32_41 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : BitVec 32 := Scalar.subi c1_i32_41 v9
  let c0_i32_42 : BitVec 32 := 0#32
  let c1_i32_44 : BitVec 32 := 1#32
  let arg14 : BitVec 32 := Scf.iv c0_i32_42 c1_i32_44 k0_t2
  let c0_i32_48 : BitVec 32 := 0#32
  ![v64.toNat, arg14.toNat, 0]
def k0_off8 (v67 : BitVec 32) : Fin 2 → Nat :=
  let c0_i32_49 : BitVec 32 := 0#32
  ![v67.toNat, 0]

def k0_chk2 (i : grid0.Coords) (v67 : BitVec 32) : Prop :=
  (∀ (k0_h2 : k0_cond2 i = 1#1), ∀ a, (k0_off8 v67) a + S1x1024.size a ≤ S65536x1024.size a)
theorem k0_off8_inb : ∀ (i : grid0.Coords) (v67 : BitVec 32) (k0_hw2 : k0_chk2 i v67), ∀ (k0_h2 : k0_cond2 i = 1#1), ∀ a, (k0_off8 v67) a + S1x1024.size a ≤ S65536x1024.size a := fun i v67 k0_hw2 k0_h2 => k0_hw2 k0_h2

@[reducible] def k0_t3_loop : Scf.Loop 32 :=
  let c0_i32_7 : BitVec 32 := 0#32
  let c256_i32 : BitVec 32 := 256#32
  let v17 : BitVec 32 := Scalar.addi c0_i32_7 c256_i32
  let c1_i32_8 : BitVec 32 := 1#32
  ⟨c0_i32_7, v17, c1_i32_8⟩
def k0_off9 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off10 (i : grid0.Coords) (k0_t3 : Fin k0_t3_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let c1_i32_8 : BitVec 32 := 1#32
  let arg14 : BitVec 32 := Scf.iv c0_i32_7 c1_i32_8 k0_t3
  let c0_i32_41 : BitVec 32 := 0#32
  ![v9.toNat, arg14.toNat, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : Index := Scalar.indexCast v9
  let c0 : Index := 0#32
  let c0_10 : Index := 0#32
  ![v18.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c1055_i32 : BitVec 32 := 1055#32
  let v1 : BitVec 32 := Scalar.minsi v0 c1055_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S1056.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1056) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1056 : Shape := ⟨1, ![1056]⟩
abbrev S270336 : Shape := ⟨1, ![270336]⟩
abbrev S65536x1024 : Shape := ⟨2, ![65536, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1056x256 : Shape := ⟨2, ![1056, 256]⟩
abbrev S_ : Shape := ⟨0, ![]⟩
abbrev S1056x256x1 : Shape := ⟨3, ![1056, 256, 1]⟩
abbrev S1056x256x1024 : Shape := ⟨3, ![1056, 256, 1024]⟩
abbrev S1056x1 : Shape := ⟨2, ![1056, 1]⟩
abbrev S1056x3 : Shape := ⟨2, ![1056, 3]⟩
abbrev S1056x1x1024x2048 : Shape := ⟨4, ![1056, 1, 1024, 2048]⟩
abbrev S1056x1024x2048 : Shape := ⟨3, ![1056, 1024, 2048]⟩
abbrev S1056x256x2048 : Shape := ⟨3, ![1056, 256, 2048]⟩
abbrev S1056x2 : Shape := ⟨2, ![1056, 2]⟩
abbrev S1056x1x2048 : Shape := ⟨3, ![1056, 1, 2048]⟩
abbrev S1056x2048 : Shape := ⟨2, ![1056, 2048]⟩
abbrev S1056x1x1024x1024 : Shape := ⟨4, ![1056, 1, 1024, 1024]⟩
abbrev S1056x1024x1024 : Shape := ⟨3, ![1056, 1024, 1024]⟩
abbrev S1056x1x1024 : Shape := ⟨3, ![1056, 1, 1024]⟩
abbrev S1056x1024 : Shape := ⟨2, ![1056, 1024]⟩
abbrev S270336x1024 : Shape := ⟨2, ![270336, 1024]⟩

abbrev nBuf : Space → Nat
  | .hbm => 153
  | .vmem => 0
  | .smem => 0
  | _ => 0

abbrev hbmTy0_0 (i : Nat) : BufTy := match i % 128 with
  | 0 => ⟨S1056, .i32⟩
  | 1 => ⟨S270336, .i32⟩
  | 2 => ⟨S65536x1024, .f32⟩
  | 3 => ⟨S32x1024x2048, .f32⟩
  | 4 => ⟨S32x2048, .f32⟩
  | 5 => ⟨S32x1024x1024, .f32⟩
  | 6 => ⟨S32x1024, .f32⟩
  | 7 => ⟨S1056x256, .i32⟩
  | 8 => ⟨S_, .i32⟩
  | 9 => ⟨S1056x256, .i32⟩
  | 10 => ⟨S1056x256, .i1⟩
  | 11 => ⟨S_, .i32⟩
  | 12 => ⟨S1056x256, .i32⟩
  | 13 => ⟨S1056x256, .i32⟩
  | 14 => ⟨S1056x256, .i32⟩
  | 15 => ⟨S1056x256x1, .i32⟩
  | 16 => ⟨S1056x256x1024, .f32⟩
  | 17 => ⟨S_, .i32⟩
  | 18 => ⟨S1056, .i32⟩
  | 19 => ⟨S1056, .i1⟩
  | 20 => ⟨S_, .i32⟩
  | 21 => ⟨S1056, .i32⟩
  | 22 => ⟨S1056, .i32⟩
  | 23 => ⟨S1056, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S1056x1, .i32⟩
  | 41 => ⟨S1056x1, .i32⟩
  | 42 => ⟨S1056x1, .i32⟩
  | 43 => ⟨S1056x3, .i32⟩
  | 44 => ⟨S1056x1x1024x2048, .f32⟩
  | 45 => ⟨S1056x1024x2048, .f32⟩
  | 46 => ⟨S1056x256x2048, .f32⟩
  | 47 => ⟨S_, .i32⟩
  | 48 => ⟨S1056, .i32⟩
  | 49 => ⟨S1056, .i1⟩
  | 50 => ⟨S_, .i32⟩
  | 51 => ⟨S1056, .i32⟩
  | 52 => ⟨S1056, .i32⟩
  | 53 => ⟨S1056, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S1056x1, .i32⟩
  | 63 => ⟨S1056x1, .i32⟩
  | 64 => ⟨S1056x2, .i32⟩
  | 65 => ⟨S1056x1x2048, .f32⟩
  | 66 => ⟨S1056x2048, .f32⟩
  | 67 => ⟨S1056x1x2048, .f32⟩
  | 68 => ⟨S1056x256x2048, .f32⟩
  | 69 => ⟨S1056x256x2048, .f32⟩
  | 70 => ⟨S1056x256x1024, .f32⟩
  | 71 => ⟨S_, .f32⟩
  | 72 => ⟨S1056x256x1024, .f32⟩
  | 73 => ⟨S1056x256x1024, .f32⟩
  | 74 => ⟨S1056x256x1024, .f32⟩
  | 75 => ⟨S_, .f32⟩
  | 76 => ⟨S_, .f32⟩
  | 77 => ⟨S_, .f32⟩
  | 78 => ⟨S1056x256x1024, .f32⟩
  | 79 => ⟨S1056x256x1024, .f32⟩
  | 80 => ⟨S_, .f32⟩
  | 81 => ⟨S1056x256x1024, .f32⟩
  | 82 => ⟨S1056x256x1024, .f32⟩
  | 83 => ⟨S_, .f32⟩
  | 84 => ⟨S1056x256x1024, .f32⟩
  | 85 => ⟨S1056x256x1024, .f32⟩
  | 86 => ⟨S1056x256x1024, .f32⟩
  | 87 => ⟨S1056x256x1024, .f32⟩
  | 88 => ⟨S_, .f32⟩
  | 89 => ⟨S1056x256x1024, .f32⟩
  | 90 => ⟨S1056x256x1024, .f32⟩
  | 91 => ⟨S_, .f32⟩
  | 92 => ⟨S1056x256x1024, .f32⟩
  | 93 => ⟨S1056x256x1024, .f32⟩
  | 94 => ⟨S1056x256x1024, .f32⟩
  | 95 => ⟨S_, .f32⟩
  | 96 => ⟨S1056x256x1024, .f32⟩
  | 97 => ⟨S1056x256x1024, .f32⟩
  | 98 => ⟨S1056x256x1024, .f32⟩
  | 99 => ⟨S_, .i32⟩
  | 100 => ⟨S1056, .i32⟩
  | 101 => ⟨S1056, .i1⟩
  | 102 => ⟨S_, .i32⟩
  | 103 => ⟨S1056, .i32⟩
  | 104 => ⟨S1056, .i32⟩
  | 105 => ⟨S1056, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S1056x1, .i32⟩
  | 123 => ⟨S1056x1, .i32⟩
  | 124 => ⟨S1056x1, .i32⟩
  | 125 => ⟨S1056x3, .i32⟩
  | 126 => ⟨S1056x1x1024x1024, .f32⟩
  | 127 => ⟨S1056x1024x1024, .f32⟩
  | _ => ⟨S1056, .i32⟩

abbrev hbmTy0_1 (i : Nat) : BufTy := match i % 128 with
  | 0 => ⟨S1056x256x1024, .f32⟩
  | 1 => ⟨S_, .i32⟩
  | 2 => ⟨S1056, .i32⟩
  | 3 => ⟨S1056, .i1⟩
  | 4 => ⟨S_, .i32⟩
  | 5 => ⟨S1056, .i32⟩
  | 6 => ⟨S1056, .i32⟩
  | 7 => ⟨S1056, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S1056x1, .i32⟩
  | 17 => ⟨S1056x1, .i32⟩
  | 18 => ⟨S1056x2, .i32⟩
  | 19 => ⟨S1056x1x1024, .f32⟩
  | 20 => ⟨S1056x1024, .f32⟩
  | 21 => ⟨S1056x1x1024, .f32⟩
  | 22 => ⟨S1056x256x1024, .f32⟩
  | 23 => ⟨S1056x256x1024, .f32⟩
  | 24 => ⟨S270336x1024, .f32⟩
  | _ => ⟨S1056, .i32⟩

abbrev hbmTy (i : Nat) : BufTy := match i / 128 with
  | 0 => hbmTy0_0 i
  | 1 => hbmTy0_1 i
  | _ => ⟨S1056, .i32⟩

abbrev bufTy : (tb : Table) → Fin (tcTables nBuf tb) → BufTy
  | .hbm, ⟨i, _⟩ => hbmTy i
  | _, _ => ⟨S1056, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_c_4 : Ref sig .tc := ⟨.hbm, 25, rfl⟩
abbrev main_v13 : Ref sig .tc := ⟨.hbm, 26, rfl⟩
abbrev main_c_5 : Ref sig .tc := ⟨.hbm, 27, rfl⟩
abbrev main_c_6 : Ref sig .tc := ⟨.hbm, 28, rfl⟩
abbrev main_v14 : Ref sig .tc := ⟨.hbm, 29, rfl⟩
abbrev main_c_7 : Ref sig .tc := ⟨.hbm, 30, rfl⟩
abbrev main_v15 : Ref sig .tc := ⟨.hbm, 31, rfl⟩
abbrev main_c_8 : Ref sig .tc := ⟨.hbm, 32, rfl⟩
abbrev main_c_9 : Ref sig .tc := ⟨.hbm, 33, rfl⟩
abbrev main_v16 : Ref sig .tc := ⟨.hbm, 34, rfl⟩
abbrev main_c_10 : Ref sig .tc := ⟨.hbm, 35, rfl⟩
abbrev main_c_11 : Ref sig .tc := ⟨.hbm, 36, rfl⟩
abbrev main_v17 : Ref sig .tc := ⟨.hbm, 37, rfl⟩
abbrev main_c_12 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_13 : Ref sig .tc := ⟨.hbm, 47, rfl⟩
abbrev main_v26 : Ref sig .tc := ⟨.hbm, 48, rfl⟩
abbrev main_v27 : Ref sig .tc := ⟨.hbm, 49, rfl⟩
abbrev main_c_14 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_15 : Ref sig .tc := ⟨.hbm, 54, rfl⟩
abbrev main_c_16 : Ref sig .tc := ⟨.hbm, 55, rfl⟩
abbrev main_v31 : Ref sig .tc := ⟨.hbm, 56, rfl⟩
abbrev main_c_17 : Ref sig .tc := ⟨.hbm, 57, rfl⟩
abbrev main_c_18 : Ref sig .tc := ⟨.hbm, 58, rfl⟩
abbrev main_v32 : Ref sig .tc := ⟨.hbm, 59, rfl⟩
abbrev main_c_19 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_20 : Ref sig .tc := ⟨.hbm, 75, rfl⟩
abbrev main_cst_21 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_v46 : Ref sig .tc := ⟨.hbm, 82, rfl⟩
abbrev main_cst_22 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_23 : Ref sig .tc := ⟨.hbm, 88, rfl⟩
abbrev main_v51 : Ref sig .tc := ⟨.hbm, 89, rfl⟩
abbrev main_v52 : Ref sig .tc := ⟨.hbm, 90, rfl⟩
abbrev main_cst_24 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_25 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_26 : Ref sig .tc := ⟨.hbm, 99, rfl⟩
abbrev main_v59 : Ref sig .tc := ⟨.hbm, 100, rfl⟩
abbrev main_v60 : Ref sig .tc := ⟨.hbm, 101, rfl⟩
abbrev main_c_27 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_28 : Ref sig .tc := ⟨.hbm, 106, rfl⟩
abbrev main_c_29 : Ref sig .tc := ⟨.hbm, 107, rfl⟩
abbrev main_v64 : Ref sig .tc := ⟨.hbm, 108, rfl⟩
abbrev main_c_30 : Ref sig .tc := ⟨.hbm, 109, rfl⟩
abbrev main_c_31 : Ref sig .tc := ⟨.hbm, 110, rfl⟩
abbrev main_v65 : Ref sig .tc := ⟨.hbm, 111, rfl⟩
abbrev main_c_32 : Ref sig .tc := ⟨.hbm, 112, rfl⟩
abbrev main_v66 : Ref sig .tc := ⟨.hbm, 113, rfl⟩
abbrev main_c_33 : Ref sig .tc := ⟨.hbm, 114, rfl⟩
abbrev main_c_34 : Ref sig .tc := ⟨.hbm, 115, rfl⟩
abbrev main_v67 : Ref sig .tc := ⟨.hbm, 116, rfl⟩
abbrev main_c_35 : Ref sig .tc := ⟨.hbm, 117, rfl⟩
abbrev main_c_36 : Ref sig .tc := ⟨.hbm, 118, rfl⟩
abbrev main_v68 : Ref sig .tc := ⟨.hbm, 119, rfl⟩
abbrev main_c_37 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_38 : Ref sig .tc := ⟨.hbm, 129, rfl⟩
abbrev main_v77 : Ref sig .tc := ⟨.hbm, 130, rfl⟩
abbrev main_v78 : Ref sig .tc := ⟨.hbm, 131, rfl⟩
abbrev main_c_39 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_40 : Ref sig .tc := ⟨.hbm, 136, rfl⟩
abbrev main_c_41 : Ref sig .tc := ⟨.hbm, 137, rfl⟩
abbrev main_v82 : Ref sig .tc := ⟨.hbm, 138, rfl⟩
abbrev main_c_42 : Ref sig .tc := ⟨.hbm, 139, rfl⟩
abbrev main_c_43 : Ref sig .tc := ⟨.hbm, 140, rfl⟩
abbrev main_v83 : Ref sig .tc := ⟨.hbm, 141, rfl⟩
abbrev main_c_44 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩

abbrev nD : Nat := 1
abbrev τ : Topo := Topo.v7x

variable {F : FTy → Type} [FloatOps F]
-- ==== InKernel.lean ====
abbrev S16x4096x1024 : Shape := ⟨3, ![16, 4096, 1024]⟩
abbrev S1024 : Shape := ⟨1, ![1024]⟩
abbrev S16x1x1024 : Shape := ⟨3, ![16, 1, 1024]⟩
abbrev S1024x2560 : Shape := ⟨2, ![1024, 2560]⟩
abbrev S512x1024 : Shape := ⟨2, ![512, 1024]⟩
abbrev S1x1024 : Shape := ⟨2, ![1, 1024]⟩
abbrev S16x4096x2048 : Shape := ⟨3, ![16, 4096, 2048]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S1024x512 : Shape := ⟨2, ![1024, 512]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S16x1x1024, .f32⟩
  | .hbm, ⟨4, _⟩ => ⟨S16x1x1024, .f32⟩
  | .hbm, ⟨5, _⟩ => ⟨S1024x2560, .f32⟩
  | .hbm, ⟨6, _⟩ => ⟨S512x1024, .f32⟩
  | .hbm, ⟨7, _⟩ => ⟨S1x1024, .f32⟩
  | .hbm, ⟨8, _⟩ => ⟨S1x1024, .f32⟩
  | .hbm, ⟨9, _⟩ => ⟨S1024x2560, .bf16⟩
  | .hbm, ⟨10, _⟩ => ⟨S512x1024, .bf16⟩
  | .hbm, ⟨11, _⟩ => ⟨S16x4096x2048, .f32⟩
  | .hbm, ⟨12, _⟩ => ⟨S16x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2560, .bf16⟩
  | .local _ .vmem, ⟨9, _⟩ => ⟨S512x1024, .bf16⟩
  | .local _ .vmem, ⟨10, _⟩ => ⟨S1x512x2048, .f32⟩
  | .local _ .vmem, ⟨11, _⟩ => ⟨S1x512x2048, .f32⟩
  | .local _ .vmem, ⟨12, _⟩ => ⟨S1x512x1024, .bf16⟩
  | .local _ .vmem, ⟨13, _⟩ => ⟨S1x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InReferenceIdeal.lean ====
abbrev S16x4096x1024 : Shape := ⟨3, ![16, 4096, 1024]⟩
abbrev S1024 : Shape := ⟨1, ![1024]⟩
abbrev S16x1x1024 : Shape := ⟨3, ![16, 1, 1024]⟩
abbrev S1024x2560 : Shape := ⟨2, ![1024, 2560]⟩
abbrev S512x1024 : Shape := ⟨2, ![512, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2560 : Shape := ⟨3, ![16, 4096, 2560]⟩
abbrev S16x4096x2048 : Shape := ⟨3, ![16, 4096, 2048]⟩
abbrev S16x4096x512 : Shape := ⟨3, ![16, 4096, 512]⟩

abbrev nBuf : Space → Nat
  | .hbm => 48
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S16x1x1024, .f32⟩
  | .hbm, ⟨4, _⟩ => ⟨S16x1x1024, .f32⟩
  | .hbm, ⟨5, _⟩ => ⟨S1024x2560, .f32⟩
  | .hbm, ⟨6, _⟩ => ⟨S512x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S_, .f32⟩
  | .hbm, ⟨20, _⟩ => ⟨S16x4096x1, .f32⟩
  | .hbm, ⟨21, _⟩ => ⟨S16x4096x1, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1, .f32⟩
  | .hbm, ⟨28, _⟩ => ⟨S16x4096x1024, .f32⟩
  | .hbm, ⟨29, _⟩ => ⟨S16x4096x1024, .f32⟩
  | .hbm, ⟨30, _⟩ => ⟨S1x1x1024, .f32⟩
  | .hbm, ⟨31, _⟩ => ⟨S16x4096x1024, .f32⟩
  | .hbm, ⟨32, _⟩ => ⟨S16x4096x1024, .f32⟩
  | .hbm, ⟨33, _⟩ => ⟨S1x1x1024, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x1x1024, .f32⟩
  | .hbm, ⟨38, _⟩ => ⟨S16x1x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S16x4096x2560, .f32⟩
  | .hbm, ⟨44, _⟩ => ⟨S16x4096x2048, .f32⟩
  | .hbm, ⟨45, _⟩ => ⟨S16x4096x512, .f32⟩
  | .hbm, ⟨46, _⟩ => ⟨S16x4096x1024, .f32⟩
  | .hbm, ⟨47, _⟩ => ⟨S16x4096x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== OutKernel.lean ====
abbrev S4x65536 : Shape := ⟨2, ![4, 65536]⟩
abbrev S270336x1024 : Shape := ⟨2, ![270336, 1024]⟩
abbrev S16x4096x1024 : Shape := ⟨3, ![16, 4096, 1024]⟩
abbrev S16x1x1024 : Shape := ⟨3, ![16, 1, 1024]⟩
abbrev S1024 : Shape := ⟨1, ![1024]⟩
abbrev S65536x4 : Shape := ⟨2, ![65536, 4]⟩
abbrev S1x1024 : Shape := ⟨2, ![1, 1024]⟩
abbrev S4x512x128 : Shape := ⟨3, ![4, 512, 128]⟩
abbrev S512x4x128 : Shape := ⟨3, ![512, 4, 128]⟩
abbrev S512x1x512 : Shape := ⟨3, ![512, 1, 512]⟩
abbrev S1x1x512 : Shape := ⟨3, ![1, 1, 512]⟩
abbrev S128x4 : Shape := ⟨2, ![128, 4]⟩
abbrev S1x128x1024 : Shape := ⟨3, ![1, 128, 1024]⟩
abbrev S1x1x1024 : Shape := ⟨3, ![1, 1, 1024]⟩
abbrev S2x512x1024 : Shape := ⟨3, ![2, 512, 1024]⟩
abbrev S2 : Shape := ⟨1, ![2]⟩
abbrev S1x1x1 : Shape := ⟨3, ![1, 1, 1]⟩
abbrev S1 : Shape := ⟨1, ![1]⟩
abbrev S_ : Shape := ⟨0, ![]⟩
abbrev S128x1 : Shape := ⟨2, ![128, 1]⟩
abbrev S128x1024 : Shape := ⟨2, ![128, 1024]⟩
abbrev S128 : Shape := ⟨1, ![128]⟩

abbrev nBuf : Space → Nat
  | .hbm => 14
  | .vmem => 11
  | .smem => 4
  | _ => 0

abbrev bufTy : (tb : Table) → Fin (tcTables nBuf tb) → BufTy
  | .hbm, ⟨0, _⟩ => ⟨S4x65536, .i32⟩
  | .hbm, ⟨1, _⟩ => ⟨S270336x1024, .f32⟩
  | .hbm, ⟨2, _⟩ => ⟨S4x65536, .f32⟩
  | .hbm, ⟨3, _⟩ => ⟨S16x4096x1024, .f32⟩
  | .hbm, ⟨4, _⟩ => ⟨S16x1x1024, .f32⟩
  | .hbm, ⟨5, _⟩ => ⟨S1024, .f32⟩
  | .hbm, ⟨6, _⟩ => ⟨S1024, .f32⟩
  | .hbm, ⟨7, _⟩ => ⟨S65536x4, .f32⟩
  | .hbm, ⟨8, _⟩ => ⟨S1x1024, .f32⟩
  | .hbm, ⟨9, _⟩ => ⟨S1x1024, .f32⟩
  | .hbm, ⟨10, _⟩ => ⟨S4x512x128, .i32⟩
  | .hbm, ⟨11, _⟩ => ⟨S512x4x128, .i32⟩
  | .hbm, ⟨12, _⟩ => ⟨S512x1x512, .i32⟩
  | .hbm, ⟨13, _⟩ => ⟨S16x4096x1024, .f32⟩
  | .local _ .vmem, ⟨0, _⟩ => ⟨S128x4, .f32⟩
  | .local _ .vmem, ⟨1, _⟩ => ⟨S128x4, .f32⟩
  | .local _ .vmem, ⟨2, _⟩ => ⟨S1x128x1024, .f32⟩
  | .local _ .vmem, ⟨3, _⟩ => ⟨S1x128x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x128x1024, .f32⟩
  | .local _ .vmem, ⟨9, _⟩ => ⟨S1x128x1024, .f32⟩
  | .local _ .vmem, ⟨10, _⟩ => ⟨S2x512x1024, .f32⟩
  | .local _ .smem, ⟨0, _⟩ => ⟨S1x1x512, .i32⟩
  | .local _ .smem, ⟨1, _⟩ => ⟨S1x1x512, .i32⟩
  | .local _ .smem, ⟨2, _⟩ => ⟨S1x1x512, .i32⟩
  | .local _ .smem, ⟨3, _⟩ => ⟨S1x1x512, .i32⟩
  | _, _ => ⟨S4x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 32], ![false, false]⟩

def k0_cond1 (i : grid0.Coords) : BitVec 1 :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c0_i32_3 : BitVec 32 := 0#32
  let v12 : BitVec 1 := Scalar.cmpi .eq v1 c0_i32_3
  let v13 : BitVec 32 := Scalar.extui v12
  let c0_i32_4 : BitVec 32 := 0#32
  let v14 : BitVec 1 := Scalar.cmpi .ne v13 c0_i32_4
  v14

@[reducible] def k0_t1_loop : Scf.Loop 32 :=
  let c0_i32_35 : BitVec 32 := 0#32
  let c512_i32_36 : BitVec 32 := 512#32
  let v85 : BitVec 32 := Scalar.addi c0_i32_35 c512_i32_36
  let c1_i32_37 : BitVec 32 := 1#32
  ⟨c0_i32_35, v85, c1_i32_37⟩
def k0_off1 (k0_t1 : Fin k0_t1_loop.trips) : Fin 3 → Nat :=
  let c0_39 : Index := 0#32
  let c0_40 : Index := 0#32
  let c0_i32_35 : BitVec 32 := 0#32
  let c1_i32_37 : BitVec 32 := 1#32
  let arg13 : BitVec 32 := Scf.iv c0_i32_35 c1_i32_37 k0_t1
  let v86 : Index := Scalar.indexCast arg13
  ![0, 0, v86.toNat]
def k0_off2 (k0_t1 : Fin k0_t1_loop.trips) : Fin 3 → Nat :=
  let c0_i32_41 : BitVec 32 := 0#32
  let c0_i32_35 : BitVec 32 := 0#32
  let c1_i32_37 : BitVec 32 := 1#32
  let arg13 : BitVec 32 := Scf.iv c0_i32_35 c1_i32_37 k0_t1
  let c0_i32_43 : BitVec 32 := 0#32
  ![0, arg13.toNat, 0]
def k0_off3 (v87 : BitVec 32) : Fin 2 → Nat :=
  let c0_i32_44 : BitVec 32 := 0#32
  ![v87.toNat, 0]

def k0_chk1 (i : grid0.Coords) (v87 : BitVec 32) : Prop :=
  (∀ (k0_h1 : k0_cond1 i = 1#1), ∀ a, (k0_off3 v87) a + S1x1024.size a ≤ S270336x1024.size a)
theorem k0_off3_inb : ∀ (i : grid0.Coords) (v87 : BitVec 32) (k0_hw1 : k0_chk1 i v87), ∀ (k0_h1 : k0_cond1 i = 1#1), ∀ a, (k0_off3 v87) a + S1x1024.size a ≤ S270336x1024.size a := fun i v87 k0_hw1 k0_h1 => k0_hw1 k0_h1

def k0_cond2 (i : grid0.Coords) : BitVec 1 :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_5 : BitVec 32 := 1#32
  let v15 : BitVec 32 := Scalar.addi v1 c1_i32_5
  let c512_i32 : BitVec 32 := 512#32
  let v16 : BitVec 1 := Scalar.cmpi .slt v15 c512_i32
  let v17 : BitVec 32 := Scalar.extui v16
  let c0_i32_6 : BitVec 32 := 0#32
  let v18 : BitVec 1 := Scalar.cmpi .ne v17 c0_i32_6
  v18

@[reducible] def k0_t2_loop : Scf.Loop 32 :=
  let c0_i32_36 : BitVec 32 := 0#32
  let c512_i32_37 : BitVec 32 := 512#32
  let v86 : BitVec 32 := Scalar.addi c0_i32_36 c512_i32_37
  let c1_i32_38 : BitVec 32 := 1#32
  ⟨c0_i32_36, v86, c1_i32_38⟩
def k0_off4 (k0_t2 : Fin k0_t2_loop.trips) : Fin 3 → Nat :=
  let c0_40 : Index := 0#32
  let c0_41 : Index := 0#32
  let c0_i32_36 : BitVec 32 := 0#32
  let c1_i32_38 : BitVec 32 := 1#32
  let arg13 : BitVec 32 := Scf.iv c0_i32_36 c1_i32_38 k0_t2
  let v87 : Index := Scalar.indexCast arg13
  ![0, 0, v87.toNat]
def k0_off5 (i : grid0.Coords) : Fin 1 → Nat :=
  let c1_i32_35 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v85 : BitVec 32 := Scalar.subi c1_i32_35 v11
  ![v85.toNat]
def k0_off6 (i : grid0.Coords) (k0_t2 : Fin k0_t2_loop.trips) : Fin 3 → Nat :=
  let c1_i32_35 : BitVec 32 := 1#32
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v85 : BitVec 32 := Scalar.subi c1_i32_35 v11
  let c0_i32_36 : BitVec 32 := 0#32
  let c1_i32_38 : BitVec 32 := 1#32
  let arg13 : BitVec 32 := Scf.iv c0_i32_36 c1_i32_38 k0_t2
  let c0_i32_42 : BitVec 32 := 0#32
  ![v85.toNat, arg13.toNat, 0]
def k0_off7 (v88 : BitVec 32) : Fin 2 → Nat :=
  let c0_i32_43 : BitVec 32 := 0#32
  ![v88.toNat, 0]

def k0_chk2 (i : grid0.Coords) (v88 : BitVec 32) : Prop :=
  (∀ (k0_h2 : k0_cond2 i = 1#1), ∀ a, (k0_off7 v88) a + S1x1024.size a ≤ S270336x1024.size a)
theorem k0_off7_inb : ∀ (i : grid0.Coords) (v88 : BitVec 32) (k0_hw2 : k0_chk2 i v88), ∀ (k0_h2 : k0_cond2 i = 1#1), ∀ a, (k0_off7 v88) a + S1x1024.size a ≤ S270336x1024.size a := fun i v88 k0_hw2 k0_h2 => k0_hw2 k0_h2

@[reducible] def k0_t3_loop : Scf.Loop 32 :=
  let c0_i32_7 : BitVec 32 := 0#32
  let c512_i32_8 : BitVec 32 := 512#32
  let v19 : BitVec 32 := Scalar.addi c0_i32_7 c512_i32_8
  let c1_i32_9 : BitVec 32 := 1#32
  ⟨c0_i32_7, v19, c1_i32_9⟩
def k0_off8 (i : grid0.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off9 (i : grid0.Coords) (k0_t3 : Fin k0_t3_loop.trips) : Fin 3 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_7 : BitVec 32 := 0#32
  let c1_i32_9 : BitVec 32 := 1#32
  let arg13 : BitVec 32 := Scf.iv c0_i32_7 c1_i32_9 k0_t3
  let c0_i32_35 : BitVec 32 := 0#32
  ![v11.toNat, arg13.toNat, 0]
def k0_off10 (i : grid0.Coords) : Fin 3 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v23 : Index := Scalar.indexCast v11
  let c0_12 : Index := 0#32
  let c0_13 : Index := 0#32
  ![v23.toNat, 0, 0]
def k0_off11 (i : grid0.Coords) : Fin 3 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v29 : Index := Scalar.indexCast v11
  let c128 : Index := 128#32
  let c0_14 : Index := 0#32
  ![v29.toNat, 128, 0]
def k0_off12 (i : grid0.Coords) : Fin 3 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v36 : Index := Scalar.indexCast v11
  let c256 : Index := 256#32
  let c0_15 : Index := 0#32
  ![v36.toNat, 256, 0]
def k0_off13 (i : grid0.Coords) : Fin 3 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v43 : Index := Scalar.indexCast v11
  let c384 : Index := 384#32
  let c0_16 : Index := 0#32
  ![v43.toNat, 384, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.addi v1 c1_i32
  let c511_i32 : BitVec 32 := 511#32
  let v3 : BitVec 32 := Scalar.minsi v2 c511_i32
  let c0_i32 : BitVec 32 := 0#32
  let c0_i32_0 : BitVec 32 := 0#32
  let c0_i32_1 : BitVec 32 := 0#32
  ![v3.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutReferenceIdeal.lean ====
abbrev S4x65536 : Shape := ⟨2, ![4, 65536]⟩
abbrev S270336x1024 : Shape := ⟨2, ![270336, 1024]⟩
abbrev S16x4096x1024 : Shape := ⟨3, ![16, 4096, 1024]⟩
abbrev S16x1x1024 : Shape := ⟨3, ![16, 1, 1024]⟩
abbrev S1024 : Shape := ⟨1, ![1024]⟩
abbrev S4x65536x1 : Shape := ⟨3, ![4, 65536, 1]⟩
abbrev S_ : Shape := ⟨0, ![]⟩
abbrev S4x65536x1024 : Shape := ⟨3, ![4, 65536, 1024]⟩
abbrev S65536x1024 : Shape := ⟨2, ![65536, 1024]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x65536, .i32⟩
  | .hbm, ⟨1, _⟩ => ⟨S270336x1024, .f32⟩
  | .hbm, ⟨2, _⟩ => ⟨S4x65536, .f32⟩
  | .hbm, ⟨3, _⟩ => ⟨S16x4096x1024, .f32⟩
  | .hbm, ⟨4, _⟩ => ⟨S16x1x1024, .f32⟩
  | .hbm, ⟨5, _⟩ => ⟨S1024, .f32⟩
  | .hbm, ⟨6, _⟩ => ⟨S1024, .f32⟩
  | .hbm, ⟨7, _⟩ => ⟨S4x65536x1, .f32⟩
  | .hbm, ⟨8, _⟩ => ⟨S_, .i32⟩
  | .hbm, ⟨9, _⟩ => ⟨S4x65536, .i32⟩
  | .hbm, ⟨10, _⟩ => ⟨S4x65536, .i1⟩
  | .hbm, ⟨11, _⟩ => ⟨S_, .i32⟩
  | .hbm, ⟨12, _⟩ => ⟨S4x65536, .i32⟩
  | .hbm, ⟨13, _⟩ => ⟨S4x65536, .i32⟩
  | .hbm, ⟨14, _⟩ => ⟨S4x65536, .i32⟩
  | .hbm, ⟨15, _⟩ => ⟨S4x65536x1, .i32⟩
  | .hbm, ⟨16, _⟩ => ⟨S4x65536x1024, .f32⟩
  | .hbm, ⟨17, _⟩ => ⟨S4x65536x1024, .f32⟩
  | .hbm, ⟨18, _⟩ => ⟨S4x65536x1024, .f32⟩
  | .hbm, ⟨19, _⟩ => ⟨S_, .f32⟩
  | .hbm, ⟨20, _⟩ => ⟨S65536x1024, .f32⟩
  | .hbm, ⟨21, _⟩ => ⟨S16x4096x1024, .f32⟩
  | .hbm, ⟨22, _⟩ => ⟨S_, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S_, .f32⟩
  | .hbm, ⟨32, _⟩ => ⟨S16x4096x1, .f32⟩
  | .hbm, ⟨33, _⟩ => ⟨S16x4096x1, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S_, .f32⟩
  | .hbm, ⟨41, _⟩ => ⟨S16x4096x1, .f32⟩
  | .hbm, ⟨42, _⟩ => ⟨S16x4096x1, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096x1, .f32⟩
  | .hbm, ⟨47, _⟩ => ⟨S16x4096x1, .f32⟩
  | .hbm, ⟨48, _⟩ => ⟨S16x4096x1, .f32⟩
  | .hbm, ⟨49, _⟩ => ⟨S16x4096x1024, .f32⟩
  | .hbm, ⟨50, _⟩ => ⟨S16x4096x1024, .f32⟩
  | .hbm, ⟨51, _⟩ => ⟨S1x1x1024, .f32⟩
  | .hbm, ⟨52, _⟩ => ⟨S16x4096x1024, .f32⟩
  | .hbm, ⟨53, _⟩ => ⟨S16x4096x1024, .f32⟩
  | .hbm, ⟨54, _⟩ => ⟨S1x1x1024, .f32⟩
  | .hbm, ⟨55, _⟩ => ⟨S16x4096x1024, .f32⟩
  | .hbm, ⟨56, _⟩ => ⟨S16x4096x1024, .f32⟩
  | _, _ => ⟨S4x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== ProjKernel.lean ====
abbrev S16x4096x1024 : Shape := ⟨3, ![16, 4096, 1024]⟩
abbrev S16x4096x512 : Shape := ⟨3, ![16, 4096, 512]⟩
abbrev S16x6x1x1024 : Shape := ⟨4, ![16, 6, 1, 1024]⟩
abbrev S1024 : Shape := ⟨1, ![1024]⟩
abbrev S8x64x64 : Shape := ⟨3, ![8, 64, 64]⟩
abbrev S8x64 : Shape := ⟨2, ![8, 64]⟩
abbrev S1024x1024 : Shape := ⟨2, ![1024, 1024]⟩
abbrev S1024x32 : Shape := ⟨2, ![1024, 32]⟩
abbrev S32 : Shape := ⟨1, ![32]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x1024 : Shape := ⟨2, ![1, 1024]⟩
abbrev S1x512 : Shape := ⟨2, ![1, 512]⟩
abbrev S32x1024 : Shape := ⟨2, ![32, 1024]⟩
abbrev S32x1 : Shape := ⟨2, ![32, 1]⟩
abbrev S8x65536 : Shape := ⟨2, ![8, 65536]⟩
abbrev S4x65536 : Shape := ⟨2, ![4, 65536]⟩
abbrev S32x128 : Shape := ⟨2, ![32, 128]⟩
abbrev S1x512x1024 : Shape := ⟨3, ![1, 512, 1024]⟩
abbrev S1x512x512 : Shape := ⟨3, ![1, 512, 512]⟩
abbrev S1x6x1x1024 : Shape := ⟨4, ![1, 6, 1, 1024]⟩
abbrev S8x512 : Shape := ⟨2, ![8, 512]⟩
abbrev S4x512 : Shape := ⟨2, ![4, 512]⟩
abbrev S6x1x1024 : Shape := ⟨3, ![6, 1, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S32x512 : Shape := ⟨2, ![32, 512]⟩

abbrev nBuf : Space → Nat
  | .hbm => 53
  | .vmem => 30
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S16x6x1x1024, .f32⟩
  | .hbm, ⟨5, _⟩ => ⟨S1024, .f32⟩
  | .hbm, ⟨6, _⟩ => ⟨S1024, .f32⟩
  | .hbm, ⟨7, _⟩ => ⟨S8x64x64, .f32⟩
  | .hbm, ⟨8, _⟩ => ⟨S8x64, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x32, .f32⟩
  | .hbm, ⟨13, _⟩ => ⟨S32, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S8x1x8x1, .f32⟩
  | .hbm, ⟨22, _⟩ => ⟨S8x64x1x64, .f32⟩
  | .hbm, ⟨23, _⟩ => ⟨S8x64x8x64, .f32⟩
  | .hbm, ⟨24, _⟩ => ⟨S8x64x8x64, .f32⟩
  | .hbm, ⟨25, _⟩ => ⟨S8x64x8x64, .f32⟩
  | .hbm, ⟨26, _⟩ => ⟨S512x512, .f32⟩
  | .hbm, ⟨27, _⟩ => ⟨S512x512, .bf16⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x512, .f32⟩
  | .hbm, ⟨33, _⟩ => ⟨S1024x1024, .bf16⟩
  | .hbm, ⟨34, _⟩ => ⟨S32x1024, .f32⟩
  | .hbm, ⟨35, _⟩ => ⟨S32x1, .f32⟩
  | .hbm, ⟨36, _⟩ => ⟨S_, .f32⟩
  | .hbm, ⟨37, _⟩ => ⟨S512x512, .f32⟩
  | .hbm, ⟨38, _⟩ => ⟨S512x512, .i32⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S512x512, .bf16⟩
  | .hbm, ⟨48, _⟩ => ⟨S16x4096x1024, .f32⟩
  | .hbm, ⟨49, _⟩ => ⟨S16x4096x1024, .f32⟩
  | .hbm, ⟨50, _⟩ => ⟨S8x65536, .i32⟩
  | .hbm, ⟨51, _⟩ => ⟨S4x65536, .f32⟩
  | .hbm, ⟨52, _⟩ => ⟨S32x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x6x1x1024, .f32⟩
  | .local _ .vmem, ⟨9, _⟩ => ⟨S1x6x1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x512, .bf16⟩
  | .local _ .vmem, ⟨15, _⟩ => ⟨S1x512, .f32⟩
  | .local _ .vmem, ⟨16, _⟩ => ⟨S1024x1024, .bf16⟩
  | .local _ .vmem, ⟨17, _⟩ => ⟨S32x1024, .f32⟩
  | .local _ .vmem, ⟨18, _⟩ => ⟨S32x1, .f32⟩
  | .local _ .vmem, ⟨19, _⟩ => ⟨S512x512, .bf16⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S8x512, .i32⟩
  | .local _ .vmem, ⟨25, _⟩ => ⟨S8x512, .i32⟩
  | .local _ .vmem, ⟨26, _⟩ => ⟨S4x512, .f32⟩
  | .local _ .vmem, ⟨27, _⟩ => ⟨S4x512, .f32⟩
  | .local _ .vmem, ⟨28, _⟩ => ⟨S32x128, .f32⟩
  | .local _ .vmem, ⟨29, _⟩ => ⟨S32x1, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_cst : Ref sig .tc := ⟨.hbm, 44, rfl⟩
abbrev main_call0_v5 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_v24_2 : Ref sig .tc := ⟨.hbm, 50, rfl⟩
abbrev main_v24_3 : Ref sig .tc := ⟨.hbm, 51, rfl⟩
abbrev main_v24_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S8x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S4x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S32x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]
-- ==== ProjReferenceIdeal.lean ====
abbrev S16x4096x1024 : Shape := ⟨3, ![16, 4096, 1024]⟩
abbrev S16x4096x512 : Shape := ⟨3, ![16, 4096, 512]⟩
abbrev S16x6x1x1024 : Shape := ⟨4, ![16, 6, 1, 1024]⟩
abbrev S1024 : Shape := ⟨1, ![1024]⟩
abbrev S8x64x64 : Shape := ⟨3, ![8, 64, 64]⟩
abbrev S8x64 : Shape := ⟨2, ![8, 64]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x8x64 : Shape := ⟨4, ![16, 4096, 8, 64]⟩
abbrev S8x64x16x4096 : Shape := ⟨4, ![8, 64, 16, 4096]⟩
abbrev S1x1x8x64 : Shape := ⟨4, ![1, 1, 8, 64]⟩
abbrev S16x1x1x1024 : Shape := ⟨4, ![16, 1, 1, 1024]⟩
abbrev S16x1x1024 : Shape := ⟨3, ![16, 1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S16x6x1x1024, .f32⟩
  | .hbm, ⟨5, _⟩ => ⟨S1024, .f32⟩
  | .hbm, ⟨6, _⟩ => ⟨S1024, .f32⟩
  | .hbm, ⟨7, _⟩ => ⟨S8x64x64, .f32⟩
  | .hbm, ⟨8, _⟩ => ⟨S8x64, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x32, .f32⟩
  | .hbm, ⟨13, _⟩ => ⟨S32, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x4096x1, .f32⟩
  | .hbm, ⟨33, _⟩ => ⟨S16x4096x1, .f32⟩
  | .hbm, ⟨34, _⟩ => ⟨S16x4096x1, .f32⟩
  | .hbm, ⟨35, _⟩ => ⟨S16x4096x1024, .f32⟩
  | .hbm, ⟨36, _⟩ => ⟨S16x4096x1024, .f32⟩
  | .hbm, ⟨37, _⟩ => ⟨S1x1x1024, .f32⟩
  | .hbm, ⟨38, _⟩ => ⟨S16x4096x1024, .f32⟩
  | .hbm, ⟨39, _⟩ => ⟨S16x4096x1024, .f32⟩
  | .hbm, ⟨40, _⟩ => ⟨S1x1x1024, .f32⟩
  | .hbm, ⟨41, _⟩ => ⟨S16x4096x1024, .f32⟩
  | .hbm, ⟨42, _⟩ => ⟨S16x4096x1024, .f32⟩
  | .hbm, ⟨43, _⟩ => ⟨S16x4096x8x64, .f32⟩
  | .hbm, ⟨44, _⟩ => ⟨S8x64x16x4096, .f32⟩
  | .hbm, ⟨45, _⟩ => ⟨S16x4096x8x64, .f32⟩
  | .hbm, ⟨46, _⟩ => ⟨S1x1x8x64, .f32⟩
  | .hbm, ⟨47, _⟩ => ⟨S16x4096x8x64, .f32⟩
  | .hbm, ⟨48, _⟩ => ⟨S16x4096x8x64, .f32⟩
  | .hbm, ⟨49, _⟩ => ⟨S16x4096x512, .f32⟩
  | .hbm, ⟨50, _⟩ => ⟨S16x4096x512, .f32⟩
  | .hbm, ⟨51, _⟩ => ⟨S16x4096x1024, .f32⟩
  | .hbm, ⟨52, _⟩ => ⟨S16x4096x1024, .f32⟩
  | .hbm, ⟨53, _⟩ => ⟨S16x1x1x1024, .f32⟩
  | .hbm, ⟨54, _⟩ => ⟨S16x1x1024, .f32⟩
  | .hbm, ⟨55, _⟩ => ⟨S16x1x1x1024, .f32⟩
  | .hbm, ⟨56, _⟩ => ⟨S16x1x1024, .f32⟩
  | .hbm, ⟨57, _⟩ => ⟨S16x1x1x1024, .f32⟩
  | .hbm, ⟨58, _⟩ => ⟨S16x1x1024, .f32⟩
  | .hbm, ⟨59, _⟩ => ⟨S_, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S_, .f32⟩
  | .hbm, ⟨66, _⟩ => ⟨S16x4096, .f32⟩
  | .hbm, ⟨67, _⟩ => ⟨S16x4096x1, .f32⟩
  | .hbm, ⟨68, _⟩ => ⟨S_, .f32⟩
  | .hbm, ⟨69, _⟩ => ⟨S16x4096x1, .f32⟩
  | .hbm, ⟨70, _⟩ => ⟨S16x4096x1, .f32⟩
  | .hbm, ⟨71, _⟩ => ⟨S16x4096x1024, .f32⟩
  | .hbm, ⟨72, _⟩ => ⟨S16x4096x1024, .f32⟩
  | .hbm, ⟨73, _⟩ => ⟨S16x4096x1024, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S_, .f32⟩
  | .hbm, ⟨78, _⟩ => ⟨S16x4096x1, .f32⟩
  | .hbm, ⟨79, _⟩ => ⟨S16x4096x1, .f32⟩
  | .hbm, ⟨80, _⟩ => ⟨S16x4096x1024, .f32⟩
  | .hbm, ⟨81, _⟩ => ⟨S16x4096x1024, .f32⟩
  | .hbm, ⟨82, _⟩ => ⟨S_, .f32⟩
  | .hbm, ⟨83, _⟩ => ⟨S16x4096x1, .f32⟩
  | .hbm, ⟨84, _⟩ => ⟨S16x4096x1, .f32⟩
  | .hbm, ⟨85, _⟩ => ⟨S16x4096x1, .f32⟩
  | .hbm, ⟨86, _⟩ => ⟨S16x4096x1024, .f32⟩
  | .hbm, ⟨87, _⟩ => ⟨S16x4096x1024, .f32⟩
  | .hbm, ⟨88, _⟩ => ⟨S1x1x1024, .f32⟩
  | .hbm, ⟨89, _⟩ => ⟨S16x4096x1024, .f32⟩
  | .hbm, ⟨90, _⟩ => ⟨S16x4096x1024, .f32⟩
  | .hbm, ⟨91, _⟩ => ⟨S1x1x1024, .f32⟩
  | .hbm, ⟨92, _⟩ => ⟨S16x4096x1024, .f32⟩
  | .hbm, ⟨93, _⟩ => ⟨S16x4096x1024, .f32⟩
  | .hbm, ⟨94, _⟩ => ⟨S_, .f32⟩
  | .hbm, ⟨95, _⟩ => ⟨S16x1x1024, .f32⟩
  | .hbm, ⟨96, _⟩ => ⟨S16x1x1024, .f32⟩
  | .hbm, ⟨97, _⟩ => ⟨S16x4096x1024, .f32⟩
  | .hbm, ⟨98, _⟩ => ⟨S16x4096x1024, .f32⟩
  | .hbm, ⟨99, _⟩ => ⟨S16x4096x1024, .f32⟩
  | .hbm, ⟨100, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Proof.InRange.lean ====
/-
  The precondition, read: every expert number is below 32 and every routing word below 65536.
-/
module

public import proofs.«01_k».proof.Proof.Gen.Pre_in_range
public import Idealize.ShloMosaic.Lib.ReduceAll
public import Idealize.ShloMosaic.Lib.Affine

@[expose] public section

namespace Cert.Pre_in_range.Hand

open Idealize.ShloMosaic Idealize.SL.Sem
open Cert.Pre_in_range

/-- A word at or above zero and below `n`, as signed numbers, is below `n` as a number. -/
theorem below (w b : BitVec 32) (hb : b.toNat < 2 ^ 31) (h0 : IntOp.cmpi .sge w 0#32 = 1#1) (h1 : IntOp.cmpi .slt w b = 1#1) : w.toNat < b.toNat := by
  have h0 := IntOp.cmpi_sge.1 h0
  have h1 := IntOp.cmpi_slt.1 h1
  rw [show (0#32 : BitVec 32).toInt = 0 from rfl] at h0
  rw [BitVec.toInt_eq_toNat_cond] at h0 h1
  rw [BitVec.toInt_eq_toNat_cond] at h1
  have := w.isLt
  split at h0 <;> split at h1 <;> omega

variable {F : FTy → Type} [FloatOps F]

/-- The precondition's two ranges. -/
theorem ranges (x0 : IVec S1056 32) (x1 : IVec S270336 32) (x2 : FVec F S65536x1024 .f32) (x3 : FVec F S32x1024x2048 .f32) (x4 : FVec F S32x2048 .f32)
    (x5 : FVec F S32x1024x1024 .f32) (x6 : FVec F S32x1024 .f32) (h : fn x0 x1 x2 x3 x4 x5 x6 = fun _ => 1#1) :
    (∀ i, (x0 i).toNat < 32) ∧ (∀ i, (x1 i).toNat < 65536) := by
  have e := congrFun h (fun a => a.elim0)
  unfold fn at e
  obtain ⟨e0, e1⟩ := IntOp.andi_eq_one.1 e
  constructor
  · intro i
    obtain ⟨a, b⟩ := IntOp.andi_eq_one.1 (Host.reduce_andi_all _ _ _ _ _ e0 i)
    exact below _ 32#32 (by decide) a b
  · intro i
    obtain ⟨a, b⟩ := IntOp.andi_eq_one.1 (Host.reduce_andi_all _ _ _ _ _ e1 i)
    exact below _ 65536#32 (by decide) a b

end Cert.Pre_in_range.Hand

end
-- ==== Proof.Value.Expert.lean ====
/-
  One expert applied to one token, entry by entry: the mathematics both programs compute.
-/
module

public import Idealize.ShloMosaic.Lib.Pointwise

@[expose] public section

noncomputable section

namespace Cert.Bridge

open Idealize.ShloMosaic

/-- Entry `j` of a token's row through the first product and its bias. -/
def up {N : ℕ} (x : Fin 1024 → EReal) (w : Fin 1024 → Fin N → EReal) (b : Fin N → EReal) (j : Fin N) : EReal :=
  (∑ k : Fin 1024, x k * w k j) + b j

/-- The gated activation of a pair of entries: the gate `g` clipped above, the linear part `l` clipped both ways. -/
def act (g l : EReal) : EReal :=
  min g (Ideal.ofBits .f32 0x40E00000#32)
      * Ideal.div (Ideal.ofBits .f32 0x3F800000#32)
          (Ideal.ofBits .f32 0x3F800000#32
            + Ideal.exp (-(Ideal.ofBits .f32 0x3FD9DB23#32 * min g (Ideal.ofBits .f32 0x40E00000#32))))
    * (min (Ideal.ofBits .f32 0x40E00000#32) (max (Ideal.ofBits .f32 0xC0E00000#32) l)
        + Ideal.ofBits .f32 0x3F800000#32)

/-- Column `2 k` of the first product: the gate of hidden unit `k`. -/
def gateCol (k : Fin 1024) : Fin 2048 := ⟨2 * k.val, by omega⟩

/-- Column `1 + 2 k` of the first product: the linear part of hidden unit `k`. -/
def linCol (k : Fin 1024) : Fin 2048 := ⟨1 + 2 * k.val, by omega⟩

/-- Entry `j` of the expert's answer to the token row `x`. -/
def expert (x : Fin 1024 → EReal) (w1 : Fin 1024 → Fin 2048 → EReal) (b1 : Fin 2048 → EReal)
    (w2 : Fin 1024 → Fin 1024 → EReal) (b2 : Fin 1024 → EReal) (j : Fin 1024) : EReal :=
  (∑ k : Fin 1024, act (up x w1 b1 (gateCol k)) (up x w1 b1 (linCol k)) * w2 k j) + b2 j

/-- The same answer from the weights' two halves, each with its own product: the halves `g`, `l` hold the even and the
    odd columns, and so do the biases' halves. -/
theorem expert_of_halves (x : Fin 1024 → EReal) (w1 : Fin 1024 → Fin 2048 → EReal) (b1 : Fin 2048 → EReal)
    (w2 : Fin 1024 → Fin 1024 → EReal) (b2 : Fin 1024 → EReal) (g l v : Fin 1024 → Fin 1024 → EReal)
    (bg bl b : Fin 1024 → EReal) (hg : ∀ k j, g k j = w1 k (gateCol j)) (hl : ∀ k j, l k j = w1 k (linCol j))
    (hbg : ∀ j, bg j = b1 (gateCol j)) (hbl : ∀ j, bl j = b1 (linCol j)) (hv : ∀ k j, v k j = w2 k j) (hb : ∀ j, b j = b2 j)
    (j : Fin 1024) :
    (∑ k : Fin 1024, act (up x g bg k) (up x l bl k) * v k j) + b j = expert x w1 b1 w2 b2 j := by
  simp only [expert, up, hg, hl, hbg, hbl, hv, hb]

end Cert.Bridge

end
-- ==== Proof.Value.Reference.lean ====
/-
  The reference's expert stage read at an index, its gathered rows, weights and biases taken as given.
-/
module

public import proofs.«01_k».proof.Proof.Value.Expert
public import proofs.«01_k».proof.Proof.Gen.ReferenceIdeal.Run

@[expose] public section

set_option maxRecDepth 16384

noncomputable section

namespace Cert.Bridge

open Idealize.ShloMosaic Cert.ReferenceIdeal Cert.ReferenceIdeal.Facts₀

variable [Cert.ReferenceIdeal.Facts]

/-- The first product of every block, with its bias. -/
def refUp (x : FVec Ideal S1056x256x1024 .f32) (w : FVec Ideal S1056x1024x2048 .f32) (b : FVec Ideal S1056x2048 .f32) :
    FVec Ideal S1056x256x2048 .f32 :=
  addf (Host.dotGeneral dot_S1056x256x1024_S1056x1024x2048_S1056x256x2048_2_1_1_2_0_0 none x w)
    (broadcastInDim S1056x256x2048 ![0, 1, 2] bcast_S1056x1x2048_S1056x256x2048_0_1_2
      (broadcastInDim S1056x1x2048 ![0, 2] bcast_S1056x2048_S1056x1x2048_0_2 b))

theorem refUp_apply (x : FVec Ideal S1056x256x1024 .f32) (w : FVec Ideal S1056x1024x2048 .f32)
    (b : FVec Ideal S1056x2048 .f32) (n : Fin 1056) (r : Fin 256) (j : Fin 2048) :
    refUp x w b (ix3 n r j) = up (fun k => x (ix3 n r k)) (fun k j => w (ix3 n k j)) (fun j => b (ix2 n j)) j := by
  pointwise [refUp, up]

/-- The clipped gates. -/
def refGlu (u : FVec Ideal S1056x256x2048 .f32) : FVec Ideal S1056x256x1024 .f32 :=
  minimumf (Host.slice S1056x256x1024 ![0, 0, 0] ![1, 1, 2] u slicesBy_S1056x256x2048_S1056x256x1024_0s1_0s1_0s2)
    (broadcastInDim S1056x256x1024 ![] bcast_S_S1056x256x1024 (constant S_ .f32 0x40E00000#32))

/-- The gated activation of every block. -/
def refAct (u : FVec Ideal S1056x256x2048 .f32) : FVec Ideal S1056x256x1024 .f32 :=
  mulf (mulf (refGlu u)
      (Host.divf (broadcastInDim S1056x256x1024 ![] bcast_S_S1056x256x1024 (constant S_ .f32 0x3F800000#32))
        (addf (broadcastInDim S1056x256x1024 ![] bcast_S_S1056x256x1024 (constant S_ .f32 0x3F800000#32))
          (Host.exp (Host.negf (mulf
            (broadcastInDim S1056x256x1024 ![] bcast_S_S1056x256x1024 (constant S_ .f32 0x3FD9DB23#32)) (refGlu u)))))))
    (addf
      (minimumf (broadcastInDim S1056x256x1024 ![] bcast_S_S1056x256x1024 (id (constant S_ .f32 0x40E00000#32)))
        (maximumf (broadcastInDim S1056x256x1024 ![] bcast_S_S1056x256x1024 (id (constant S_ .f32 0xC0E00000#32)))
          (Host.slice S1056x256x1024 ![0, 0, 1] ![1, 1, 2] u slicesBy_S1056x256x2048_S1056x256x1024_0s1_0s1_1s2)))
      (broadcastInDim S1056x256x1024 ![] bcast_S_S1056x256x1024 (constant S_ .f32 0x3F800000#32)))

theorem refAct_apply (u : FVec Ideal S1056x256x2048 .f32) (n : Fin 1056) (r : Fin 256) (k : Fin 1024) :
    refAct u (ix3 n r k) = act (u (ix3 n r (gateCol k))) (u (ix3 n r (linCol k))) := by
  pointwise [refAct, refGlu, act, gateCol, linCol, id]

/-- The whole expert stage, block by block. -/
def refOut (x : FVec Ideal S1056x256x1024 .f32) (w1 : FVec Ideal S1056x1024x2048 .f32) (b1 : FVec Ideal S1056x2048 .f32)
    (w2 : FVec Ideal S1056x1024x1024 .f32) (b2 : FVec Ideal S1056x1024 .f32) : FVec Ideal S1056x256x1024 .f32 :=
  addf (Host.dotGeneral dot_S1056x256x1024_S1056x1024x1024_S1056x256x1024_2_1_1_2_0_0 none (refAct (refUp x w1 b1)) w2)
    (broadcastInDim S1056x256x1024 ![0, 1, 2] bcast_S1056x1x1024_S1056x256x1024_0_1_2
      (broadcastInDim S1056x1x1024 ![0, 2] bcast_S1056x1024_S1056x1x1024_0_2 b2))

theorem refOut_apply (x : FVec Ideal S1056x256x1024 .f32) (w1 : FVec Ideal S1056x1024x2048 .f32)
    (b1 : FVec Ideal S1056x2048 .f32) (w2 : FVec Ideal S1056x1024x1024 .f32) (b2 : FVec Ideal S1056x1024 .f32)
    (n : Fin 1056) (r : Fin 256) (j : Fin 1024) :
    refOut x w1 b1 w2 b2 (ix3 n r j)
      = expert (fun k => x (ix3 n r k)) (fun k j => w1 (ix3 n k j)) (fun j => b1 (ix2 n j)) (fun k j => w2 (ix3 n k j))
          (fun j => b2 (ix2 n j)) j := by
  pointwise [refOut, expert, refAct_apply, refUp_apply]

end Cert.Bridge

end
-- ==== Proof.Value.Gathers.lean ====
/-
  Three gathers read at an index: rows of a matrix by a table of row numbers, and one slab of a
  stack of matrices (or one row of a stack of rows) by a table of start vectors.
-/
module

public import Idealize.ShloMosaic.Lib.Pointwise.Index
public import Idealize.ShloMosaic.Lib.ValueIdx

@[expose] public section

namespace Cert.Bridge

open Idealize.ShloMosaic

variable {α : Type}

/-- Rows of an `N × C` matrix by an `A × B` table. -/
abbrev rowDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Entry `(a, b, k)` is entry `k` of the row the table names at `(a, b)`, if it names row `n`. -/
theorem gather_rows {N C A B w : Nat}
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (k : Fin C)
    (n : Fin N) (hn : (idx (ix3 a b (0 : Fin 1))).toInt.toNat = n.val) :
    Host.gather (rowDims N C A B wf) x idx (ix3 a b k) = x (ix2 n k) := by
  unfold Host.gather
  congr 1
  funext p
  refine Fin.ext ?_
  show (rowDims N C A B wf).start (ix3 a b k) idx p + (rowDims N C A B wf).batchCoord (ix3 a b k) p
      + (rowDims N C A B wf).offCoord (ix3 a b k) p = _
  rw [GatherDims.batchCoord_eq_zero _ _ _ List.not_mem_nil]
  have h01 : p = 0 ∨ p = 1 := by
    match p with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N C A B wf).startIndexMap from List.mem_singleton.mpr rfl)]
    have hsi : (rowDims N C A B wf).siIdx (ix3 a b k) ⟨List.idxOf (0 : Fin 2) (rowDims N C A B wf).startIndexMap,
        List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi, hn]
    have := n.isLt
    show min n.val (N - 1) + 0 + 0 = n.val
    omega
  · have hs : (rowDims N C A B wf).start (ix3 a b k) idx 1 = 0 := by
      unfold GatherDims.start
      rw [dif_neg (show (1 : Fin 2) ∉ (rowDims N C A B wf).startIndexMap from by simp)]
    rw [hs]
    show 0 + 0 + _ = k.val
    rw [Nat.add_zero, Nat.zero_add]
    rfl

/-- One slab of a stack of `E` matrices `P × Q`, by a table of `A` start vectors. -/
abbrev slabDims (E P Q A : Nat)
    (wf : GatherDims.WF ⟨3, ![E, P, Q]⟩ ⟨2, ![A, 3]⟩ ⟨4, ![A, 1, P, Q]⟩ [1, 2, 3] [] [] [0, 1, 2] [] 1 ![1, P, Q]) :
    GatherDims ⟨3, ![E, P, Q]⟩ ⟨2, ![A, 3]⟩ ⟨4, ![A, 1, P, Q]⟩ where
  offsetDims := [1, 2, 3]
  collapsedSliceDims := []
  operandBatchingDims := []
  startIndicesBatchingDims := []
  startIndexMap := [0, 1, 2]
  indexVectorDim := 1
  sliceSizes := ![1, P, Q]
  wf := wf

/-- Slab `a` of the result is the matrix its start vector begins at; a start along the other two axes
    is clamped to nought, since the slab is as long as they are. -/
theorem gather_slab {E P Q A w : Nat}
    (wf : GatherDims.WF ⟨3, ![E, P, Q]⟩ ⟨2, ![A, 3]⟩ ⟨4, ![A, 1, P, Q]⟩ [1, 2, 3] [] [] [0, 1, 2] [] 1 ![1, P, Q])
    (x : (⟨3, ![E, P, Q]⟩ : Shape).Idx → α) (idx : IVec ⟨2, ![A, 3]⟩ w) (a : Fin A) (p : Fin P) (q : Fin Q)
    (n : Fin E) (hn : (idx (ix2 a (0 : Fin 3))).toInt.toNat = n.val) :
    Host.gather (slabDims E P Q A wf) x idx (ix4 a (0 : Fin 1) p q) = x (ix3 n p q) := by
  unfold Host.gather
  congr 1
  funext d
  refine Fin.ext ?_
  show (slabDims E P Q A wf).start (ix4 a (0 : Fin 1) p q) idx d + (slabDims E P Q A wf).batchCoord (ix4 a (0 : Fin 1) p q) d
      + (slabDims E P Q A wf).offCoord (ix4 a (0 : Fin 1) p q) d = _
  rw [GatherDims.batchCoord_eq_zero _ _ _ List.not_mem_nil]
  have h012 : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases h012 with rfl | rfl | rfl
  · have hs : (slabDims E P Q A wf).start (ix4 a (0 : Fin 1) p q) idx 0 = n.val := by
      unfold GatherDims.start
      rw [dif_pos (show (0 : Fin 3) ∈ (slabDims E P Q A wf).startIndexMap from by simp)]
      have hsi : (slabDims E P Q A wf).siIdx (ix4 a (0 : Fin 1) p q)
          ⟨List.idxOf (0 : Fin 3) (slabDims E P Q A wf).startIndexMap,
          List.idxOf_lt_length_iff.2 (by simp)⟩ = ix2 a (0 : Fin 3) := by
        funext b; refine Fin.ext ?_
        match b with
        | ⟨0, _⟩ => rfl
        | ⟨1, _⟩ => rfl
      rw [hsi, hn]
      have := n.isLt
      show min n.val (E - 1) = n.val
      omega
    rw [hs]
    rfl
  · have hs := (slabDims E P Q A wf).start_le (ix4 a (0 : Fin 1) p q) idx 1
    rw [show (⟨3, ![E, P, Q]⟩ : Shape).size 1 - (slabDims E P Q A wf).sliceSizes 1 = 0 from Nat.sub_self P,
      Nat.le_zero] at hs
    rw [hs]
    show 0 + 0 + _ = p.val
    rw [Nat.add_zero, Nat.zero_add]
    rfl
  · have hs := (slabDims E P Q A wf).start_le (ix4 a (0 : Fin 1) p q) idx 2
    rw [show (⟨3, ![E, P, Q]⟩ : Shape).size 2 - (slabDims E P Q A wf).sliceSizes 2 = 0 from Nat.sub_self Q,
      Nat.le_zero] at hs
    rw [hs]
    show 0 + 0 + _ = q.val
    rw [Nat.add_zero, Nat.zero_add]
    rfl

/-- One row of an `E × Q` matrix, by a table of `A` start vectors. -/
abbrev lineDims (E Q A : Nat)
    (wf : GatherDims.WF ⟨2, ![E, Q]⟩ ⟨2, ![A, 2]⟩ ⟨3, ![A, 1, Q]⟩ [1, 2] [] [] [0, 1] [] 1 ![1, Q]) :
    GatherDims ⟨2, ![E, Q]⟩ ⟨2, ![A, 2]⟩ ⟨3, ![A, 1, Q]⟩ where
  offsetDims := [1, 2]
  collapsedSliceDims := []
  operandBatchingDims := []
  startIndicesBatchingDims := []
  startIndexMap := [0, 1]
  indexVectorDim := 1
  sliceSizes := ![1, Q]
  wf := wf

/-- Line `a` of the result is the row its start vector begins at. -/
theorem gather_line {E Q A w : Nat}
    (wf : GatherDims.WF ⟨2, ![E, Q]⟩ ⟨2, ![A, 2]⟩ ⟨3, ![A, 1, Q]⟩ [1, 2] [] [] [0, 1] [] 1 ![1, Q])
    (x : (⟨2, ![E, Q]⟩ : Shape).Idx → α) (idx : IVec ⟨2, ![A, 2]⟩ w) (a : Fin A) (q : Fin Q)
    (n : Fin E) (hn : (idx (ix2 a (0 : Fin 2))).toInt.toNat = n.val) :
    Host.gather (lineDims E Q A wf) x idx (ix3 a (0 : Fin 1) q) = x (ix2 n q) := by
  unfold Host.gather
  congr 1
  funext d
  refine Fin.ext ?_
  show (lineDims E Q A wf).start (ix3 a (0 : Fin 1) q) idx d + (lineDims E Q A wf).batchCoord (ix3 a (0 : Fin 1) q) d
      + (lineDims E Q A wf).offCoord (ix3 a (0 : Fin 1) q) d = _
  rw [GatherDims.batchCoord_eq_zero _ _ _ List.not_mem_nil]
  have h01 : d = 0 ∨ d = 1 := by
    match d with
    | ⟨0, _⟩ => exact Or.inl rfl
    | ⟨1, _⟩ => exact Or.inr rfl
  rcases h01 with rfl | rfl
  · have hs : (lineDims E Q A wf).start (ix3 a (0 : Fin 1) q) idx 0 = n.val := by
      unfold GatherDims.start
      rw [dif_pos (show (0 : Fin 2) ∈ (lineDims E Q A wf).startIndexMap from by simp)]
      have hsi : (lineDims E Q A wf).siIdx (ix3 a (0 : Fin 1) q)
          ⟨List.idxOf (0 : Fin 2) (lineDims E Q A wf).startIndexMap,
          List.idxOf_lt_length_iff.2 (by simp)⟩ = ix2 a (0 : Fin 2) := by
        funext b; refine Fin.ext ?_
        match b with
        | ⟨0, _⟩ => rfl
        | ⟨1, _⟩ => rfl
      rw [hsi, hn]
      have := n.isLt
      show min n.val (E - 1) = n.val
      omega
    rw [hs]
    rfl
  · have hs := (lineDims E Q A wf).start_le (ix3 a (0 : Fin 1) q) idx 1
    rw [show (⟨2, ![E, Q]⟩ : Shape).size 1 - (lineDims E Q A wf).sliceSizes 1 = 0 from Nat.sub_self Q,
      Nat.le_zero] at hs
    rw [hs]
    show 0 + 0 + _ = q.val
    rw [Nat.add_zero, Nat.zero_add]
    rfl

end Cert.Bridge

end
-- ==== Proof.Value.Tables.lean ====
/-
  The reference's gathers read at an index: a routing word picks a token's row, a block's expert number picks its
  weights and biases. Both are in range, so neither the wrap of a negative number nor the clamp does anything.
-/
module

public import proofs.«01_k».proof.Proof.Value.Gathers
public import proofs.«01_k».proof.Proof.Gen.ReferenceIdeal.Run
public import Idealize.ShloMosaic.Lib.Pointwise
public import Idealize.ShloMosaic.Lib.StableHlo.Predicate

@[expose] public section

set_option maxRecDepth 16384

noncomputable section

namespace Cert.Bridge

open Idealize.ShloMosaic Cert.ReferenceIdeal Cert.ReferenceIdeal.Facts₀

variable [Cert.ReferenceIdeal.Facts]

/-- A number counted from the end when it is negative. -/
def wrap (n v : BitVec 32) : BitVec 32 := if IntOp.cmpi .slt v 0#32 = 1#1 then IntOp.addi v n else v

theorem not_neg {v : BitVec 32} (h : v.toNat < 2 ^ 31) : ¬ IntOp.cmpi .slt v 0#32 = 1#1 := by
  rw [StableHlo.Predicate.slt_iff_toNat h (by decide)]
  exact Nat.not_lt_zero _

theorem toInt_of {v : BitVec 32} (h : v.toNat < 2 ^ 31) : v.toInt.toNat = v.toNat := by
  rw [StableHlo.Predicate.toInt_eq_toNat_of_lt h]; rfl

/-! ## The tables of start indices -/

/-- The token rows each block's slots name. -/
def slotTable (t : S270336.Idx → BitVec 32) : S1056x256x1.Idx → BitVec 32 :=
  broadcastInDim S1056x256x1 ![0, 1] bcast_S1056x256_S1056x256x1_0_1
    (select (cmpi .slt (shapeCast S1056x256 t shapeCasts_S270336_S1056x256) (broadcastInDim S1056x256 ![] bcast_S_S1056x256 (constantI S_ 32 0#32)))
      (addi (shapeCast S1056x256 t shapeCasts_S270336_S1056x256) (broadcastInDim S1056x256 ![] bcast_S_S1056x256 (constantI S_ 32 65536#32)))
      (shapeCast S1056x256 t shapeCasts_S270336_S1056x256))

/-- Each block's expert number, as one column. -/
def expertCol (e : S1056.Idx → BitVec 32) : S1056x1.Idx → BitVec 32 :=
  broadcastInDim S1056x1 ![0] bcast_S1056_S1056x1_0
    (select (cmpi .slt e (broadcastInDim S1056 ![] bcast_S_S1056 (constantI S_ 32 0#32)))
      (addi e (broadcastInDim S1056 ![] bcast_S_S1056 (constantI S_ 32 32#32))) e)

/-- A column of starts at nought. -/
def zeroCol (n : BitVec 32) : S1056x1.Idx → BitVec 32 :=
  broadcastInDim S1056x1 ![] bcast_S_S1056x1
    (select (cmpi .slt (constantI S_ 32 0#32) (constantI S_ 32 0#32)) (addi (constantI S_ 32 0#32) (constantI S_ 32 n)) (constantI S_ 32 0#32))

/-- The start vectors into a stack of matrices, and into a stack of rows. -/
def starts3 (e : S1056.Idx → BitVec 32) (p q : BitVec 32) : S1056x3.Idx → BitVec 32 :=
  concatenate S1056x3 1 [⟨S1056x1, expertCol e⟩, ⟨S1056x1, zeroCol p⟩, ⟨S1056x1, zeroCol q⟩] concatenates_S1056x1_S1056x1_S1056x1_S1056x3_d1
def starts2 (e : S1056.Idx → BitVec 32) (q : BitVec 32) : S1056x2.Idx → BitVec 32 :=
  concatenate S1056x2 1 [⟨S1056x1, expertCol e⟩, ⟨S1056x1, zeroCol q⟩] concatenates_S1056x1_S1056x1_S1056x2_d1

theorem slotTable_apply (t : S270336.Idx → BitVec 32) (n : Fin 1056) (r : Fin 256) (i : Fin 270336)
    (hi : i.val = 256 * n.val + r.val) (h : (t (ix1 i)).toNat < 65536) :
    slotTable t (ix3 n r 0) = t (ix1 i) := by
  have hc : shapeCast S1056x256 t shapeCasts_S270336_S1056x256 (ix2 n r) = t (ix1 i) := by
    refine shapeCast_apply _ _ _ _ ?_
    refine (rowMajor_val1 _).trans (Eq.trans ?_ (rowMajor_val2 _ 256 rfl).symm)
    show i.val = n.val * 256 + r.val; omega
  have hw : slotTable t (ix3 n r 0) = wrap 65536#32 (t (ix1 i)) := by
    rw [← hc]
    rfl
  rw [hw, wrap, if_neg (not_neg (by omega))]

theorem expertCol_apply (e : S1056.Idx → BitVec 32) (n : Fin 1056) (h : (e (ix1 n)).toNat < 32) :
    expertCol e (ix2 n 0) = e (ix1 n) := by
  have hw : expertCol e (ix2 n 0) = wrap 32#32 (e (ix1 n)) := by pointwise [expertCol, wrap]; rfl
  rw [hw, wrap, if_neg (not_neg (by omega))]

theorem starts3_apply (e : S1056.Idx → BitVec 32) (p q : BitVec 32) (n : Fin 1056) (h : (e (ix1 n)).toNat < 32) :
    starts3 e p q (ix2 n 0) = e (ix1 n) := by
  rw [← expertCol_apply e n h]; pointwise [starts3]

theorem starts2_apply (e : S1056.Idx → BitVec 32) (q : BitVec 32) (n : Fin 1056) (h : (e (ix1 n)).toNat < 32) :
    starts2 e q (ix2 n 0) = e (ix1 n) := by
  rw [← expertCol_apply e n h]; pointwise [starts2]

/-! ## What they pick -/

variable {α : Type}

theorem pick_row (x : S65536x1024.Idx → α) (t : S270336.Idx → BitVec 32) (n : Fin 1056) (r : Fin 256) (k : Fin 1024)
    (i : Fin 270336) (hi : i.val = 256 * n.val + r.val) (z : Fin 65536) (h : (t (ix1 i)).toNat = z.val) :
    Host.gather gather_S65536x1024_S1056x256x1_S1056x256x1024_2_0_n_n_0_2_11024 x (slotTable t) (ix3 n r k) = x (ix2 z k) :=
  gather_rows _ x _ n r k z (by
    have hz := z.isLt
    rw [slotTable_apply t n r i hi (by omega), toInt_of (by omega), h])

theorem pick_w1 (x : S32x1024x2048.Idx → α) (e : S1056.Idx → BitVec 32) (p q : BitVec 32) (n : Fin 1056) (k : Fin 1024)
    (j : Fin 2048) (z : Fin 32) (h : (e (ix1 n)).toNat = z.val) :
    shapeCast S1056x1024x2048 (Host.gather gather_S32x1024x2048_S1056x3_S1056x1x1024x2048_123_n_n_n_012_1_110242048 x (starts3 e p q))
      shapeCasts_S1056x1x1024x2048_S1056x1024x2048 (ix3 n k j) = x (ix3 z k j) := by
  have hz := z.isLt
  refine (shapeCast_apply _ _ _ (ix4 n 0 k j) ?_).trans (gather_slab _ x _ n k j z (by
    rw [starts3_apply e p q n (by omega), toInt_of (by omega), h]))
  refine (rowMajor_val4 _ (1024 * 2048) (1024 * 2048) 2048 rfl rfl rfl).trans (Eq.trans ?_ (rowMajor_val3 _ (1024 * 2048) 2048 rfl rfl).symm)
  show n.val * (1024 * 2048) + 0 * (1024 * 2048) + k.val * 2048 + j.val = n.val * (1024 * 2048) + k.val * 2048 + j.val
  omega

theorem pick_w2 (x : S32x1024x1024.Idx → α) (e : S1056.Idx → BitVec 32) (p q : BitVec 32) (n : Fin 1056) (k : Fin 1024)
    (j : Fin 1024) (z : Fin 32) (h : (e (ix1 n)).toNat = z.val) :
    shapeCast S1056x1024x1024 (Host.gather gather_S32x1024x1024_S1056x3_S1056x1x1024x1024_123_n_n_n_012_1_110241024 x (starts3 e p q))
      shapeCasts_S1056x1x1024x1024_S1056x1024x1024 (ix3 n k j) = x (ix3 z k j) := by
  have hz := z.isLt
  refine (shapeCast_apply _ _ _ (ix4 n 0 k j) ?_).trans (gather_slab _ x _ n k j z (by
    rw [starts3_apply e p q n (by omega), toInt_of (by omega), h]))
  refine (rowMajor_val4 _ (1024 * 1024) (1024 * 1024) 1024 rfl rfl rfl).trans (Eq.trans ?_ (rowMajor_val3 _ (1024 * 1024) 1024 rfl rfl).symm)
  show n.val * (1024 * 1024) + 0 * (1024 * 1024) + k.val * 1024 + j.val = n.val * (1024 * 1024) + k.val * 1024 + j.val
  omega

theorem pick_b1 (x : S32x2048.Idx → α) (e : S1056.Idx → BitVec 32) (q : BitVec 32) (n : Fin 1056) (j : Fin 2048) (z : Fin 32)
    (h : (e (ix1 n)).toNat = z.val) :
    shapeCast S1056x2048 (Host.gather gather_S32x2048_S1056x2_S1056x1x2048_12_n_n_n_01_1_12048 x (starts2 e q))
      shapeCasts_S1056x1x2048_S1056x2048 (ix2 n j) = x (ix2 z j) := by
  have hz := z.isLt
  refine (shapeCast_apply _ _ _ (ix3 n 0 j) ?_).trans (gather_line _ x _ n j z (by
    rw [starts2_apply e q n (by omega), toInt_of (by omega), h]))
  refine (rowMajor_val3 _ 2048 2048 rfl rfl).trans (Eq.trans ?_ (rowMajor_val2 _ 2048 rfl).symm)
  show n.val * 2048 + 0 * 2048 + j.val = n.val * 2048 + j.val
  omega

theorem pick_b2 (x : S32x1024.Idx → α) (e : S1056.Idx → BitVec 32) (q : BitVec 32) (n : Fin 1056) (j : Fin 1024) (z : Fin 32)
    (h : (e (ix1 n)).toNat = z.val) :
    shapeCast S1056x1024 (Host.gather gather_S32x1024_S1056x2_S1056x1x1024_12_n_n_n_01_1_11024 x (starts2 e q))
      shapeCasts_S1056x1x1024_S1056x1024 (ix2 n j) = x (ix2 z j) := by
  have hz := z.isLt
  refine (shapeCast_apply _ _ _ (ix3 n 0 j) ?_).trans (gather_line _ x _ n j z (by
    rw [starts2_apply e q n (by omega), toInt_of (by omega), h]))
  refine (rowMajor_val3 _ 1024 1024 rfl rfl).trans (Eq.trans ?_ (rowMajor_val2 _ 1024 rfl).symm)
  show n.val * 1024 + 0 * 1024 + j.val = n.val * 1024 + j.val
  omega

end Cert.Bridge

end
-- ==== Proof.KernelIdeal.Rows.lean ====
/-
  The two-slot gather of the expert kernel: names for one row of the token array, one row of the
  two-slot buffer and one counter, the ghost state of the two slots, and one trip of the issuing loops.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Batch
public import Idealize.ShloMosaic.Lib.Ring
public import Idealize.ShloMosaic.Lib.Tactic
public import Idealize.ShloMosaic.Lib.ValueIdxCore
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen
open Idealize.ShloMosaic.ValueIdx

variable {F : FTy → Type} [FloatOps F]

local notation "𝕄" => MT nD τ sig Unit (Elt F) ℕ (UD sig nD τ) ℕ

/-- The token array and the two-slot buffer, whole. -/
abbrev HM : Memref sig .tc .hbm S65536x1024 .f32 := Memref.whole main_arg2
abbrev XM : Memref sig .tc .vmem S2x256x1024 .f32 := Memref.whole cc0_scratch0

/-- One row of the two-slot buffer, one row of the token array and one counter, at an offset. -/
def rowO (off : Fin 3 → ℕ) (h : ∀ a, off a + S1x1x1024.size a ≤ S2x256x1024.size a) : Memref sig .tc .vmem S1x1024 .f32 :=
  (XM.slice (Rect.unit (s := S2x256x1024) off S1x1x1024.size h) (fun _ => rfl)).squeeze S1x1024 squeezes_S1x1x1024_S1x1024
def srcO (off : Fin 2 → ℕ) (h : ∀ a, off a + S1x1024.size a ≤ S65536x1024.size a) : Memref sig .tc .hbm S1x1024 .f32 :=
  HM.slice (Rect.unit (s := S65536x1024) off S1x1024.size h) (fun _ => rfl)
def cellO (off : Fin 1 → ℕ) (h : ∀ a, off a + S1.size a ≤ S2.size a) : DmaSem sig :=
  ((cc0_scratch1.slice (Rect.unit (s := S2) off S1.size h)).squeeze S_ squeezes_S1_S_).sem

theorem row_inb (p : Fin 2) (r : Fin 256) : ∀ a, (![p.val, r.val, 0] : Fin 3 → ℕ) a + S1x1x1024.size a ≤ S2x256x1024.size a := by
  have := p.isLt; have := r.isLt; intro a; fin_cases a
  · show p.val + 1 ≤ 2; omega
  · show r.val + 1 ≤ 256; omega
  · show 0 + 1024 ≤ 1024; omega
theorem src_inb (n : Fin 65536) : ∀ a, (![n.val, 0] : Fin 2 → ℕ) a + S1x1024.size a ≤ S65536x1024.size a := by
  have := n.isLt; intro a; fin_cases a
  · show n.val + 1 ≤ 65536; omega
  · show 0 + 1024 ≤ 1024; omega
theorem cell_inb (p : Fin 2) : ∀ a, (![p.val] : Fin 1 → ℕ) a + S1.size a ≤ S2.size a := by
  have := p.isLt; intro a; fin_cases a; show p.val + 1 ≤ 2; omega

/-- Row `r` of slot `p`, row `n` of the token array, the counter of slot `p`. -/
def row (p : Fin 2) (r : Fin 256) := rowO ![p.val, r.val, 0] (row_inb p r)
def src (n : Fin 65536) := srcO ![n.val, 0] (src_inb n)
def cell (p : Fin 2) : DmaSem sig := cellO ![p.val] (cell_inb p)

theorem rowO_eq {off : Fin 3 → ℕ} {h} (p : Fin 2) (r : Fin 256) (e : off = ![p.val, r.val, 0]) : rowO off h = row p r := by
  subst e; rfl
theorem srcO_eq {off : Fin 2 → ℕ} {h} (n : Fin 65536) (e : off = ![n.val, 0]) : srcO off h = src n := by
  subst e; rfl
theorem cellO_eq {off : Fin 1 → ℕ} {h} (p : Fin 2) (e : off = ![p.val]) : cellO off h = cell p := by
  subst e; rfl

/-- The token a word names. -/
def tokOf (w : BitVec 32) : Fin 65536 := ⟨w.toNat % 65536, Nat.mod_lt _ (by decide)⟩

/-- The two-slot buffer with row `r` of either slot the token row the `r`-th word names. -/
def gath (w : Fin 256 → BitVec 32) (hf : S65536x1024.Idx → Elt F .f32) : S2x256x1024.Idx → Elt F .f32 :=
  fun y => hf (ix2 (tokOf (w (y 1))) (y 2))

/-! ## Where the rows lie -/

theorem row_emb (p : Fin 2) (r : Fin 256) (x : S1x1024.Idx) : (row p r).view.emb x = ix3 p r (x 1) := by
  unfold row rowO
  show (Rect.unit (s := S2x256x1024) ![p.val, r.val, 0] S1x1x1024.size (row_inb p r)).emb (Shape.reshapeEquiv _ x) = _
  rw [Shape.reshapeEquiv_cons_one (d := ![1, 1024])]
  funext a; apply Fin.ext; match a with
  | ⟨0, _⟩ => show p.val + 1 * 0 = p.val; omega
  | ⟨1, _⟩ => have h : (x 0).val < 1 := (x 0).isLt; show r.val + 1 * (x 0).val = r.val; omega
  | ⟨2, _⟩ => show 0 + 1 * (x 1).val = (x 1).val; omega

theorem src_emb (n : Fin 65536) (x : S1x1024.Idx) : (src n).view.emb x = ix2 n (x 1) := by
  unfold src srcO
  show (Rect.unit (s := S65536x1024) ![n.val, 0] S1x1024.size (src_inb n)).emb x = _
  funext a; apply Fin.ext; match a with
  | ⟨0, _⟩ => have h : (x 0).val < 1 := (x 0).isLt; show n.val + 1 * (x 0).val = n.val; omega
  | ⟨1, _⟩ => show 0 + 1 * (x 1).val = (x 1).val; omega

/-- Row `r` of slot `p`, and row `n` of the token array, as elements of the buffers. -/
def rowSet (p : Fin 2) (r : Fin 256) : Finset S2x256x1024.Idx := (row p r).view.set
def srcSet (n : Fin 65536) : Finset S65536x1024.Idx := (src n).view.set

theorem mem_row (p : Fin 2) (r : Fin 256) (y : S2x256x1024.Idx) : y ∈ rowSet p r ↔ y 0 = p ∧ y 1 = r := by
  constructor
  · intro h
    obtain ⟨x, hx⟩ := (Finset.mem_map.mp h : ∃ x, x ∈ Finset.univ ∧ (row p r).view.emb x = y)
    rw [← hx.2, row_emb]; exact And.intro rfl rfl
  · intro h
    have e : y = (row p r).view.emb (ix2 0 (y 2) : S1x1024.Idx) := by
      rw [row_emb]; funext a; match a with
      | ⟨0, _⟩ => exact h.1
      | ⟨1, _⟩ => exact h.2
      | ⟨2, _⟩ => rfl
    rw [e]; exact View.emb_mem_set _ _

/-- Slot `p`'s elements. -/
def slotSet (p : Fin 2) : Finset S2x256x1024.Idx := Finset.univ.filter fun y => (y 0).val = p.val
theorem mem_slot (p : Fin 2) (y : S2x256x1024.Idx) : y ∈ slotSet p ↔ y 0 = p := by
  unfold slotSet; rw [Finset.mem_filter]; exact (and_iff_right (Finset.mem_univ y)).trans Fin.ext_iff.symm

theorem rows_disjoint (p : Fin 2) : ∀ r r' : Fin 256, r ≠ r' → Disjoint (rowSet p r) (rowSet p r') := by
  intro r r' h; rw [Finset.disjoint_left]; intro y hy hy'
  exact h (((mem_row p r y).mp hy).2.symm.trans ((mem_row p r' y).mp hy').2)
theorem rows_cover (p : Fin 2) : Finset.univ.biUnion (rowSet p) = slotSet p := by
  refine Finset.ext fun y => ?_
  rw [Finset.mem_biUnion, mem_slot]
  constructor
  · intro h; obtain ⟨r, hr⟩ := h; exact ((mem_row p r y).mp hr.2).1
  · intro h; exact Exists.intro (y 1) (And.intro (Finset.mem_univ _) ((mem_row p (y 1) y).mpr (And.intro h rfl)))
theorem slots_disjoint : ∀ p p' : Fin 2, p ≠ p' → Disjoint (slotSet p) (slotSet p') := by
  intro p p' h; rw [Finset.disjoint_left]; intro y hy hy'
  exact h (((mem_slot p y).mp hy).symm.trans ((mem_slot p' y).mp hy'))
theorem slots_cover : Finset.univ.biUnion slotSet = Finset.univ := by
  refine Finset.ext fun y => ?_
  rw [Finset.mem_biUnion]
  exact iff_of_true (Exists.intro (y 0) (And.intro (Finset.mem_univ _) ((mem_slot (y 0) y).mpr rfl))) (Finset.mem_univ _)

/-- What a row's transfer leaves in the row is the token row the word names. -/
theorem row_write (p : Fin 2) (r : Fin 256) (n : Fin 65536) (w : Fin 256 → BitVec 32) (hn : tokOf (w r) = n) (hf : S65536x1024.Idx → Elt F .f32)
    (fd : S2x256x1024.Idx → Elt F .f32) (y : S2x256x1024.Idx) (hy : y ∈ rowSet p r) :
    (row p r).view.write (Elt F) fd ((src n).view.read (Elt F) hf) Finset.univ y = gath w hf y := by
  subst hn
  obtain ⟨x, hx⟩ := (Finset.mem_map.mp hy : ∃ x, x ∈ Finset.univ ∧ (row p r).view.emb x = y)
  rw [← hx.2]
  refine (View.write_emb_of_mem (v := (row p r).view) fd _ (Finset.mem_univ x)).trans ?_
  exact (congrArg hf (src_emb (tokOf (w r)) x)).trans (congrArg (gath w hf) (row_emb p r x)).symm

/-! ## The ghost state of a slot -/

section State

variable (c : Dev nD)

/-- A row held at contents `f`; the share of the token array lent with row `r` of slot `p`. -/
abbrev rowAt (p : Fin 2) (r : Fin 256) (f : S2x256x1024.Idx → Elt F .f32) : sProp 𝕄 :=
  XM.view.loc (c : Thread nD τ) ↦[rowSet p r]{fullShare} f
abbrev share (p : Fin 2) (r : Fin 256) : PosShare TreeShare := Transfers.shareTokN fullShare (256 * p.val + r.val)

/-- A row held at some contents; its share of the token array whole; the row of it that is lent; what stays behind. -/
def rowOwn (p : Fin 2) (r : Fin 256) : sProp 𝕄 := iprop(∃ f, rowAt c p r f)
def tokAll (p : Fin 2) (hf : S65536x1024.Idx → Elt F .f32) (r : Fin 256) : sProp 𝕄 :=
  HM.view.loc (c : Thread nD τ) ↦{share p r} hf
def tokLent (p : Fin 2) (w : Fin 256 → BitVec 32) (hf : S65536x1024.Idx → Elt F .f32) (r : Fin 256) : sProp 𝕄 :=
  HM.view.loc (c : Thread nD τ) ↦[srcSet (tokOf (w r))]{share p r} hf
def tokRest (p : Fin 2) (w : Fin 256 → BitVec 32) (hf : S65536x1024.Idx → Elt F .f32) (r : Fin 256) : sProp 𝕄 :=
  HM.view.loc (c : Thread nD τ) ↦[Finset.univ \ srcSet (tokOf (w r))]{share p r} hf

/-- What row `r`'s transfer delivers: the row at the gathered contents and the lent row of the token array. -/
def deliv (p : Fin 2) (w : Fin 256 → BitVec 32) (hf : S65536x1024.Idx → Elt F .f32) (r : Fin 256) : sProp 𝕄 :=
  iprop(rowAt c p r (gath w hf) ∗ tokLent c p w hf r)

instance deliv_storable (p : Fin 2) (w : Fin 256 → BitVec 32) (hf : S65536x1024.Idx → Elt F .f32) (r : Fin 256) :
    BI.Storable (upEmb : UEmb _ 𝕄) (deliv c p w hf r) := by
  unfold deliv tokLent; infer_instance

/-- One row's credit. -/
abbrev NN : ℕ := (row 0 0).view.dmaCredit

/-- The 256 row transfers on slot `p`'s counter: `j` started, `u` units taken. -/
abbrev batch (p : Fin 2) (w : Fin 256 → BitVec 32) (hf : S65536x1024.Idx → Elt F .f32) (j u : ℕ) : sProp 𝕄 :=
  Transfers.Batch (countersEmb (U := UD sig nD τ)) (c : Thread nD τ) (.dma (cell p)) () NN (deliv c p w hf) j u

/-- Starting row `k`'s transfer, whatever the offsets it is spelt with. -/
theorem issue_core {α : Type} (p : Fin 2) (k : Fin 256) (n : Fin 65536) (w : Fin 256 → BitVec 32) (hf : S65536x1024.Idx → Elt F .f32)
    (hn : tokOf (w k) = n) {offS offD offC hS hD hC} (eS : offS = ![n.val, 0]) (eD : offD = ![p.val, k.val, 0]) (eC : offC = ![p.val])
    {hsrc : (srcO offS hS).view.WordExact} {hdst : (rowO offD hD).view.WordExact}
    {hsem : DmaTarget.Typed (nD := nD) (p := (.tc : Proc τ)) .hbm (.dma (cellO offC hC)) (.here (rowO offD hD))}
    {K : PUnit → Prog (TpuEff nD τ sig (Elt F) Λ₀ .tc) α} {Q : α → sProp 𝕄} :
    iprop(batch c p w hf k.val 0 ∗ rowOwn c p k ∗ tokAll c p hf k)
      ⊢ iprop((iprop(batch c p w hf (k.val + 1) 0 ∗ tokRest c p w hf k) -∗ wp frame (wpE defs₀ Variants.none (c : Thread nD τ) none) Set.univ (K ⟨⟩) Q)
        -∗ wp frame (wpE defs₀ Variants.none (c : Thread nD τ) none) Set.univ
            (.op (.enqueueDma (srcO offS hS) (.here (rowO offD hD)) (.dma (cellO offC hC)) hsrc hdst hsem) K) Q) := by
  subst eS eD eC
  unfold rowOwn tokAll
  iintro ⟨HB, ⟨%g, HR⟩, HT⟩ Hk
  ihave HT' := (pointsTo_split_subset (Finset.subset_univ (srcSet n))).1 $$ HT
  icases HT' with ⟨HT, Hrest⟩
  iapply (Transfers.wp_dmaBatch (countersEmb (U := UD sig nD τ)) Variants.none (c : Thread nD τ) none () NN (src := src n) (dst := row p k) (sm := .dma (cell p))
    (Sd := rowSet p k) (q := share p k) (fs := hf) (fd := g) (D := deliv c p w hf) (j := k.val) (u := 0) rfl subset_rfl k.isLt (Nat.zero_le _) ?_) $$ [HT HR HB]
  · unfold deliv tokLent
    rw [hn]
    iintro ⟨HR, HT⟩
    isplitl [HR]
    · iapply (Entails.of_eq (pointsTo_congr (fun y hy => row_write p k n w hn hf g y hy))); iexact HR
    · iexact HT
  · isplitl [HT]; · iexact HT
    isplitl [HR]
    · iexact HR
    · iexact HB
  iintro HB
  iapply Hk
  isplitl [HB]; · iexact HB
  unfold tokRest; rw [hn]; iexact Hrest

end State

end Cert.KernelIdeal.Hand

end
-- ==== Proof.KernelIdeal.Trips.lean ====
/-
  One trip of each of the expert kernel's three loops: the loop that starts the first block's row
  transfers, the loop that starts the next block's, and the loop that waits for the current block's.
-/
module

public import proofs.«01_k».proof.Proof.KernelIdeal.Rows

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen
open Idealize.ShloMosaic.ValueIdx

variable {F : FTy → Type} [FloatOps F]

local notation "𝕄" => MT nD τ sig Unit (Elt F) ℕ (UD sig nD τ) ℕ

theorem trips1 : k0_t1_loop.trips = 256 := by decide +kernel
theorem trips2 : k0_t2_loop.trips = 256 := by decide +kernel
theorem trips3 : k0_t3_loop.trips = 256 := by decide +kernel

/-- The slot the current block uses and the other one. -/
def cur (i : grid0.Coords) : Fin 2 := ⟨(i 0).val % 2, Nat.mod_lt _ (by decide)⟩
def oth (i : grid0.Coords) : Fin 2 := ⟨1 - (i 0).val % 2, by omega⟩

/-- The grid coordinates of block `n`. -/
def one (n : Fin 1056) : grid0.Coords := fun a => match a with | ⟨0, _⟩ => n
theorem one_eq (i : grid0.Coords) : one (i 0) = i := by
  funext a; match a with | ⟨0, _⟩ => rfl

theorem off6_one : ∀ n : Fin 1056, k0_off6 (one n) 0 = 1 - n.val % 2 := by decide +kernel
theorem off9_one : ∀ n : Fin 1056, k0_off9 (one n) 0 = n.val % 2 := by decide +kernel
theorem cond1_one : ∀ n : Fin 1056, k0_cond1 (one n) = 1#1 ↔ n.val = 0 := by decide +kernel
theorem cond2_one : ∀ n : Fin 1056, k0_cond2 (one n) = 1#1 ↔ n.val + 1 < 1056 := by decide +kernel

theorem off6_at (i : grid0.Coords) : k0_off6 i 0 = (oth i).val := by
  have h := off6_one (i 0); rw [one_eq] at h; exact h
theorem off9_at (i : grid0.Coords) : k0_off9 i 0 = (cur i).val := by
  have h := off9_one (i 0); rw [one_eq] at h; exact h
theorem cond1_iff (i : grid0.Coords) : k0_cond1 i = 1#1 ↔ (i 0).val = 0 := by
  have h := cond1_one (i 0); rw [one_eq] at h; exact h
theorem cond2_iff (i : grid0.Coords) : k0_cond2 i = 1#1 ↔ (i 0).val + 1 < 1056 := by
  have h := cond2_one (i 0); rw [one_eq] at h; exact h

theorem off6_eq (i : grid0.Coords) : k0_off6 i = ![(oth i).val] := by
  funext a; match a with | ⟨0, _⟩ => exact off6_at i
theorem off9_eq (i : grid0.Coords) : k0_off9 i = ![(cur i).val] := by
  funext a; match a with | ⟨0, _⟩ => exact off9_at i
theorem off7_eq (i : grid0.Coords) (k : Fin k0_t2_loop.trips) : k0_off7 i k = ![(oth i).val, k.val, 0] := by
  funext a; match a with
  | ⟨0, _⟩ => exact off6_at i
  | ⟨1, _⟩ => exact congrFun (k0_off5_eq k) 2
  | ⟨2, _⟩ => rfl
theorem off10_eq (i : grid0.Coords) (k : Fin k0_t3_loop.trips) : k0_off10 i k = ![(cur i).val, k.val, 0] := by
  funext a; match a with
  | ⟨0, _⟩ => exact off9_at i
  | ⟨1, _⟩ => exact congrFun (k0_off2_eq k) 2
  | ⟨2, _⟩ => rfl
theorem off11_eq (i : grid0.Coords) : k0_off11 i = ![(cur i).val, 0, 0] := by
  funext a; match a with
  | ⟨0, _⟩ => exact off9_at i
  | ⟨1, _⟩ => rfl
  | ⟨2, _⟩ => rfl

section Issue

variable (c : Dev nD) (p : Fin 2) (w : Fin 256 → BitVec 32) (hf : S65536x1024.Idx → Elt F .f32)

/-- Before trip `k` of an issuing loop: `k` transfers started; the rows and the shares of the token array from `k` on in
    hand; of the shares before `k` what is not lent; the block's words. -/
def issueAt (M : Memref sig .tc .smem S1x1x256 .i32) (q : PosShare TreeShare) (f : M.view.ty.Contents (Elt F)) (k : ℕ) (_ : Unit) : sProp 𝕄 :=
  iprop(batch c p w hf k 0 ∗ bigSep (Ring.rangeSet 256 k 256) (rowOwn c p) ∗ bigSep (Ring.rangeSet 256 k 256) (tokAll c p hf)
    ∗ bigSep (Ring.rangeSet 256 0 k) (tokRest c p w hf) ∗ (M.view.loc (c : Thread nD τ) ↦[M.view.set]{q} f))

/-- The word a loop loads at trip `k`, by the offset it is spelt with. -/
theorem word_at (k : Fin 256) (off : Fin 3 → ℕ) (e : off = ![0, 0, k.val]) (h : ∀ a, off a + S1x1x1.size a ≤ S1x1x256.size a)
    (h0 : 0 < (Rect.unit (s := S1x1x256) off S1x1x1.size h).toLoadRect.shape.numel) :
    ((Rect.unit (s := S1x1x256) off S1x1x1.size h).toLoadRect.idx (Shape.Idx.first h0) : S1x1x256.Idx) = ix3 0 0 k := by
  subst e
  refine funext fun a => Fin.ext ?_
  match a with
  | ⟨0, _⟩ => rfl
  | ⟨1, _⟩ => rfl
  | ⟨2, _⟩ => show k.val + 1 * 0 = k.val; omega

theorem chk_of (v : BitVec 32) (h : v.toNat < 65536) : ∀ a, (k0_off4 v) a + S1x1024.size a ≤ S65536x1024.size a := by
  intro a; fin_cases a
  · show v.toNat + 1 ≤ 65536; omega
  · show 0 + 1024 ≤ 1024; omega

theorem tok_of (v : BitVec 32) (h : v.toNat < 65536) : (tokOf v).val = v.toNat := Nat.mod_eq_of_lt h

variable (i : grid0.Coords) (arg1 : Memref sig .tc .smem S1056 .i32) (harg1 : arg1.IsWhole) (arg2 : Memref sig .tc .smem S1x1x256 .i32) (harg2 : arg2.IsWhole) (arg3 : Memref sig .tc .smem S1x1x256 .i32) (harg3 : arg3.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S256x1024 .f32) (harg11 : arg11.IsWhole)

/-- The loops' bodies on the launch's operands. -/
abbrev body1 (h : k0_cond1 i = 1#1) := k0_t1_body (F := F) i arg1 harg1 arg2 harg2 arg3 harg3 HM (Memref.isWhole_whole _) arg5 harg5 arg6 harg6 arg7 harg7 arg8 harg8 arg9 harg9 arg10 harg10 arg11 harg11 XM (Memref.isWhole_whole _) cc0_scratch1 h
abbrev body2 (h : k0_cond2 i = 1#1) := k0_t2_body (F := F) i arg1 harg1 arg2 harg2 arg3 harg3 HM (Memref.isWhole_whole _) arg5 harg5 arg6 harg6 arg7 harg7 arg8 harg8 arg9 harg9 arg10 harg10 arg11 harg11 XM (Memref.isWhole_whole _) cc0_scratch1 h
abbrev body3 := k0_t3_body (F := F) i arg1 harg1 arg2 harg2 arg3 harg3 HM (Memref.isWhole_whole _) arg5 harg5 arg6 harg6 arg7 harg7 arg8 harg8 arg9 harg9 arg10 harg10 arg11 harg11 XM (Memref.isWhole_whole _) cc0_scratch1

/-- One trip of the loop that starts the first block's transfers. -/
theorem trip1 (h : k0_cond1 i = 1#1) (q : PosShare TreeShare) (f : arg2.view.ty.Contents (Elt F))
    (hw : ∀ r : Fin 256, arg2.view.read (Elt F) f (ix3 0 0 r) = w r) (hlt : ∀ r, (w r).toNat < 65536)
    (k : Fin k0_t1_loop.trips) (acc : Unit) :
    issueAt c 0 w hf arg2 q f k acc ⊢ wp frame (wpE defs₀ Variants.none (c : Thread nD τ) none) Set.univ
      (body1 i arg1 harg1 arg2 harg2 arg3 harg3 arg5 harg5 arg6 harg6 arg7 harg7 arg8 harg8 arg9 harg9 arg10 harg10 arg11 harg11 h k acc)
      (issueAt c 0 w hf arg2 q f (k.val + 1)) := by
  have hk : k.val < 256 := trips1 ▸ k.isLt
  unfold issueAt
  rw [Ring.bigSep_rangeSet_head (Φ := rowOwn c 0) (by omega) (by omega), Ring.bigSep_rangeSet_head (Φ := tokAll c 0 hf) (by omega) (by omega)]
  iintro ⟨HB, ⟨HR, HRs⟩, ⟨HT, HTs⟩, HL, HM⟩
  unfold body1 k0_t1_body
  sl_exec
  have hv : trip1.sl.r i arg2 h f k = w ⟨k.val, hk⟩ := by
    unfold trip1.sl.r
    rw [← hw]
    exact congrArg (arg2.view.read (Elt F) f) (word_at ⟨k.val, hk⟩ _ (k0_off2_eq k) _ _)
  rw [hv]
  iapply (wp_assume Variants.none (c : Thread nD τ) none Set.univ (fun _ => chk_of _ (hlt _)))
  have e1 := k0_off3_eq k
  have e2 : k0_off4 (w ⟨k.val, hk⟩) = ![(tokOf (w ⟨k.val, hk⟩)).val, 0] := by rw [tok_of _ (hlt _)]; rfl
  iapply (issue_core c 0 ⟨k.val, hk⟩ (tokOf (w ⟨k.val, hk⟩)) w hf rfl e2 e1 rfl) $$ [HB HR HT]
  · isplitl [HB]; · iexact HB
    isplitl [HR]; · iexact HR
    iexact HT
  iintro ⟨HB, HX⟩
  dsimp only [Prog.bind]
  sl_step
  isplitl [HB]; · iexact HB
  isplitl [HRs]; · iexact HRs
  isplitl [HTs]; · iexact HTs
  isplitl [HL HX]
  · rw [Ring.bigSep_rangeSet_last (Φ := tokRest c 0 w hf) (lo := 0) (hi := k.val + 1) (by omega) (by omega)]
    isplitl [HX]; · iexact HX
    iexact HL
  iexact HM

/-- One trip of the loop that starts the next block's transfers. -/
theorem trip2 (h : k0_cond2 i = 1#1) (q : PosShare TreeShare) (f : arg3.view.ty.Contents (Elt F))
    (hw : ∀ r : Fin 256, arg3.view.read (Elt F) f (ix3 0 0 r) = w r) (hlt : ∀ r, (w r).toNat < 65536)
    (k : Fin k0_t2_loop.trips) (acc : Unit) :
    issueAt c (oth i) w hf arg3 q f k acc ⊢ wp frame (wpE defs₀ Variants.none (c : Thread nD τ) none) Set.univ
      (body2 i arg1 harg1 arg2 harg2 arg3 harg3 arg5 harg5 arg6 harg6 arg7 harg7 arg8 harg8 arg9 harg9 arg10 harg10 arg11 harg11 h k acc)
      (issueAt c (oth i) w hf arg3 q f (k.val + 1)) := by
  have hk : k.val < 256 := trips2 ▸ k.isLt
  unfold issueAt
  rw [Ring.bigSep_rangeSet_head (Φ := rowOwn c (oth i)) (by omega) (by omega), Ring.bigSep_rangeSet_head (Φ := tokAll c (oth i) hf) (by omega) (by omega)]
  iintro ⟨HB, ⟨HR, HRs⟩, ⟨HT, HTs⟩, HL, HM⟩
  unfold body2 k0_t2_body
  sl_exec
  have hv : trip2.sl.r i arg3 h f k = w ⟨k.val, hk⟩ := by
    unfold trip2.sl.r
    rw [← hw]
    exact congrArg (arg3.view.read (Elt F) f) (word_at ⟨k.val, hk⟩ _ (k0_off5_eq k) _ _)
  rw [hv]
  iapply (wp_assume Variants.none (c : Thread nD τ) none Set.univ (fun _ => chk_of _ (hlt _)))
  have e1 := off7_eq i k
  have e2 : k0_off8 (w ⟨k.val, hk⟩) = ![(tokOf (w ⟨k.val, hk⟩)).val, 0] := by rw [tok_of _ (hlt _)]; rfl
  iapply (issue_core c (oth i) ⟨k.val, hk⟩ (tokOf (w ⟨k.val, hk⟩)) w hf rfl e2 e1 (off6_eq i)) $$ [HB HR HT]
  · isplitl [HB]; · iexact HB
    isplitl [HR]; · iexact HR
    iexact HT
  iintro ⟨HB, HX⟩
  dsimp only [Prog.bind]
  sl_step
  isplitl [HB]; · iexact HB
  isplitl [HRs]; · iexact HRs
  isplitl [HTs]; · iexact HTs
  isplitl [HL HX]
  · rw [Ring.bigSep_rangeSet_last (Φ := tokRest c (oth i) w hf) (lo := 0) (hi := k.val + 1) (by omega) (by omega)]
    isplitl [HX]; · iexact HX
    iexact HL
  iexact HM

/-- Before trip `k` of the waiting loop: the transfers' credits of `k` rows taken, or, after the last trip, the counter at
    zero and everything delivered. -/
def drainAt (k : ℕ) (_ : Unit) : sProp 𝕄 :=
  iprop(⌜k ≤ 256⌝ ∗ (∃ W, owes (c : Thread nD τ) 0 W)
    ∗ (if k < 256 then batch c p w hf 256 (k * NN) else iprop(semVal ((c : Thread nD τ), SemLoc.dma (cell p)) 0 ∗ bigSep Finset.univ (deliv c p w hf))))

/-- Waiting for one row, whatever the offsets it is spelt with: short of the last, and the last. -/
theorem wait_core {α : Type} (k : Fin 256) {offD offC hD hC hS} (eD : offD = ![p.val, k.val, 0]) (eC : offC = ![p.val])
    {hsrc : (srcO ![0, 0] hS).view.WordExact} {hdst : (rowO offD hD).view.WordExact}
    {K : PUnit → Prog (TpuEff nD τ sig (Elt F) Λ₀ .tc) α} {Q : α → sProp 𝕄} :
    drainAt c p w hf k.val ()
      ⊢ iprop((drainAt c p w hf (k.val + 1) () -∗ wp frame (wpE defs₀ Variants.none (c : Thread nD τ) none) Set.univ (K ⟨⟩) Q)
        -∗ wp frame (wpE defs₀ Variants.none (c : Thread nD τ) none) Set.univ
            (.op (.waitDma2 (cellO offC hC) (srcO ![0, 0] hS) (rowO offD hD) hsrc hdst) K) Q) := by
  subst eD eC
  have hk := k.isLt
  have hN : 0 < NN := by decide
  unfold drainAt
  simp only [if_pos hk]
  rcases Nat.lt_or_ge (k.val + 1) 256 with h1 | h1
  · simp only [if_pos h1]
    iintro ⟨-, ⟨%W, HO⟩, HB⟩ Hk
    have hu : k.val * NN + NN < NN * 256 := by
      generalize NN = N at hN ⊢
      rw [← Nat.succ_mul, Nat.mul_comm]; exact Nat.mul_lt_mul_of_pos_left h1 hN
    iapply (Transfers.wp_waitBatch (countersEmb (U := UD sig nD τ)) Variants.none (c : Thread nD τ) none () (N := NN) (sem := cell p) (srcw := src 0) (dstw := row p k)
      (hsrc := hsrc) (hdst := hdst) (D := deliv c p w hf) (u := k.val * NN) (W := W) rfl hu) $$ [HO HB]
    · isplitl [HB]; · iexact HB
      iexact HO
    iintro ⟨HB, HO⟩
    iapply Hk
    isplitr; · ipureintro; omega
    isplitl [HO]; · iexists _; iexact HO
    rw [Nat.succ_mul]
    iexact HB
  · simp only [if_neg (Nat.not_lt.mpr h1)]
    iintro ⟨-, ⟨%W, HO⟩, HB⟩ Hk
    have hu : k.val * NN + NN = NN * 256 := by
      generalize NN = N at hN ⊢
      have e : k.val + 1 = 256 := by omega
      rw [← Nat.succ_mul, Nat.succ_eq_add_one, e, Nat.mul_comm]
    iapply (Transfers.wp_waitBatchLast (countersEmb (U := UD sig nD τ)) Variants.none (c : Thread nD τ) none () (N := NN) (sem := cell p) (srcw := src 0) (dstw := row p k)
      (hsrc := hsrc) (hdst := hdst) (D := deliv c p w hf) (u := k.val * NN) (W := W) rfl hN hu) $$ [HO HB]
    · isplitl [HB]; · iexact HB
      iexact HO
    iintro ⟨HD, HS, HO⟩
    iapply Hk
    isplitr; · ipureintro; omega
    isplitl [HO]; · iexists _; iexact HO
    isplitl [HS]; · iexact HS
    iexact HD

/-- One trip of the waiting loop. -/
theorem trip3 (k : Fin k0_t3_loop.trips) (acc : Unit) :
    drainAt c (cur i) w hf k acc ⊢ wp frame (wpE defs₀ Variants.none (c : Thread nD τ) none) Set.univ
      (body3 (F := F) i arg1 harg1 arg2 harg2 arg3 harg3 arg5 harg5 arg6 harg6 arg7 harg7 arg8 harg8 arg9 harg9 arg10 harg10 arg11 harg11 k acc)
      (drainAt c (cur i) w hf (k.val + 1)) := by
  have hk : k.val < 256 := trips3 ▸ k.isLt
  iintro HD
  unfold body3 k0_t3_body
  iapply (wait_core c (cur i) w hf ⟨k.val, hk⟩ (off10_eq i k) (off9_eq i)) $$ [HD]
  · iexact HD
  iintro HD
  dsimp only [Prog.bind]
  sl_step
  iexact HD

end Issue

end Cert.KernelIdeal.Hand

end
-- ==== Proof.KernelIdeal.Slots.lean ====
/-
  The two slots of the expert kernel's buffer: a slot at rest, a slot whose 256 row transfers are under way,
  a slot whose rows have arrived; and each of the kernel's three loops as a step between them.
-/
module

public import proofs.«01_k».proof.Proof.KernelIdeal.Trips

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen
open Idealize.ShloMosaic.ValueIdx

variable {F : FTy → Type} [FloatOps F]

local notation "𝕄" => MT nD τ sig Unit (Elt F) ℕ (UD sig nD τ) ℕ

section Slots

variable (c : Dev nD) (p : Fin 2) (w : Fin 256 → BitVec 32) (hf : S65536x1024.Idx → Elt F .f32)

/-- A slot held at contents `f`. -/
abbrev slotAt (f : S2x256x1024.Idx → Elt F .f32) : sProp 𝕄 := XM.view.loc (c : Thread nD τ) ↦[slotSet p]{fullShare} f

/-- At rest: the counter at zero, the slot at some contents, its shares of the token array whole. -/
def idle : sProp 𝕄 :=
  iprop(semVal ((c : Thread nD τ), SemLoc.dma (cell p)) 0 ∗ (∃ f, slotAt c p f) ∗ bigSep Finset.univ (tokAll c p hf))
/-- Under way: all 256 transfers started, none waited for. -/
def flight : sProp 𝕄 := iprop(batch c p w hf 256 0 ∗ bigSep Finset.univ (tokRest c p w hf))
/-- Arrived: the slot at the gathered rows. -/
def landed : sProp 𝕄 :=
  iprop(semVal ((c : Thread nD τ), SemLoc.dma (cell p)) 0 ∗ slotAt c p (gath w hf) ∗ bigSep Finset.univ (tokAll c p hf))

theorem landed_idle : landed c p w hf ⊢ idle c p hf := by
  unfold landed idle
  iintro ⟨HS, HX, HT⟩
  isplitl [HS]; · iexact HS
  isplitl [HX]; · iexists _; iexact HX
  iexact HT

theorem slot_rows (f : S2x256x1024.Idx → Elt F .f32) : slotAt c p f = bigSep Finset.univ (fun r => rowAt c p r f) :=
  Ring.pointsTo_sub_blocks (ℓ := XM.view.loc (c : Thread nD τ)) (q := fullShare) (rowSet p) (rows_disjoint p) (slotSet p) (rows_cover p) f

theorem tok_join (r : Fin 256) : iprop(tokLent c p w hf r ∗ tokRest c p w hf r) ⊢ tokAll c p hf r := by
  unfold tokLent tokRest tokAll
  exact (pointsTo_split_subset (Finset.subset_univ (srcSet (tokOf (w r))))).2

/-- From rest to the state before an issuing loop. -/
theorem idle_start (M : Memref sig .tc .smem S1x1x256 .i32) (q : PosShare TreeShare) (f : M.view.ty.Contents (Elt F)) :
    iprop(idle c p hf ∗ (M.view.loc (c : Thread nD τ) ↦[M.view.set]{q} f)) ⊢ |={Set.univ}=> issueAt c p w hf M q f 0 () := by
  unfold idle issueAt
  iintro ⟨⟨HS, ⟨%g, HX⟩, HT⟩, HM⟩
  imod (Transfers.batch_alloc' (Lvl := ℕ) (countersEmb (U := UD sig nD τ)) (c : Thread nD τ) () NN (deliv c p w hf) (sm := .dma (cell p)) (E := Set.univ)) $$ HS with HB
  imodintro
  rw [Ring.rangeSet_univ, Ring.bigSep_rangeSet_empty (Nat.le_refl 0)]
  isplitl [HB]; · iexact HB
  isplitl [HX]
  · ihave HX' := (Entails.of_eq (slot_rows c p g)) $$ HX
    iapply (show bigSep Finset.univ (fun r => rowAt c p r g) ⊢ bigSep Finset.univ (rowOwn c p) from
      BI.bigSep_mono fun r _ => by unfold rowOwn; exact exists_intro (Φ := fun f => rowAt c p r f) g)
    iexact HX'
  isplitl [HT]; · iexact HT
  isplitr; · iempintro
  iexact HM

/-- The state after an issuing loop is the slot under way. -/
theorem issue_flight (M : Memref sig .tc .smem S1x1x256 .i32) (q : PosShare TreeShare) (f : M.view.ty.Contents (Elt F)) :
    issueAt c p w hf M q f 256 () ⊢ iprop(flight c p w hf ∗ (M.view.loc (c : Thread nD τ) ↦[M.view.set]{q} f)) := by
  unfold flight issueAt
  rw [Ring.rangeSet_univ]
  iintro ⟨HB, -, -, HT, HM⟩
  isplitr [HM]
  · isplitl [HB]; · iexact HB
    iexact HT
  iexact HM

/-- The state after the waiting loop, with what was not lent, is the slot arrived. -/
theorem drain_landed :
    iprop(drainAt c p w hf 256 () ∗ bigSep Finset.univ (tokRest c p w hf)) ⊢ iprop(landed c p w hf ∗ ∃ W, owes (c : Thread nD τ) 0 W) := by
  unfold landed drainAt
  simp only [if_neg (Nat.lt_irrefl 256)]
  iintro ⟨⟨-, HO, HS, HD⟩, HT⟩
  isplitr [HO]
  · isplitl [HS]; · iexact HS
    ihave HD' := (show bigSep Finset.univ (deliv c p w hf) ⊢ iprop(bigSep Finset.univ (fun r => rowAt c p r (gath w hf)) ∗ bigSep Finset.univ (tokLent c p w hf))
      from Entails.of_eq (BI.bigSep_sep _ _ _)) $$ HD
    icases HD' with ⟨HX, HL⟩
    isplitl [HX]
    · iapply (Entails.of_eq (slot_rows c p (gath w hf)).symm); iexact HX
    iapply (show iprop(bigSep Finset.univ (tokLent c p w hf) ∗ bigSep Finset.univ (tokRest c p w hf)) ⊢ bigSep Finset.univ (tokAll c p hf) from
      (Entails.of_eq (BI.bigSep_sep Finset.univ (tokLent c p w hf) (tokRest c p w hf)).symm).trans (BI.bigSep_mono fun r _ => tok_join c p w hf r))
    isplitl [HL]; · iexact HL
    iexact HT
  iexact HO

variable (i : grid0.Coords) (arg1 : Memref sig .tc .smem S1056 .i32) (harg1 : arg1.IsWhole) (arg2 : Memref sig .tc .smem S1x1x256 .i32) (harg2 : arg2.IsWhole) (arg3 : Memref sig .tc .smem S1x1x256 .i32) (harg3 : arg3.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S256x1024 .f32) (harg11 : arg11.IsWhole)

/-- The loop that starts the first block's transfers: slot 0 goes from rest to under way. -/
theorem loop1 (h : k0_cond1 i = 1#1) (q : PosShare TreeShare) (f : arg2.view.ty.Contents (Elt F))
    (hw : ∀ r : Fin 256, arg2.view.read (Elt F) f (ix3 0 0 r) = w r) (hlt : ∀ r, (w r).toNat < 65536) {Q : Unit → sProp 𝕄} :
    iprop(idle c 0 hf ∗ (arg2.view.loc (c : Thread nD τ) ↦[arg2.view.set]{q} f))
      ⊢ iprop((iprop(flight c 0 w hf ∗ (arg2.view.loc (c : Thread nD τ) ↦[arg2.view.set]{q} f)) -∗ Q ())
        -∗ wp frame (wpE defs₀ Variants.none (c : Thread nD τ) none) Set.univ
          (Scf.Loop.for k0_t1_loop (k0_t1_ok i h) ⟨⟩ (body1 (F := F) i arg1 harg1 arg2 harg2 arg3 harg3 arg5 harg5 arg6 harg6 arg7 harg7 arg8 harg8 arg9 harg9 arg10 harg10 arg11 harg11 h)) Q) := by
  iintro HI Hk
  imod (idle_start c 0 w hf arg2 q f) $$ HI with HI
  iapply (Scf.wp_for frame (wpE defs₀ Variants.none (c : Thread nD τ) none) Set.univ k0_t1_loop.lb k0_t1_loop.ub k0_t1_loop.st (k0_t1_ok i h) ⟨⟩
    (body1 (F := F) i arg1 harg1 arg2 harg2 arg3 harg3 arg5 harg5 arg6 harg6 arg7 harg7 arg8 harg8 arg9 harg9 arg10 harg10 arg11 harg11 h) (issueAt c 0 w hf arg2 q f)
    (trip1 c w hf i arg1 harg1 arg2 harg2 arg3 harg3 arg5 harg5 arg6 harg6 arg7 harg7 arg8 harg8 arg9 harg9 arg10 harg10 arg11 harg11 h q f hw hlt))
  isplitl [HI]; · iexact HI
  iintro %acc HL
  iapply Hk
  iapply (issue_flight c 0 w hf arg2 q f)
  rw [← trips1]
  iexact HL

/-- The loop that starts the next block's transfers: the other slot goes from rest to under way. -/
theorem loop2 (h : k0_cond2 i = 1#1) (q : PosShare TreeShare) (f : arg3.view.ty.Contents (Elt F))
    (hw : ∀ r : Fin 256, arg3.view.read (Elt F) f (ix3 0 0 r) = w r) (hlt : ∀ r, (w r).toNat < 65536) {Q : Unit → sProp 𝕄} :
    iprop(idle c (oth i) hf ∗ (arg3.view.loc (c : Thread nD τ) ↦[arg3.view.set]{q} f))
      ⊢ iprop((iprop(flight c (oth i) w hf ∗ (arg3.view.loc (c : Thread nD τ) ↦[arg3.view.set]{q} f)) -∗ Q ())
        -∗ wp frame (wpE defs₀ Variants.none (c : Thread nD τ) none) Set.univ
          (Scf.Loop.for k0_t2_loop (k0_t2_ok i h) ⟨⟩ (body2 (F := F) i arg1 harg1 arg2 harg2 arg3 harg3 arg5 harg5 arg6 harg6 arg7 harg7 arg8 harg8 arg9 harg9 arg10 harg10 arg11 harg11 h)) Q) := by
  iintro HI Hk
  imod (idle_start c (oth i) w hf arg3 q f) $$ HI with HI
  iapply (Scf.wp_for frame (wpE defs₀ Variants.none (c : Thread nD τ) none) Set.univ k0_t2_loop.lb k0_t2_loop.ub k0_t2_loop.st (k0_t2_ok i h) ⟨⟩
    (body2 (F := F) i arg1 harg1 arg2 harg2 arg3 harg3 arg5 harg5 arg6 harg6 arg7 harg7 arg8 harg8 arg9 harg9 arg10 harg10 arg11 harg11 h) (issueAt c (oth i) w hf arg3 q f)
    (trip2 c w hf i arg1 harg1 arg2 harg2 arg3 harg3 arg5 harg5 arg6 harg6 arg7 harg7 arg8 harg8 arg9 harg9 arg10 harg10 arg11 harg11 h q f hw hlt))
  isplitl [HI]; · iexact HI
  iintro %acc HL
  iapply Hk
  iapply (issue_flight c (oth i) w hf arg3 q f)
  rw [← trips2]
  iexact HL

/-- The waiting loop: the current slot goes from under way to arrived. -/
theorem loop3 {Q : Unit → sProp 𝕄} :
    iprop(flight c (cur i) w hf ∗ ∃ W, owes (c : Thread nD τ) 0 W)
      ⊢ iprop((iprop(landed c (cur i) w hf ∗ ∃ W, owes (c : Thread nD τ) 0 W) -∗ Q ())
        -∗ wp frame (wpE defs₀ Variants.none (c : Thread nD τ) none) Set.univ
          (Scf.Loop.for k0_t3_loop k0_t3_ok ⟨⟩ (body3 (F := F) i arg1 harg1 arg2 harg2 arg3 harg3 arg5 harg5 arg6 harg6 arg7 harg7 arg8 harg8 arg9 harg9 arg10 harg10 arg11 harg11)) Q) := by
  unfold flight
  iintro ⟨⟨HB, HT⟩, HO⟩ Hk
  iapply (Scf.wp_for frame (wpE defs₀ Variants.none (c : Thread nD τ) none) Set.univ k0_t3_loop.lb k0_t3_loop.ub k0_t3_loop.st k0_t3_ok ⟨⟩
    (body3 (F := F) i arg1 harg1 arg2 harg2 arg3 harg3 arg5 harg5 arg6 harg6 arg7 harg7 arg8 harg8 arg9 harg9 arg10 harg10 arg11 harg11) (drainAt c (cur i) w hf)
    (trip3 c w hf i arg1 harg1 arg2 harg2 arg3 harg3 arg5 harg5 arg6 harg6 arg7 harg7 arg8 harg8 arg9 harg9 arg10 harg10 arg11 harg11))
  isplitl [HB HO]
  · unfold drainAt
    simp only [if_pos (show 0 < 256 by decide), Nat.zero_mul]
    isplitr; · ipureintro; omega
    isplitl [HO]; · iexact HO
    iexact HB
  iintro %acc HL
  iapply Hk
  iapply (drain_landed c (cur i) w hf)
  isplitl [HL]
  · rw [← trips3]; iexact HL
  iexact HT

end Slots

end Cert.KernelIdeal.Hand

end
-- ==== Proof.KernelIdeal.Body.lean ====
/-
  The expert kernel's body at one block: from the current slot under way (or, at the first block, at rest)
  to the next block's slot under way (or, at the last block, at rest), with the output block's contents named.
-/
module

public import proofs.«01_k».proof.Proof.KernelIdeal.Slots
public import Idealize.ShloMosaic.Lib.WholeRead
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen
open Idealize.ShloMosaic.ValueIdx

variable {F : FTy → Type} [FloatOps F]

local notation "𝕄" => MT nD τ sig Unit (Elt F) ℕ (UD sig nD τ) ℕ

section Run

variable (c : Dev nD) (hf : S65536x1024.Idx → Elt F .f32)

/-- The 256 words of a block, read off its window. -/
def words (x : Vec F S1x1x256 .i32) : Fin 256 → BitVec 32 := fun r => x (ix3 0 0 r)

/-- The rows a block works on: row `r` the token row the `r`-th word names. -/
def rows (w : Fin 256 → BitVec 32) (hf : S65536x1024.Idx → Elt F .f32) : Vec F S1x256x1024 .f32 :=
  fun y => hf (ix2 (tokOf (w (y 1))) (y 2))

/-- The block the body stores: of the gathered rows, the expert's two weight halves and biases, and its second layer. -/
def outv (w : Fin 256 → BitVec 32) (hf : S65536x1024.Idx → Elt F .f32) (x2 x3 : Vec F S1x1024x1024 .bf16) (x4 x5 : Vec F S1x1x1024 .f32)
    (x6 : Vec F S1x1024x1024 .bf16) (x7 : Vec F S1x1x1024 .f32) : Vec F S256x1024 .f32 :=
  k0_pay1 (k0_pay2 (rows w hf)) (k0_pay3 (rows w hf) x2 x4) x3 x5 x6 x7

/-- The two slots before a block's body and after it. -/
def slotsIn (i : grid0.Coords) (w : Fin 256 → BitVec 32) : sProp 𝕄 :=
  iprop((if (i 0).val = 0 then idle c (cur i) hf else flight c (cur i) w hf) ∗ idle c (oth i) hf)
def slotsOut (i : grid0.Coords) (w : Fin 256 → BitVec 32) : sProp 𝕄 :=
  iprop(idle c (cur i) hf ∗ (if (i 0).val + 1 < 1056 then flight c (oth i) w hf else idle c (oth i) hf))

theorem cur_zero (i : grid0.Coords) (h : (i 0).val = 0) : cur i = 0 := by
  apply Fin.ext; show (i 0).val % 2 = 0; omega

theorem zero3 : ∀ a : Fin 3, (![0, 0, 0] : Fin 3 → ℕ) a = 0 := by decide

/-- A whole buffer loaded reads its contents. -/
theorem loaded {S : Shape} {e : EltTy} {sp : Space} {M : Memref sig .tc sp S e} (hM : M.IsWhole) (X : S.Idx → Elt F e) {off : Fin S.rank → ℕ} (ho : ∀ a, off a = 0)
    (h : ∀ a, off a + S.size a ≤ S.size a) : M.view.readAt (Elt F) (Rect.unit (s := S) off S.size h).toLoadRect (hM.unread X) = X := by
  funext x
  rw [hM.readAt_unread]
  refine congrArg X (funext fun a => Fin.ext ?_)
  show off a + 1 * (x a).val = (x a).val
  rw [ho a]; omega

/-- What the load of the current slot reads, once the rows have arrived. -/
theorem slot_load (i : grid0.Coords) (w : Fin 256 → BitVec 32) :
    XM.view.readAt (Elt F) (Rect.unit (s := S2x256x1024) (k0_off11 i) S1x256x1024.size (k0_off11_inb i)).toLoadRect (gath w hf) = rows w hf := by
  funext x
  show gath w hf ((Rect.unit (s := S2x256x1024) (k0_off11 i) S1x256x1024.size (k0_off11_inb i)).emb x) = rows w hf x
  have e : ∀ a : Fin 3, ((Rect.unit (s := S2x256x1024) (k0_off11 i) S1x256x1024.size (k0_off11_inb i)).emb x a).val = (![(cur i).val, 0, 0] : Fin 3 → ℕ) a + 1 * (x a).val := by
    intro a; exact congrArg (· + 1 * (x a).val) (congrFun (off11_eq i) a)
  have e1 : (Rect.unit (s := S2x256x1024) (k0_off11 i) S1x256x1024.size (k0_off11_inb i)).emb x 1 = x 1 :=
    Fin.ext ((e 1).trans (by show 0 + 1 * (x 1).val = (x 1).val; omega))
  have e2 : (Rect.unit (s := S2x256x1024) (k0_off11 i) S1x256x1024.size (k0_off11_inb i)).emb x 2 = x 2 :=
    Fin.ext ((e 2).trans (by show 0 + 1 * (x 2).val = (x 2).val; omega))
  unfold gath rows
  rw [e1, e2]

/-- The load of the current slot stays inside it. -/
theorem slot_load_sub (i : grid0.Coords) :
    XM.view.setOn (Rect.unit (s := S2x256x1024) (k0_off11 i) S1x256x1024.size (k0_off11_inb i)).toLoadRect.set ⊆ slotSet (cur i) := by
  intro y hy
  obtain ⟨x, hx, rfl⟩ := Finset.mem_map.mp hy
  obtain ⟨j, hj, he⟩ := (LoadRect.mem_set _).mp hx 0
  have hj : j < 1 := hj
  have he : (x 0).val = k0_off11 i 0 + 1 * j := he
  have h0 : k0_off11 i 0 = (cur i).val := congrFun (off11_eq i) 0
  rw [mem_slot]
  exact Fin.ext (by show (x 0).val = (cur i).val; omega)

section Gates

variable (w : Fin 256 → BitVec 32) (i : grid0.Coords) (arg1 : Memref sig .tc .smem S1056 .i32) (harg1 : arg1.IsWhole) (arg2 : Memref sig .tc .smem S1x1x256 .i32) (harg2 : arg2.IsWhole) (arg3 : Memref sig .tc .smem S1x1x256 .i32) (harg3 : arg3.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S256x1024 .f32) (harg11 : arg11.IsWhole)

/-- The first block's start, when it is this block; nothing otherwise. -/
theorem gate1 {α : Type} {T : Prog (TpuEff nD τ sig (Elt F) Λ₀ .tc) α} {Q : α → sProp 𝕄} (q : PosShare TreeShare) (f : arg2.view.ty.Contents (Elt F))
    (hw : ∀ r : Fin 256, arg2.view.read (Elt F) f (ix3 0 0 r) = w r) (hlt : ∀ r, (w r).toNat < 65536) :
    iprop((if (i 0).val = 0 then idle c (cur i) hf else flight c (cur i) w hf) ∗ (arg2.view.loc (c : Thread nD τ) ↦[arg2.view.set]{q} f))
      ⊢ iprop((iprop(flight c (cur i) w hf ∗ (arg2.view.loc (c : Thread nD τ) ↦[arg2.view.set]{q} f)) -∗ wp frame (wpE defs₀ Variants.none (c : Thread nD τ) none) Set.univ T Q)
        -∗ wp frame (wpE defs₀ Variants.none (c : Thread nD τ) none) Set.univ
          (if h : k0_cond1 i = 1#1 then (Scf.Loop.for k0_t1_loop (k0_t1_ok i h) ⟨⟩ (body1 (F := F) i arg1 harg1 arg2 harg2 arg3 harg3 arg5 harg5 arg6 harg6 arg7 harg7 arg8 harg8 arg9 harg9 arg10 harg10 arg11 harg11 h) >>= fun _ => T) else T) Q) := by
  by_cases h : k0_cond1 i = 1#1
  · have hi := (cond1_iff i).mp h
    rw [if_pos hi, dif_pos h, cur_zero i hi, wp_bind]
    exact loop1 (Q := fun _ => wp frame (wpE defs₀ Variants.none (c : Thread nD τ) none) Set.univ T Q) c w hf i arg1 harg1 arg2 harg2 arg3 harg3 arg5 harg5 arg6 harg6 arg7 harg7 arg8 harg8 arg9 harg9 arg10 harg10 arg11 harg11 h q f hw hlt
  · rw [if_neg (fun hi => h ((cond1_iff i).mpr hi)), dif_neg h]
    iintro H Hk
    iapply Hk; iexact H

/-- The next block's start, when there is one. -/
theorem gate2 {α : Type} {T : Prog (TpuEff nD τ sig (Elt F) Λ₀ .tc) α} {Q : α → sProp 𝕄} (q : PosShare TreeShare) (f : arg3.view.ty.Contents (Elt F))
    (hw : ∀ r : Fin 256, arg3.view.read (Elt F) f (ix3 0 0 r) = w r) (hlt : ∀ r, (w r).toNat < 65536) :
    iprop(idle c (oth i) hf ∗ (arg3.view.loc (c : Thread nD τ) ↦[arg3.view.set]{q} f))
      ⊢ iprop((iprop((if (i 0).val + 1 < 1056 then flight c (oth i) w hf else idle c (oth i) hf) ∗ (arg3.view.loc (c : Thread nD τ) ↦[arg3.view.set]{q} f))
            -∗ wp frame (wpE defs₀ Variants.none (c : Thread nD τ) none) Set.univ T Q)
        -∗ wp frame (wpE defs₀ Variants.none (c : Thread nD τ) none) Set.univ
          (if h : k0_cond2 i = 1#1 then (Scf.Loop.for k0_t2_loop (k0_t2_ok i h) ⟨⟩ (body2 (F := F) i arg1 harg1 arg2 harg2 arg3 harg3 arg5 harg5 arg6 harg6 arg7 harg7 arg8 harg8 arg9 harg9 arg10 harg10 arg11 harg11 h) >>= fun _ => T) else T) Q) := by
  by_cases h : k0_cond2 i = 1#1
  · rw [if_pos ((cond2_iff i).mp h), dif_pos h, wp_bind]
    exact loop2 (Q := fun _ => wp frame (wpE defs₀ Variants.none (c : Thread nD τ) none) Set.univ T Q) c w hf i arg1 harg1 arg2 harg2 arg3 harg3 arg5 harg5 arg6 harg6 arg7 harg7 arg8 harg8 arg9 harg9 arg10 harg10 arg11 harg11 h q f hw hlt
  · rw [if_neg (fun hi => h ((cond2_iff i).mpr hi)), dif_neg h]
    iintro H Hk
    iapply Hk; iexact H

/-- The wait, at the head of what follows. -/
theorem gate3 {α : Type} {T : PUnit → Prog (TpuEff nD τ sig (Elt F) Λ₀ .tc) α} {Q : α → sProp 𝕄} :
    iprop(flight c (cur i) w hf ∗ ∃ W, owes (c : Thread nD τ) 0 W)
      ⊢ iprop((iprop(landed c (cur i) w hf ∗ ∃ W, owes (c : Thread nD τ) 0 W) -∗ wp frame (wpE defs₀ Variants.none (c : Thread nD τ) none) Set.univ (T ⟨⟩) Q)
        -∗ wp frame (wpE defs₀ Variants.none (c : Thread nD τ) none) Set.univ (Scf.Loop.for k0_t3_loop k0_t3_ok ⟨⟩ (body3 (F := F) i arg1 harg1 arg2 harg2 arg3 harg3 arg5 harg5 arg6 harg6 arg7 harg7 arg8 harg8 arg9 harg9 arg10 harg10 arg11 harg11) >>= T) Q) := by
  rw [wp_bind]
  exact loop3 (Q := fun x => wp frame (wpE defs₀ Variants.none (c : Thread nD τ) none) Set.univ (T x) Q) c w hf i arg1 harg1 arg2 harg2 arg3 harg3 arg5 harg5 arg6 harg6 arg7 harg7 arg8 harg8 arg9 harg9 arg10 harg10 arg11 harg11

end Gates

set_option maxHeartbeats 1000000 in
theorem run (i : grid0.Coords) (arg1 : Memref sig .tc .smem S1056 .i32) (harg1 : arg1.IsWhole) (arg2 : Memref sig .tc .smem S1x1x256 .i32) (harg2 : arg2.IsWhole) (arg3 : Memref sig .tc .smem S1x1x256 .i32) (harg3 : arg3.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x1x1024 .f32) (harg10 : arg10.IsWhole) (arg11 : Memref sig .tc .vmem S256x1024 .f32) (harg11 : arg11.IsWhole)
    (x0 x1 : Vec F S1x1x256 .i32) (x2 x3 : Vec F S1x1024x1024 .bf16) (x4 x5 : Vec F S1x1x1024 .f32) (x6 : Vec F S1x1024x1024 .bf16) (x7 : Vec F S1x1x1024 .f32)
    (h0 : ∀ r, (words x0 r).toNat < 65536) (h1 : ∀ r, (words x1 r).toNat < 65536) (q0 q1 q2 q3 q4 q5 q6 q7 : PosShare TreeShare) (K : PUnit → sProp 𝕄) :
    iprop(owns (c : Thread nD τ) arg2 q0 x0 ∗ owns (c : Thread nD τ) arg3 q1 x1 ∗ owns (c : Thread nD τ) arg5 q2 x2 ∗ owns (c : Thread nD τ) arg6 q3 x3 ∗ owns (c : Thread nD τ) arg7 q4 x4 ∗ owns (c : Thread nD τ) arg8 q5 x5 ∗ owns (c : Thread nD τ) arg9 q6 x6 ∗ owns (c : Thread nD τ) arg10 q7 x7 ∗ (∃ d, owns (c : Thread nD τ) arg11 fullShare d)
        ∗ slotsIn c hf i (words x0) ∗ (∃ W, owes (c : Thread nD τ) 0 W)
        ∗ (iprop(owns (c : Thread nD τ) arg2 q0 x0 ∗ owns (c : Thread nD τ) arg3 q1 x1 ∗ owns (c : Thread nD τ) arg5 q2 x2 ∗ owns (c : Thread nD τ) arg6 q3 x3 ∗ owns (c : Thread nD τ) arg7 q4 x4 ∗ owns (c : Thread nD τ) arg8 q5 x5 ∗ owns (c : Thread nD τ) arg9 q6 x6 ∗ owns (c : Thread nD τ) arg10 q7 x7 ∗ owns (c : Thread nD τ) arg11 fullShare (outv (words x0) hf x2 x3 x4 x5 x6 x7)
            ∗ slotsOut c hf i (words x1) ∗ (∃ W, owes (c : Thread nD τ) 0 W)) -∗ K ⟨⟩))
      ⊢ wp frame (wpE (defs₀ (F := F)) Variants.none (c : Thread nD τ) none) Set.univ
          (cc0_moe_experts i arg1 harg1 arg2 harg2 arg3 harg3 HM (Memref.isWhole_whole _) arg5 harg5 arg6 harg6 arg7 harg7 arg8 harg8 arg9 harg9 arg10 harg10 arg11 harg11 XM (Memref.isWhole_whole _) cc0_scratch1) K := by
  simp only [cc0_moe_experts_eq_skeleton]; unfold cc0_moe_experts_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HS, HO, Hk⟩
  obtain rfl := harg2.eq_unread hf0; obtain rfl := harg3.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  unfold slotsIn
  icases HS with ⟨HS, HI⟩
  rw [wp_bind]
  dsimp only
  iapply (gate1 c hf (words x0) i arg1 harg1 arg2 harg2 arg3 harg3 arg5 harg5 arg6 harg6 arg7 harg7 arg8 harg8 arg9 harg9 arg10 harg10 arg11 harg11 q0 (harg2.unread x0) (fun r => congrFun hf0 (ix3 0 0 r)) h0) $$ [HS H0]
  · isplitl [HS]; · iexact HS
    iexact H0
  iintro ⟨HS, H0⟩
  iapply (gate2 c hf (words x1) i arg1 harg1 arg2 harg2 arg3 harg3 arg5 harg5 arg6 harg6 arg7 harg7 arg8 harg8 arg9 harg9 arg10 harg10 arg11 harg11 q1 (harg3.unread x1) (fun r => congrFun hf1 (ix3 0 0 r)) h1) $$ [HI H1]
  · isplitl [HI]; · iexact HI
    iexact H1
  iintro ⟨HI, H1⟩
  iapply (gate3 c hf (words x0) i arg1 harg1 arg2 harg2 arg3 harg3 arg5 harg5 arg6 harg6 arg7 harg7 arg8 harg8 arg9 harg9 arg10 harg10 arg11 harg11) $$ [HS HO]
  · isplitl [HS]; · iexact HS
    iexact HO
  iintro ⟨HS, HO⟩
  unfold landed
  icases HS with ⟨HS, HX, HT⟩
  unfold slotAt
  iapply (wp_load Variants.none (c : Thread nD τ) none Set.univ (slot_load_sub i)) $$ HX
  iintro HX
  dsimp only [Prog.bind]
  rw [slot_load]
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; swap; · iexact H8
    ipureintro
    rw [View.read_writes_full]
    unfold run.sl.r run.sl.r_1 outv
    rw [loaded harg5 x2 zero3, loaded harg6 x3 zero3, loaded harg7 x4 zero3, loaded harg8 x5 zero3, loaded harg9 x6 zero3, loaded harg10 x7 zero3]
  isplitr [HO]
  · unfold slotsOut
    isplitl [HS HX HT]
    · iapply (landed_idle c (cur i) (words x0) hf)
      unfold landed
      isplitl [HS]; · iexact HS
      isplitl [HX]; · iexact HX
      iexact HT
    iexact HI
  iexact HO

end Run

end Cert.KernelIdeal.Hand

end
-- ==== Proof.KernelIdeal.Setup.lean ====
/-
  The launch of the expert kernel, its setting: the buffers as the grid finds them, the windows' blocks, the
  routing words of a block, and the invariant the grid points keep.
-/
module

public import proofs.«01_k».proof.Proof.KernelIdeal.Body
public import Idealize.ShloMosaic.Lib.Pipeline.FrameBody
public import Idealize.ShloMosaic.Lib.Pipeline.TalkSched
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## Before the grid -/

/-- Core `c`'s buffers when the grid starts: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The arguments. -/
def args : List (Ref sig .tc) := [main_arg0, main_arg1, main_arg2, main_arg3, main_arg4, main_arg5, main_arg6]

/-- No host operation writes an argument. -/
theorem V_arg (c : Dev nD) (b : Ref sig .tc) (hb : b ∈ args) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by revert b; decide)))

/-- The table's contents, and the grid's side condition at them. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The kernel body at point `t`, on the buffers it is called with. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) HM (Memref.isWhole_whole _) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) XM (Memref.isWhole_whole _) cc0_scratch1

/-- The body table's row at point `t` is that body. -/
theorem row_body (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-! ## The routing words -/

/-- A point's coordinate. -/
theorem coord (t : Fin grid0.N) : (grid0.coords t 0).val = t.val := by
  exact (by decide +kernel : ∀ t : Fin grid0.N, (grid0.coords t 0).val = t.val) t

/-- The token array. -/
abbrev tok (c : Dev nD) : S65536x1024.Idx → Elt F .f32 := V m c main_arg2
/-- The routing words as the host lays them out, block by block. -/
abbrev lay (c : Dev nD) : S1056x1x256.Idx → BitVec 32 := V m c main_v10
/-- Block `n`'s routing words. -/
def tw (c : Dev nD) (n : ℕ) : Fin 256 → BitVec 32 := fun r => lay m c (ix3 (Fin.ofNat 1056 n) 0 r)

/-- Where the two windows on the routing words, and the result's window, put a point's block. -/
theorem tr0_one : ∀ n : Fin 1056, cc0_transform_0 (one n) = ![n.val, 0, 0] := by decide +kernel
theorem tr1_one : ∀ n : Fin 1056, cc0_transform_1 (one n) = ![min (n.val + 1) 1055, 0, 0] := by decide +kernel
theorem tr9_one : ∀ n : Fin 1056, cc0_transform_9 (one n) = ![n.val, 0] := by decide +kernel
theorem tr0_eq (t : Fin grid0.N) : cc0_transform_0 (grid0.coords t) = ![t.val, 0, 0] := by
  have h := tr0_one (grid0.coords t 0); rw [one_eq, coord] at h; exact h
theorem tr1_eq (t : Fin grid0.N) : cc0_transform_1 (grid0.coords t) = ![min (t.val + 1) 1055, 0, 0] := by
  have h := tr1_one (grid0.coords t 0); rw [one_eq, coord] at h; exact h
theorem tr9_eq (t : Fin grid0.N) : cc0_transform_9 (grid0.coords t) = ![t.val, 0] := by
  have h := tr9_one (grid0.coords t 0); rw [one_eq, coord] at h; exact h

theorem words_cur (hO : Ok m) (c : Dev nD) (t : Fin (cfgM m hO).N) : words (F := F) (iblk m hO c 0 t) = tw m c t.val := by
  have ht : t.val < 1056 := lt_of_lt_of_eq t.isLt N_0
  funext r
  refine congrArg (lay m c) (funext fun a => Fin.ext ?_)
  show cc0_transform_0 (grid0.coords t) a * S1x1x256.size a + 1 * ((ix3 0 0 r : S1x1x256.Idx) a).val = ((ix3 (Fin.ofNat 1056 t.val) 0 r : S1056x1x256.Idx) a).val
  rw [tr0_eq t]
  fin_cases a
  · show t.val * 1 + 1 * 0 = t.val % 1056; omega
  · rfl
  · show 0 * 256 + 1 * r.val = r.val; omega

theorem words_next (hO : Ok m) (c : Dev nD) (t : Fin (cfgM m hO).N) : words (F := F) (iblk m hO c 1 t) = tw m c (min (t.val + 1) 1055) := by
  funext r
  refine congrArg (lay m c) (funext fun a => Fin.ext ?_)
  show cc0_transform_1 (grid0.coords t) a * S1x1x256.size a + 1 * ((ix3 0 0 r : S1x1x256.Idx) a).val = ((ix3 (Fin.ofNat 1056 (min (t.val + 1) 1055)) 0 r : S1056x1x256.Idx) a).val
  rw [tr1_eq t]
  fin_cases a
  · show min (t.val + 1) 1055 * 1 + 1 * 0 = min (t.val + 1) 1055 % 1056; omega
  · rfl
  · show 0 * 256 + 1 * r.val = r.val; omega

/-! ## What the points keep -/

/-- The two slots before point `t`: the rows of block `t` are under way, except before the first point and after the last. -/
def slots (c : Dev nD) (t : ℕ) : sProp 𝕄 :=
  iprop((if 0 < t ∧ t < 1056 then flight c (Fin.ofNat 2 t) (tw m c t) (tok m c) else idle c (Fin.ofNat 2 t) (tok m c)) ∗ idle c (Fin.ofNat 2 (t + 1)) (tok m c))

/-- Everything the points keep: the table's half, the generator's register, what is left of the token array, the two slots. -/
def kept (c : Dev nD) (t : ℕ) : sProp 𝕄 :=
  iprop(Pipeline.ΦT pre0 (tbl m) c ∗ (∃ r, prngReg c r) ∗ (HM.view.loc (c : Thread nD τ) ↦{Transfers.shareDrop fullShare 512} tok m c) ∗ slots m c t)

theorem ofNat_cur (i : grid0.Coords) : (Fin.ofNat 2 (i 0).val) = cur i := rfl
theorem ofNat_oth (i : grid0.Coords) : (Fin.ofNat 2 ((i 0).val + 1)) = oth i := Fin.ext (by show ((i 0).val + 1) % 2 = 1 - (i 0).val % 2; omega)
theorem ofNat_two (n : ℕ) : Fin.ofNat 2 (n + 1 + 1) = Fin.ofNat 2 n := Fin.ext (by show (n + 1 + 1) % 2 = n % 2; omega)

/-- The state before a point is the one its run starts from, -/
theorem slots_in (hO : Ok m) (c : Dev nD) (t : Fin (cfgM m hO).N) : slots m c t.val = slotsIn c (tok m c) (grid0.coords t) (words (F := F) (iblk m hO c 0 t)) := by
  have ht : t.val < 1056 := lt_of_lt_of_eq t.isLt N_0
  unfold slots slotsIn
  rw [words_cur, ← ofNat_cur, ← ofNat_oth, coord]
  by_cases h : t.val = 0
  · rw [if_pos h, if_neg (by omega)]
  · rw [if_neg h, if_pos ⟨by omega, ht⟩]

/-- and the state its run ends in is the one before the next. -/
theorem slots_out (hO : Ok m) (c : Dev nD) (t : Fin (cfgM m hO).N) : slotsOut c (tok m c) (grid0.coords t) (words (F := F) (iblk m hO c 1 t)) ⊢ slots m c (t.val + 1) := by
  have ht : t.val < 1056 := lt_of_lt_of_eq t.isLt N_0
  unfold slots slotsOut
  rw [words_next, ← ofNat_cur, ← ofNat_oth, coord, ofNat_two]
  by_cases h : t.val + 1 < 1056
  · rw [if_pos h, if_pos ⟨by omega, h⟩, show min (t.val + 1) 1055 = t.val + 1 from by omega]
    iintro ⟨H0, H1⟩; isplitl [H1]; · iexact H1
    iexact H0
  · rw [if_neg h, if_neg (fun hh => h hh.2)]
    iintro ⟨H0, H1⟩; isplitl [H1]; · iexact H1
    iexact H0

/-! ## Entering and leaving the grid -/

/-- The kernel's own counters. -/
def own : Fin 2 → SemLoc sig := fun p => .dma (cell p)

/-- 512 shares of the token array are the two slots' shares. -/
theorem toks (c : Dev nD) : (bigSep (Finset.range 512) (fun i => HM.view.loc (c : Thread nD τ) ↦{Transfers.shareTokN fullShare i} tok m c) : sProp 𝕄)
    = iprop(bigSep Finset.univ (tokAll c 0 (tok m c)) ∗ bigSep Finset.univ (tokAll c 1 (tok m c))) := by
  rw [← Ring.bigSep_fin_eq_range 512 (fun i : Fin 512 => (HM.view.loc (c : Thread nD τ) ↦{Transfers.shareTokN fullShare i.val} tok m c : sProp 𝕄)) _ (fun _ _ => rfl),
    ← Ring.rangeSet_univ, Ring.bigSep_rangeSet_split (a := 0) (b := 256) (d := 512) (by decide) (by decide),
    Ring.bigSep_rangeSet_eq_range (lo := 0) (hi := 256) (by decide) (fun k => (HM.view.loc (c : Thread nD τ) ↦{Transfers.shareTokN fullShare k} tok m c : sProp 𝕄)) (fun k h => congrArg (fun n => (HM.view.loc (c : Thread nD τ) ↦{Transfers.shareTokN fullShare n} tok m c : sProp 𝕄)) (Nat.zero_add k).symm),
    Ring.bigSep_rangeSet_eq_range (lo := 256) (hi := 512) (by decide) (fun k => (HM.view.loc (c : Thread nD τ) ↦{Transfers.shareTokN fullShare (256 + k)} tok m c : sProp 𝕄)) (fun k h => rfl),
    Ring.bigSep_fin_eq_range 256 (tokAll c 0 (tok m c)) (fun k => (HM.view.loc (c : Thread nD τ) ↦{Transfers.shareTokN fullShare k} tok m c : sProp 𝕄))
      (fun k h => by unfold tokAll share; rw [show 256 * (0 : Fin 2).val + k = k from by show 256 * 0 + k = k; omega]),
    Ring.bigSep_fin_eq_range 256 (tokAll c 1 (tok m c)) (fun k => (HM.view.loc (c : Thread nD τ) ↦{Transfers.shareTokN fullShare (256 + k)} tok m c : sProp 𝕄))
      (fun k h => rfl)]

theorem slots_rest (c : Dev nD) {t : ℕ} (h : ¬ (0 < t ∧ t < 1056)) (he : t % 2 = 0) : slots m c t = iprop(idle c 0 (tok m c) ∗ idle c 1 (tok m c)) := by
  unfold slots
  rw [if_neg h, show Fin.ofNat 2 t = 0 from Fin.ext he, show Fin.ofNat 2 (t + 1) = 1 from Fin.ext (by show (t + 1) % 2 = 1; omega)]

/-- The two-slot buffer is its two slots. -/
theorem two_slots (c : Dev nD) (f : S2x256x1024.Idx → Elt F .f32) : (XM.view.loc (c : Thread nD τ) ↦{fullShare} f : sProp 𝕄) = iprop(slotAt c 0 f ∗ slotAt c 1 f) := by
  rw [← Ring.bigSep_fin2 (fun p => slotAt c p f)]
  exact Ring.pointsTo_blocks (ℓ := XM.view.loc (c : Thread nD τ)) (q := fullShare) slotSet slots_disjoint slots_cover f

/-- What the launch hands over starts the invariant, -/
theorem kept_in (c : Dev nD) : iprop(ΦD own spec0 {main_arg2} (V m) c ∗ Pipeline.ΦT pre0 (tbl m) c) ⊢ kept m c 0 := by
  rw [ΦD_eq, scopedRest0_eq, bigSep_singleton]
  unfold kept ownSems0
  rw [Ring.bigSep_fin2, slots_rest m c (by omega) rfl]
  unfold idle
  iintro ⟨⟨⟨%f, HX⟩, Hr, ⟨S0, S1⟩, HM⟩, HT⟩
  ihave HX := (show _ ⊢ _ from Entails.of_eq (two_slots c f)) $$ HX
  icases HX with ⟨X0, X1⟩
  ihave HM := (show _ ⊢ _ from (Transfers.pointsTo_toks_range fullShare 512).1) $$ HM
  icases HM with ⟨HM, Hk⟩
  ihave Hk := (show _ ⊢ _ from Entails.of_eq (toks m c)) $$ Hk
  icases Hk with ⟨K0, K1⟩
  isplitl [HT]; · iexact HT
  isplitl [Hr]; · iexact Hr
  isplitl [HM]; · iexact HM
  isplitl [S0 X0 K0]
  · isplitl [S0]; · iexact S0
    isplitl [X0]; · iexists _; iexact X0
    iexact K0
  isplitl [S1]; · iexact S1
  isplitl [X1]; · iexists _; iexact X1
  iexact K1

/-- and after the last point it is handed back. -/
theorem kept_out (c : Dev nD) : kept m c 1056 ⊢ ΦD own spec0 {main_arg2} (V m) c := by
  rw [ΦD_eq, scopedRest0_eq, bigSep_singleton]
  unfold kept ownSems0
  rw [Ring.bigSep_fin2, slots_rest m c (by omega) rfl]
  unfold idle
  iintro ⟨HT, Hr, HM, ⟨S0, ⟨%f, X0⟩, K0⟩, S1, X1, K1⟩
  isplitl [X0 X1]
  · iapply (Ring.pointsTo_blocks_join_exists (ℓ := XM.view.loc (c : Thread nD τ)) (q := fullShare) slotSet slots_disjoint slots_cover f)
    rw [Ring.bigSep_fin2]
    isplitl [X0]; · iexists f; iexact X0
    iexact X1
  isplitl [Hr]; · iexact Hr
  isplitl [S0 S1]
  · isplitl [S0]; · iexact S0
    iexact S1
  iapply (show _ ⊢ _ from (Transfers.pointsTo_toks_range fullShare 512).2)
  isplitl [HM]; · iexact HM
  iapply (show _ ⊢ _ from Entails.of_eq (toks m c).symm)
  isplitl [K0]; · iexact K0
  iexact K1

end Cert.KernelIdeal.Hand

end
-- ==== Proof.KernelIdeal.Frame.lean ====
/-
  The launch of the expert kernel: the body at every grid point, the whole run with each result block named, and
  from it the arguments unchanged and every counter at zero.
-/
module

public import proofs.«01_k».proof.Proof.KernelIdeal.Setup
public import Idealize.ShloMosaic.Lib.Pipeline.FrameBody
public import Idealize.ShloMosaic.Lib.Pipeline.TalkSched
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The words the run follows stay in the token array. -/
abbrev Rows : Prop := ∀ (c : Dev nD) (n : ℕ) (r : Fin 256), (tw m c n r).toNat < 65536

/-- What the body leaves in the result's buffer at point `t`. -/
def block (hO : Ok m) (c : Dev nD) (t : Fin (cfgM m hO).N) : Vec F S256x1024 .f32 :=
  outv (words (F := F) (iblk m hO c 0 t)) (tok m c) (iblk m hO c 2 t) (iblk m hO c 3 t) (iblk m hO c 4 t) (iblk m hO c 5 t) (iblk m hO c 6 t) (iblk m hO c 7 t)

/-- The run's data: each input's buffer keeps its block, the result's buffer ends at `block`, the points keep `kept`. -/
def dats (hO : Ok m) (_ : Fin 1) (c : Dev nD) : Dat τ (Elt F) Unit ℕ (UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => block m hO c t
  Φ t := kept m c t.val
  q w := shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = iblk m hO c 7 t := by dsimp only [dats]; try rfl
theorem after_8 (hO : Ok m) (c : Dev nD) (t : Fin (cfgM m hO).N) : (dats m hO 0 c).after 8 t = block m hO c t := by dsimp only [dats]; try rfl

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (hO : Ok m) (c : Dev nD) (t : Fin (cfgM m hO).N) (d) : (dats m hO 0 c).before 7 t d = iblk m hO c 7 t :=
  ((dats m hO 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-! ## The body at every point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d))
    ∗ (∃ d, owns (c : Thread nD τ) (spec0_7.stage ((cfgM m hO).slots t 7)) fullShare ((dats m hO 0 c).before 7 t d))
    ∗ (∃ d, owns (c : Thread nD τ) (spec0_8.stage ((cfgM m hO).slots t 8)) fullShare ((dats m hO 0 c).before 8 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t)
    ∗ owns (c : Thread nD τ) (spec0_6.stage ((cfgM m hO).slots t 6)) fullShare ((dats m hO 0 c).after 6 t)
    ∗ owns (c : Thread nD τ) (spec0_7.stage ((cfgM m hO).slots t 7)) fullShare ((dats m hO 0 c).after 7 t)
    ∗ owns (c : Thread nD τ) (spec0_8.stage ((cfgM m hO).slots t 8)) fullShare ((dats m hO 0 c).after 8 t))

set_option maxHeartbeats 800000 in
theorem sound_body (hO : Ok m) (hR : Rows m) (c : Dev nD) (t : Fin (cfgM m hO).N) :
    bodyPre m hO c t ⊢ wp frame (wpE (defs₀ (F := F)) Variants.none (c : Thread nD τ) none) Set.univ (bodyAt (adm m hO) t) (fun _ => bodyPost m hO c t) := by
  unfold bodyPre bodyPost bodyAt
  simp only [before_0, before_1, before_2, before_3, before_4, before_5, before_6, before_7]
  rw [after_0, after_1, after_2, after_3, after_4, after_5, after_6, after_7, after_8,
    show (dats m hO 0 c).Φ t.succ = kept m c (t.val + 1) from rfl, show (dats m hO 0 c).Φ t.castSucc = kept m c t.val from rfl]
  unfold kept
  rw [slots_in m hO c t]
  iintro ⟨⟨HT, Hr, HM, HS⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave Ho := (Idealize.ShloMosaic.TalkSites.owesAt_elim (dats m hO 0 c) () t.castSucc 0 rfl) $$ Ho
  iapply (run c (tok m c) (grid0.coords t) _ (Memref.isWhole_whole _) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t)
    (fun r => by rw [words_cur]; exact hR c _ r) (fun r => by rw [words_next]; exact hR c _ r) fullShare fullShare fullShare fullShare fullShare fullShare fullShare fullShare _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS]; · iexact HS
  isplitl [Ho]; · iexact Ho
  iintro ⟨H0, H1, H2, H3, H4, H5, H6, H7, H8, HS, Ho⟩
  icases Ho with ⟨%W, Ho⟩
  isplitl [HT Hr HM HS]
  · isplitl [HT]; · iexact HT
    isplitl [Hr]; · iexact Hr
    isplitl [HM]; · iexact HM
    iapply (slots_out m hO c t); iexact HS
  isplitl [Ho]; · iapply (Idealize.ShloMosaic.TalkSites.owesAt_intro (dats m hO 0 c) () t.succ 0 rfl rfl W); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (hO : Ok m) (hR : Rows m) (c : Dev nD) : BodyObligation (dats (F := F) m hO 0 c) (defs₀ (F := F)) Variants.none () Set.univ := fun t => by
  rw [bigSep_W0, bigSep_W0, row_body m hO]
  exact triple_restated (sound_body m hO hR c t) rfl .rfl fun _ => .rfl

/-! ## The run -/

theorem arg2_rest : ({main_arg2} : Finset (Ref sig .tc)) ⊆ Pipeline.restRefsP sig pre0 spec0 := by decide
theorem own_facts : Pipeline.OwnSemFacts spec0 own := by decide

set_option backward.isDefEq.respectTransparency.types false in
/-- The whole run: every array as the grid leaves it, every counter at zero. -/
theorem run_all (hO : Ok m) (hR : Rows m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_dma_shared (Q' := _) pcfgs (fun _ => adm m hO) (dats m hO) (0 : Fin 1) launch₀0 own defs₀ Variants.none own_facts {main_arg2} arg2_rest m ρ main
    (hbody := fun c => (body_obligation m hO hR c).loose) (hq := fun _ _ _ => rfl)
    (howed := fun _ _ => rfl) (V := V m) (hmain := hmain m Variants.none) (hA := A_eq m hO) (hpf := V_pre m)
    (hin := kept_in m) (hout := fun c => kept_out m c)

end Cert.KernelIdeal.Hand

end
-- ==== Proof.KernelIdeal.Host.lean ====
/-
  The launch of the expert kernel: what the host hands the grid — the halves of the weights and biases, the
  routing words block by block — and where each block's expert number places the windows on them.
-/
module

public import proofs.«01_k».proof.Proof.KernelIdeal.Frame
public import Idealize.ShloMosaic.Lib.Pointwise.Reshape

@[expose] public section

set_option maxRecDepth 16384

noncomputable section

namespace Cert.KernelIdeal.Hand

open Idealize.ShloMosaic hiding ix1 ix2 ix3
open Idealize.ShloMosaic.TcCoe Idealize.ShloMosaic.Tactic
open Idealize.SL.Sem
open Idealize.ShloMosaic.Pipeline (Dat Cfg Window BodyObligation cellOf)
open Cert.KernelIdeal.Gen
open Idealize.ShloMosaic.ValueIdx

variable {F : FTy → Type} [FloatOps F]

variable (m : (ℓ : Loc nD τ sig) → Buf (Elt F) ℓ) (ρ : Dev nD → PrngReg)

/-! ## What the host operations leave -/

theorem V_v1 (c : Dev nD) : V m c main_v1 = (truncf .bf16 · bitsLt_bf16_f32) ((Host.slice S32x1024x1024 ![0, 0, 0] ![1, 1, 2] · slicesBy_S32x1024x2048_S32x1024x1024_0s1_0s1_0s2) (m ((c : Thread nD τ).loc main_arg3))) := by
  unfold_abbrev_sides; after_results
theorem V_v3 (c : Dev nD) : V m c main_v3 = (truncf .bf16 · bitsLt_bf16_f32) ((Host.slice S32x1024x1024 ![0, 0, 1] ![1, 1, 2] · slicesBy_S32x1024x2048_S32x1024x1024_0s1_0s1_1s2) (m ((c : Thread nD τ).loc main_arg3))) := by
  unfold_abbrev_sides; after_results
theorem V_v5 (c : Dev nD) : V m c main_v5 = broadcastInDim S32x1x1024 ![0, 2] bcast_S32x1024_S32x1x1024_0_2 ((Host.slice S32x1024 ![0, 0] ![1, 2] · slicesBy_S32x2048_S32x1024_0s1_0s2) (m ((c : Thread nD τ).loc main_arg4))) := by
  unfold_abbrev_sides; after_results
theorem V_v7 (c : Dev nD) : V m c main_v7 = broadcastInDim S32x1x1024 ![0, 2] bcast_S32x1024_S32x1x1024_0_2 ((Host.slice S32x1024 ![0, 1] ![1, 2] · slicesBy_S32x2048_S32x1024_0s1_1s2) (m ((c : Thread nD τ).loc main_arg4))) := by
  unfold_abbrev_sides; after_results
theorem V_v8 (c : Dev nD) : V m c main_v8 = (truncf .bf16 · bitsLt_bf16_f32) (m ((c : Thread nD τ).loc main_arg5)) := by
  unfold_abbrev_sides; after_results
theorem V_v9 (c : Dev nD) : V m c main_v9 = broadcastInDim S32x1x1024 ![0, 2] bcast_S32x1024_S32x1x1024_0_2 (m ((c : Thread nD τ).loc main_arg6)) := by
  unfold_abbrev_sides; after_results
theorem V_v10 (c : Dev nD) : lay m c = shapeCast S1056x1x256 (m ((c : Thread nD τ).loc main_arg1)) shapeCasts_S270336_S1056x1x256 := by
  unfold_abbrev_sides; after_results; rfl

/-! ## The two ranges -/

/-- The expert numbers and the routing words, as handed over, in range. -/
abbrev Experts : Prop := ∀ (c : Dev nD) (i : S1056.Idx), ((m ((c : Thread nD τ).loc main_arg0) : S1056.Idx → BitVec 32) i).toNat < 32
abbrev Words : Prop := ∀ (c : Dev nD) (i : S270336.Idx), ((m ((c : Thread nD τ).loc main_arg1) : S270336.Idx → BitVec 32) i).toNat < 65536

/-- A routing word laid out is the word of the flat array. -/
theorem lay_apply (c : Dev nD) (n : Fin 1056) (r : Fin 256) :
    lay m c (ix3 n 0 r) = (m ((c : Thread nD τ).loc main_arg1) : S270336.Idx → BitVec 32) (ix1 ⟨256 * n.val + r.val, by omega⟩) := by
  rw [V_v10]
  refine shapeCast_apply _ _ _ _ ?_
  refine (rowMajor_val1 _).trans (Eq.trans ?_ (rowMajor_val3 _ 256 256 rfl rfl).symm)
  show 256 * n.val + r.val = n.val * 256 + 0 * 256 + r.val; omega

theorem rows_of (h : Words m) : Rows m := fun c n r => by
  unfold tw; rw [V_v10]; exact h c _

/-- The expert of block `n`. -/
def ex (c : Dev nD) (n : ℕ) : Fin 32 := Fin.ofNat 32 ((m ((c : Thread nD τ).loc main_arg0) : S1056.Idx → BitVec 32) (ix1 (Fin.ofNat 1056 n))).toNat

/-- The windows on the weights read the block's entry of the table. -/
theorem tre (pf : pre0.Contents (Elt F)) (i : grid0.Coords) :
    cc0_transform_3 k0_off1_inb numel1_S1 pf i = ![((pf 0 : S1056.Idx → BitVec 32) (ix1 (i 0))).toNat, 0, 0] := by
  refine congrArg (fun b : BitVec 32 => ![b.toNat, 0, 0]) (congrArg (pf 0) (funext fun a => Fin.ext ?_))
  obtain ⟨a, ha⟩ := a
  obtain rfl : a = 0 := Nat.lt_one_iff.mp ha
  show (BitVec.ofNat 32 (i 0).val).toNat + 1 * 0 = (i 0).val
  have : (i 0).val < 1056 := (i 0).isLt
  rw [BitVec.toNat_ofNat]; omega

theorem ok_of (h : Experts m) : Ok m := by
  have key : ∀ i : grid0.Coords, ((tbl m 0 : S1056.Idx → BitVec 32) (ix1 (i 0))).toNat < 32 := fun i => by
    have e : tbl m 0 = m (((0 : Dev nD) : Thread nD τ).loc main_arg0) := V_arg m 0 main_arg0 (by decide)
    rw [e]; exact h 0 _
  have w (i : grid0.Coords) : ∀ a, (cc0_transform_3 k0_off1_inb numel1_S1 (tbl m) i a + 1) * S1x1024x1024.size a ≤ S32x1024x1024.size a := fun a => by
    have k := key i
    rw [tre]
    fin_cases a
    · show (((tbl m 0 : S1056.Idx → BitVec 32) (ix1 (i 0))).toNat + 1) * 1 ≤ 32; omega
    · show (0 + 1) * 1024 ≤ 1024; omega
    · show (0 + 1) * 1024 ≤ 1024; omega
  have b (i : grid0.Coords) : ∀ a, (cc0_transform_3 k0_off1_inb numel1_S1 (tbl m) i a + 1) * S1x1x1024.size a ≤ S32x1x1024.size a := fun a => by
    have k := key i
    rw [tre]
    fin_cases a
    · show (((tbl m 0 : S1056.Idx → BitVec 32) (ix1 (i 0))).toNat + 1) * 1 ≤ 32; omega
    · show (0 + 1) * 1 ≤ 1; omega
    · show (0 + 1) * 1024 ≤ 1024; omega
  exact ⟨fun i => ⟨w i, .inr (Affine.block_words_rows (by decide) rfl)⟩, fun i => ⟨w i, .inr (Affine.block_words_rows (by decide) rfl)⟩,
    fun i => ⟨b i, .inl rfl⟩, fun i => ⟨b i, .inl rfl⟩, fun i => ⟨w i, .inr (Affine.block_words_rows (by decide) rfl)⟩, fun i => ⟨b i, .inl rfl⟩⟩

/-- The place of the weight windows' block at a point. -/
theorem place (h : Experts m) (c : Dev nD) (t : Fin grid0.N) : cc0_transform_3 k0_off1_inb numel1_S1 (tbl m) (grid0.coords t) = ![(ex m c t.val).val, 0, 0] := by
  obtain rfl : c = 0 := Subsingleton.elim _ _
  have ht : t.val < 1056 := lt_of_lt_of_eq t.isLt N_0
  have e : tbl m 0 = m (((0 : Dev nD) : Thread nD τ).loc main_arg0) := V_arg m 0 main_arg0 (by decide)
  have k := h 0 (ix1 (Fin.ofNat 1056 t.val))
  rw [tre, e, show (grid0.coords t 0 : Fin 1056) = Fin.ofNat 1056 t.val from Fin.ext (by rw [coord]; show t.val = t.val % 1056; omega)]
  unfold ex
  rw [show (Fin.ofNat 32 ((m (((0 : Dev nD) : Thread nD τ).loc main_arg0) : S1056.Idx → BitVec 32) (ix1 (Fin.ofNat 1056 t.val))).toNat).val
    = ((m (((0 : Dev nD) : Thread nD τ).loc main_arg0) : S1056.Idx → BitVec 32) (ix1 (Fin.ofNat 1056 t.val))).toNat from Nat.mod_eq_of_lt k]

/-- An index of a weight array that lies in the block of point `t` at offset `y`. -/
theorem wpos (h : Experts m) (c : Dev nD) (t : Fin grid0.N) (y : S1x1024x1024.Idx) (j : S32x1024x1024.Idx)
    (hj : ∀ a, (j a).val = cc0_transform_3 k0_off1_inb numel1_S1 (tbl m) (grid0.coords t) a * S1x1024x1024.size a + 1 * (y a).val) :
    j = ix3 (ex m c t.val) (y 1) (y 2) := by
  rw [place m h c t] at hj
  refine funext fun a => Fin.ext ((hj a).trans ?_)
  fin_cases a
  · have h0 : (y 0).val < 1 := (y 0).isLt
    show (ex m c t.val).val * 1 + 1 * (y 0).val = (ex m c t.val).val
    omega
  · show 0 * 1024 + 1 * (y 1).val = (y 1).val; omega
  · show 0 * 1024 + 1 * (y 2).val = (y 2).val; omega

/-- An index of a bias array that lies in the block of point `t` at offset `y`. -/
theorem bpos (h : Experts m) (c : Dev nD) (t : Fin grid0.N) (y : S1x1x1024.Idx) (j : S32x1x1024.Idx)
    (hj : ∀ a, (j a).val = cc0_transform_3 k0_off1_inb numel1_S1 (tbl m) (grid0.coords t) a * S1x1x1024.size a + 1 * (y a).val) :
    j = ix3 (ex m c t.val) (y 1) (y 2) := by
  rw [place m h c t] at hj
  refine funext fun a => Fin.ext ((hj a).trans ?_)
  fin_cases a
  · have h0 : (y 0).val < 1 := (y 0).isLt
    show (ex m c t.val).val * 1 + 1 * (y 0).val = (ex m c t.val).val
    omega
  · show 0 * 1 + 1 * (y 1).val = (y 1).val; omega
  · show 0 * 1024 + 1 * (y 2).val = (y 2).val; omega

/-- Expert `e`'s slice of a weight array, and of a bias array. -/
abbrev wsl {α : Type} (x : S32x1024x1024.Idx → α) (e : Fin 32) : S1x1024x1024.Idx → α := fun y => x (ix3 e (y 1) (y 2))
abbrev bsl {α : Type} (x : S32x1x1024.Idx → α) (e : Fin 32) : S1x1x1024.Idx → α := fun y => x (ix3 e (y 1) (y 2))

/-- Every block of the weights and biases at a point is the expert's slice. -/
theorem blk_2 (h : Experts m) (hO : Ok m) (c : Dev nD) (t : Fin (cfgM m hO).N) : iblk m hO c 2 t = wsl (V m c main_v1) (ex m c t.val) :=
  funext fun y => congrArg (V m c main_v1) (wpos m h c t y _ fun _ => rfl)
theorem blk_3 (h : Experts m) (hO : Ok m) (c : Dev nD) (t : Fin (cfgM m hO).N) : iblk m hO c 3 t = wsl (V m c main_v3) (ex m c t.val) :=
  funext fun y => congrArg (V m c main_v3) (wpos m h c t y _ fun _ => rfl)
theorem blk_4 (h : Experts m) (hO : Ok m) (c : Dev nD) (t : Fin (cfgM m hO).N) : iblk m hO c 4 t = bsl (V m c main_v5) (ex m c t.val) :=
  funext fun y => congrArg (V m c main_v5) (bpos m h c t y _ fun _ => rfl)
theorem blk_5 (h : Experts m) (hO : Ok m) (c : Dev nD) (t : Fin (cfgM m hO).N) : iblk m hO c 5 t = bsl (V m c main_v7) (ex m c t.val) :=
  funext fun y => congrArg (V m c main_v7) (bpos m h c t y _ fun _ => rfl)
theorem blk_6 (h : Experts m) (hO : Ok m) (c : Dev nD) (t : Fin (cfgM m hO).N) : iblk m hO c 6 t = wsl (V m c main_v8) (ex m c t.val) :=
  funext fun y => congrArg (V m c main_v8) (wpos m h c t y _ fun _ => rfl)
theorem blk_7 (h : Experts m) (hO : Ok m) (c : Dev nD) (t : Fin (cfgM m hO).N) : iblk m hO c 7 t = bsl (V m c main_v9) (ex m c t.val) :=
  funext fun y => congrArg (V m c main_v9) (bpos m h c t y _ fun _ => rfl)

/-! ## The result -/

/-- Block `n` of the result. -/
def outb (c : Dev nD) (n : ℕ) : Vec F S256x1024 .f32 :=
  outv (tw m c n) (tok m c) (wsl (V m c main_v1) (ex m c n)) (wsl (V m c main_v3) (ex m c n)) (bsl (V m c main_v5) (ex m c n))
    (bsl (V m c main_v7) (ex m c n)) (wsl (V m c main_v8) (ex m c n)) (bsl (V m c main_v9) (ex m c n))

/-- The result: its blocks one under the other. -/
def out (c : Dev nD) : S270336x1024.Idx → Elt F .f32 := fun i => outb m c ((i 0).val / 256) (ix2 (Fin.ofNat 256 (i 0).val) (i 1))

theorem block_eq (h : Experts m) (hO : Ok m) (c : Dev nD) (t : Fin (cfgM m hO).N) : block m hO c t = outb m c t.val := by
  unfold block outb
  rw [words_cur, blk_2 m h, blk_3 m h, blk_4 m h, blk_5 m h, blk_6 m h, blk_7 m h]

/-- The result's window is written back at every point. -/
theorem flush_8 (hO : Ok m) : ∀ t : Fin (cfgM m hO).N, ((cfgM m hO).win 8).flush t = true :=
  (fun t => (Pipeline.Window.flushOf_reads cc0_transform_9 reads0_8 hreads0_8 0 (by decide) (by decide) (Pipeline.Window.sep_of_coord cc0_transform_9 0 0 (fun _ => rfl) (by decide)) (P := 1) (m := 0) (by decide) rfl t).mpr (Nat.mod_one _) :
    ∀ t : Fin grid0.N, Pipeline.Window.flushOf grid0 true cc0_transform_9 t = true)

/-- The result's block at point `t` is rows `256 t` to `256 t + 255`. -/
theorem emb_8 (hO : Ok m) (t : Fin (cfgM m hO).N) (y : S256x1024.Idx) (i : S270336x1024.Idx)
    (h0 : (i 0).val = 256 * t.val + (y 0).val) (h1 : (i 1).val = (y 1).val) : (((cfgM m hO).win 8).blk t).view.emb y = i := by
  refine funext fun a => Fin.ext ?_
  show cc0_transform_9 (grid0.coords t) a * S256x1024.size a + 1 * (y a).val = (i a).val
  rw [tr9_eq t]
  fin_cases a
  · refine Eq.trans ?_ h0.symm; show t.val * 256 + 1 * (y 0).val = _; omega
  · refine Eq.trans ?_ h1.symm; show 0 * 1024 + 1 * (y 1).val = _; omega

/-- After the grid the result's array is `out`. -/
theorem arr_8 (h : Experts m) (hO : Ok m) (c : Dev nD) : (dats m hO 0 c).arrAt 8 (cfgM m hO).N = out m c := by
  refine Dat.arrAt_eq_of_cover (dats m hO 0 c) 8 (out m c) (fun t _ => ?_) fun (i : S270336x1024.Idx) => ?_
  · rw [Dat.flushed, after_8, block_eq m h]
    have ht : t.val < 1056 := lt_of_lt_of_eq t.isLt N_0
    funext (y : S256x1024.Idx)
    have y0 : (y 0).val < 256 := (y 0).isLt
    have e := emb_8 m hO t y (ix2 ⟨256 * t.val + (y 0).val, by omega⟩ (y 1)) rfl rfl
    refine Eq.trans ?_ (congrArg (out m c) e).symm
    show outb m c t.val y = outb m c ((256 * t.val + (y 0).val) / 256) (ix2 (Fin.ofNat 256 (256 * t.val + (y 0).val)) (y 1))
    rw [show (256 * t.val + (y 0).val) / 256 = t.val from by omega]
    refine congrArg (outb m c t.val) (funext fun a => Fin.ext ?_)
    fin_cases a
    · show (y 0).val = (256 * t.val + (y 0).val) % 256; omega
    · rfl
  · have i0 : (i 0).val < 270336 := (i 0).isLt
    let t : Fin (cfgM m hO).N := ⟨(i 0).val / 256, lt_of_lt_of_eq (b := 1056) (by omega) N_0.symm⟩
    refine ⟨t, flush_8 m hO t, ?_⟩
    have e := emb_8 m hO t (ix2 (Fin.ofNat 256 (i 0).val) (i 1)) i (by show (i 0).val = 256 * ((i 0).val / 256) + (i 0).val % 256; omega) rfl
    have hm := (((cfgM m hO).win 8).blk t).view.emb_mem_set (ix2 (Fin.ofNat 256 (i 0).val) (i 1) : S256x1024.Idx)
    rwa [e] at hm

/-! ## The run, stated of the arguments and the result -/

theorem args_rest : ∀ b ∈ args, b ∈ Pipeline.restRefs sig spec0 := by decide

theorem run_out (hE : Experts m) (hW : Words m) : θ_run defs (onTc (τ := τ) (main (F := F))) ⟨m, fun _ => 0, ρ⟩
    (fun r => ((∀ c : Dev nD, r.2.mem ((c : Thread nD τ).loc main_v11) = out m c)
      ∧ ∀ (c : Dev nD), ∀ b ∈ args, r.2.mem ((c : Thread nD τ).loc b) = m ((c : Thread nD τ).loc b)) ∧ r.2.sem = fun _ => 0) :=
  θ_run_mono (run_all m ρ (ok_of m hE) (rows_of m hW)) fun r h =>
    ⟨⟨fun c => ((h.1 c).1 8).trans (arr_8 m hE _ c), fun c b hb => ((h.1 c).2 b (args_rest b hb)).trans (V_arg m c b hb)⟩, h.2⟩

/-- The arguments end unchanged and every counter at zero. -/
theorem frame (hE : Experts m) (hW : Words m) : θ_run defs (onTc (τ := τ) (main (F := F))) ⟨m, fun _ => 0, ρ⟩
    (fun r => (∀ c : Dev nD,
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6)) ∧ r.2.sem = fun _ => 0) :=
  θ_run_mono (run_out m ρ hE hW) fun r h => ⟨fun c =>
    have k := h.1.2 c
    ⟨k _ (by decide), k _ (by decide), k _ (by decide), k _ (by decide), k _ (by decide), k _ (by decide), k _ (by decide)⟩, h.2⟩

end Cert.KernelIdeal.Hand

end
-- ==== Proof.Value.Block.lean ====
/-
  The block the kernel stores, read at an index, and the host's halves of the weights and biases.
-/
module

public import proofs.«01_k».proof.Proof.Value.Expert
public import proofs.«01_k».proof.Proof.KernelIdeal.Host

@[expose] public section

set_option maxRecDepth 16384

noncomputable section

namespace Cert.Bridge

open Idealize.ShloMosaic Cert.KernelIdeal Cert.KernelIdeal.Facts₀ Cert.KernelIdeal.Gen Cert.KernelIdeal.Hand Idealize.ShloMosaic.TcCoe Idealize.SL.Sem

variable [Cert.KernelIdeal.Facts]

theorem pay2_apply (v : Vec Ideal S1x256x1024 .f32) (r : Fin 256) (k : Fin 1024) :
    k0_pay2 v (ix2 r k) = v (ix3 0 r k) := by
  pointwise [k0_pay2]

/-- A product with its bias: half of the first layer. -/
theorem pay3_apply (v : Vec Ideal S1x256x1024 .f32) (w : Vec Ideal S1x1024x1024 .bf16) (b : Vec Ideal S1x1x1024 .f32)
    (r : Fin 256) (j : Fin 1024) :
    k0_pay3 v w b (ix2 r j) = up (fun k => v (ix3 0 r k)) (fun k j => w (ix3 0 k j)) (fun j => b (ix3 0 0 j)) j := by
  pointwise [k0_pay3, pay2_apply, up]

/-- The other half, the activation, the second layer. -/
theorem pay1_apply (x : FVec Ideal S256x1024 .bf16) (u : FVec Ideal S256x1024 .f32) (w : Vec Ideal S1x1024x1024 .bf16)
    (b : Vec Ideal S1x1x1024 .f32) (w2 : Vec Ideal S1x1024x1024 .bf16) (b2 : Vec Ideal S1x1x1024 .f32) (r : Fin 256)
    (j : Fin 1024) :
    k0_pay1 x u w b w2 b2 (ix2 r j)
      = (∑ k : Fin 1024, act (u (ix2 r k)) (up (fun k => x (ix2 r k)) (fun k j => w (ix3 0 k j)) (fun j => b (ix3 0 0 j)) k)
          * w2 (ix3 0 k j)) + b2 (ix3 0 0 j) := by
  pointwise [k0_pay1, up, act, zero_sub]

theorem outv_apply (w : Fin 256 → BitVec 32) (hf : S65536x1024.Idx → Elt Ideal .f32) (x2 x3 : Vec Ideal S1x1024x1024 .bf16)
    (x4 x5 : Vec Ideal S1x1x1024 .f32) (x6 : Vec Ideal S1x1024x1024 .bf16) (x7 : Vec Ideal S1x1x1024 .f32) (r : Fin 256)
    (j : Fin 1024) :
    outv w hf x2 x3 x4 x5 x6 x7 (ix2 r j)
      = (∑ k : Fin 1024,
          act (up (fun k => hf (ix2 (tokOf (w r)) k)) (fun k j => x2 (ix3 0 k j)) (fun j => x4 (ix3 0 0 j)) k)
            (up (fun k => hf (ix2 (tokOf (w r)) k)) (fun k j => x3 (ix3 0 k j)) (fun j => x5 (ix3 0 0 j)) k)
          * x6 (ix3 0 k j)) + x7 (ix3 0 0 j) := by
  have hr : ∀ k, rows w hf (ix3 (0 : Fin 1) r k) = hf (ix2 (tokOf (w r)) k) := fun k =>
    congrArg hf (ix2_eq_valueIdx _ _).symm
  unfold outv
  rw [pay1_apply]
  simp only [pay3_apply, pay2_apply, hr]

variable (m : (ℓ : Loc nD τ sig) → Buf (Elt Ideal) ℓ)

/-- The stacks as the host hands them over, read at an index: the even columns of the first layer's weights are the
    gate half, the odd ones the linear half, and so are the biases'. -/
theorem half_gate (c : Dev nD) (e : Fin 32) (k j : Fin 1024) :
    (V m c main_v1 : S32x1024x1024.Idx → EReal) (ix3 e k j)
      = (m ((c : Thread nD τ).loc main_arg3) : S32x1024x2048.Idx → EReal) (ix3 e k (gateCol j)) := by
  rw [V_v1]; pointwise [gateCol]

theorem half_lin (c : Dev nD) (e : Fin 32) (k j : Fin 1024) :
    (V m c main_v3 : S32x1024x1024.Idx → EReal) (ix3 e k j)
      = (m ((c : Thread nD τ).loc main_arg3) : S32x1024x2048.Idx → EReal) (ix3 e k (linCol j)) := by
  rw [V_v3]; pointwise [linCol]

theorem bias_gate (c : Dev nD) (e : Fin 32) (j : Fin 1024) :
    (V m c main_v5 : S32x1x1024.Idx → EReal) (ix3 e 0 j)
      = (m ((c : Thread nD τ).loc main_arg4) : S32x2048.Idx → EReal) (ix2 e (gateCol j)) := by
  rw [V_v5]; pointwise [gateCol]

theorem bias_lin (c : Dev nD) (e : Fin 32) (j : Fin 1024) :
    (V m c main_v7 : S32x1x1024.Idx → EReal) (ix3 e 0 j)
      = (m ((c : Thread nD τ).loc main_arg4) : S32x2048.Idx → EReal) (ix2 e (linCol j)) := by
  rw [V_v7]; pointwise [linCol]

theorem second_layer (c : Dev nD) (e : Fin 32) (k j : Fin 1024) :
    (V m c main_v8 : S32x1024x1024.Idx → EReal) (ix3 e k j)
      = (m ((c : Thread nD τ).loc main_arg5) : S32x1024x1024.Idx → EReal) (ix3 e k j) := by
  rw [V_v8]; pointwise

theorem second_bias (c : Dev nD) (e : Fin 32) (j : Fin 1024) :
    (V m c main_v9 : S32x1x1024.Idx → EReal) (ix3 e 0 j)
      = (m ((c : Thread nD τ).loc main_arg6) : S32x1024.Idx → EReal) (ix2 e j) := by
  rw [V_v9]; pointwise

end Cert.Bridge

end
-- ==== Proof.Value.lean ====
/-
  The two results agree: row `256 n + r` of either is the expert of block `n` applied to the token its slot `r` names.
-/
module

public import proofs.«01_k».proof.Proof.Value.Reference
public import proofs.«01_k».proof.Proof.Value.Tables
public import proofs.«01_k».proof.Proof.Value.Block

@[expose] public section

set_option maxRecDepth 16384

noncomputable section

namespace Cert.Bridge

open Idealize.ShloMosaic Idealize.ShloMosaic.TcCoe Idealize.SL.Sem

variable [Cert.KernelIdeal.Facts] [Cert.ReferenceIdeal.Facts]

/-! ## The reference -/

section Reference
open Cert.ReferenceIdeal Cert.ReferenceIdeal.Facts₀

variable (m' : (ℓ : Loc nD τ sig) → Buf (Elt Ideal) ℓ) (c : Dev nD)

/-- The reference's composed term, its gathers named. -/
theorem ref_eq : Cert.ReferenceIdeal.Value.res_main_v93 m' c
    = shapeCast S270336x1024 (refOut
        (Host.gather gather_S65536x1024_S1056x256x1_S1056x256x1024_2_0_n_n_0_2_11024 (m' ((c.tc : Thread nD τ).loc main_arg2))
          (slotTable (m' ((c.tc : Thread nD τ).loc main_arg1))))
        (shapeCast S1056x1024x2048 (Host.gather gather_S32x1024x2048_S1056x3_S1056x1x1024x2048_123_n_n_n_012_1_110242048
            (m' ((c.tc : Thread nD τ).loc main_arg3)) (starts3 (m' ((c.tc : Thread nD τ).loc main_arg0)) 1024#32 2048#32))
          shapeCasts_S1056x1x1024x2048_S1056x1024x2048)
        (shapeCast S1056x2048 (Host.gather gather_S32x2048_S1056x2_S1056x1x2048_12_n_n_n_01_1_12048
            (m' ((c.tc : Thread nD τ).loc main_arg4)) (starts2 (m' ((c.tc : Thread nD τ).loc main_arg0)) 2048#32))
          shapeCasts_S1056x1x2048_S1056x2048)
        (shapeCast S1056x1024x1024 (Host.gather gather_S32x1024x1024_S1056x3_S1056x1x1024x1024_123_n_n_n_012_1_110241024
            (m' ((c.tc : Thread nD τ).loc main_arg5)) (starts3 (m' ((c.tc : Thread nD τ).loc main_arg0)) 1024#32 1024#32))
          shapeCasts_S1056x1x1024x1024_S1056x1024x1024)
        (shapeCast S1056x1024 (Host.gather gather_S32x1024_S1056x2_S1056x1x1024_12_n_n_n_01_1_11024
            (m' ((c.tc : Thread nD τ).loc main_arg6)) (starts2 (m' ((c.tc : Thread nD τ).loc main_arg0)) 1024#32))
          shapeCasts_S1056x1x1024_S1056x1024))
      shapeCasts_S1056x256x1024_S270336x1024 := rfl

/-- Row `256 n + r` of the reference, if block `n` has expert `z` and its slot `r` token `t`. -/
theorem ref_apply (n : Fin 1056) (r : Fin 256) (j : Fin 1024) (i : Fin 270336) (hi : i.val = 256 * n.val + r.val)
    (z : Fin 32) (hz : ((m' ((c.tc : Thread nD τ).loc main_arg0) : S1056.Idx → BitVec 32) (ix1 n)).toNat = z.val)
    (t : Fin 65536) (ht : ((m' ((c.tc : Thread nD τ).loc main_arg1) : S270336.Idx → BitVec 32) (ix1 i)).toNat = t.val) :
    (Cert.ReferenceIdeal.Value.res_main_v93 m' c : S270336x1024.Idx → EReal) (ix2 i j)
      = expert (fun k => (m' ((c.tc : Thread nD τ).loc main_arg2) : S65536x1024.Idx → EReal) (ix2 t k))
          (fun k j => (m' ((c.tc : Thread nD τ).loc main_arg3) : S32x1024x2048.Idx → EReal) (ix3 z k j))
          (fun j => (m' ((c.tc : Thread nD τ).loc main_arg4) : S32x2048.Idx → EReal) (ix2 z j))
          (fun k j => (m' ((c.tc : Thread nD τ).loc main_arg5) : S32x1024x1024.Idx → EReal) (ix3 z k j))
          (fun j => (m' ((c.tc : Thread nD τ).loc main_arg6) : S32x1024.Idx → EReal) (ix2 z j)) j := by
  rw [ref_eq]
  refine (shapeCast_apply _ _ _ (ix3 n r j) ?_).trans ?_
  · refine (rowMajor_val3 _ (256 * 1024) 1024 rfl rfl).trans (Eq.trans ?_ (rowMajor_val2 _ 1024 rfl).symm)
    show n.val * (256 * 1024) + r.val * 1024 + j.val = i.val * 1024 + j.val
    omega
  · rw [refOut_apply]
    congr 1
    · funext k; exact pick_row _ _ n r k i hi t ht
    · funext k j; exact pick_w1 _ _ _ _ n k j z hz
    · funext j; exact pick_b1 _ _ _ n j z hz
    · funext k j; exact pick_w2 _ _ _ _ n k j z hz
    · funext j; exact pick_b2 _ _ _ n j z hz

end Reference

/-! ## The kernel -/

section Kernel
open Cert.KernelIdeal Cert.KernelIdeal.Hand

variable (m : (ℓ : Loc nD τ sig) → Buf (Elt Ideal) ℓ) (c : Dev nD)

/-- Row `256 n + r` of the kernel's result, if block `n` has expert `z` and its slot `r` token `t`. -/
theorem out_apply (n : Fin 1056) (r : Fin 256) (j : Fin 1024) (i : Fin 270336) (hi : i.val = 256 * n.val + r.val)
    (z : Fin 32) (hz : ((m ((c.tc : Thread nD τ).loc main_arg0) : S1056.Idx → BitVec 32) (ix1 n)).toNat = z.val)
    (t : Fin 65536) (ht : ((m ((c.tc : Thread nD τ).loc main_arg1) : S270336.Idx → BitVec 32) (ix1 i)).toNat = t.val) :
    (out m c : S270336x1024.Idx → EReal) (ix2 i j)
      = expert (fun k => (m ((c.tc : Thread nD τ).loc main_arg2) : S65536x1024.Idx → EReal) (ix2 t k))
          (fun k j => (m ((c.tc : Thread nD τ).loc main_arg3) : S32x1024x2048.Idx → EReal) (ix3 z k j))
          (fun j => (m ((c.tc : Thread nD τ).loc main_arg4) : S32x2048.Idx → EReal) (ix2 z j))
          (fun k j => (m ((c.tc : Thread nD τ).loc main_arg5) : S32x1024x1024.Idx → EReal) (ix3 z k j))
          (fun j => (m ((c.tc : Thread nD τ).loc main_arg6) : S32x1024.Idx → EReal) (ix2 z j)) j := by
  have hn : Fin.ofNat 1056 n.val = n := Fin.ext (Nat.mod_eq_of_lt n.isLt)
  have he : ex m c n.val = z := by
    refine Fin.ext ?_
    show ((m ((c.tc : Thread nD τ).loc main_arg0) : S1056.Idx → BitVec 32) (ValueIdx.ix1 (Fin.ofNat 1056 n.val))).toNat % 32 = z.val
    rw [hn, ← ix1_eq_valueIdx, hz, Nat.mod_eq_of_lt z.isLt]
  have hw : tokOf (tw m c n.val r) = t := by
    refine Fin.ext ?_
    show (lay m c (ValueIdx.ix3 (Fin.ofNat 1056 n.val) 0 r)).toNat % 65536 = t.val
    rw [hn, lay_apply, ← ix1_eq_valueIdx,
      show (⟨256 * n.val + r.val, by omega⟩ : Fin 270336) = i from Fin.ext hi.symm, ht, Nat.mod_eq_of_lt t.isLt]
  have hq : i.val / 256 = n.val := by omega
  have hr : Fin.ofNat 256 i.val = r := Fin.ext (by show i.val % 256 = r.val; omega)
  show outb m c (i.val / 256) (ValueIdx.ix2 (Fin.ofNat 256 i.val) j) = _
  rw [hq, hr, ← ix2_eq_valueIdx]
  unfold outb
  rw [outv_apply, he, hw]
  have ht2 : tok m c = m ((c.tc : Thread nD τ).loc main_arg2) := V_arg m c main_arg2 (by decide)
  have hs : ∀ (x : S32x1024x1024.Idx → EReal) (k j : Fin 1024), wsl x z (ix3 (0 : Fin 1) k j) = x (ix3 z k j) := fun x k j =>
    congrArg x (ix3_eq_valueIdx _ _ _).symm
  have hb : ∀ (x : S32x1x1024.Idx → EReal) (j : Fin 1024), bsl x z (ix3 (0 : Fin 1) (0 : Fin 1) j) = x (ix3 z 0 j) := fun x j =>
    congrArg x (ix3_eq_valueIdx _ _ _).symm
  rw [ht2]
  exact expert_of_halves _ _ _ _ _ _ _ _ _ _ _ (fun k j => (hs (V m c main_v1) k j).trans (half_gate m c z k j))
    (fun k j => (hs (V m c main_v3) k j).trans (half_lin m c z k j)) (fun j => (hb (V m c main_v5) j).trans (bias_gate m c z j))
    (fun j => (hb (V m c main_v7) j).trans (bias_lin m c z j)) (fun k j => (hs (V m c main_v8) k j).trans (second_layer m c z k j))
    (fun j => (hb (V m c main_v9) j).trans (second_bias m c z j)) j

end Kernel

theorem result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hE : Cert.KernelIdeal.Hand.Experts m) (hW : Cert.KernelIdeal.Hand.Words m) :
    Cert.ReferenceIdeal.Value.res_main_v93 m' c = Cert.KernelIdeal.Hand.out m c := by
  obtain ⟨e0, e1, e2, e3, e4, e5, e6⟩ := e
  funext y
  obtain ⟨i, j, rfl⟩ : ∃ (i : Fin 270336) (j : Fin 1024), y = ix2 i j := ⟨y 0, y 1, eq_ix2 y⟩
  have hn : i.val / 256 < 1056 := by omega
  have hr : i.val % 256 < 256 := Nat.mod_lt _ (by decide)
  have hi : i.val = 256 * (i.val / 256) + i.val % 256 := (Nat.div_add_mod _ _).symm
  have hz := hE c (ix1 ⟨i.val / 256, hn⟩)
  have ht := hW c (ix1 i)
  refine (ref_apply m' c ⟨_, hn⟩ ⟨_, hr⟩ j i hi ⟨_, hz⟩ (by rw [e0]) ⟨_, ht⟩ (by rw [e1])).trans ?_
  rw [e2, e3, e4, e5, e6]
  exact (out_apply m c ⟨_, hn⟩ ⟨_, hr⟩ j i hi ⟨_, hz⟩ rfl ⟨_, ht⟩ rfl).symm

end Cert.Bridge

end
-- ==== Proof.Value.Norm.lean ====
/-
  The layer normalization of a row, entry by entry: the mathematics both programs compute.
-/
module

public import Idealize.ShloMosaic.Lib.Pointwise

@[expose] public section

noncomputable section

namespace Cert.Bridge

open Idealize.ShloMosaic

/-- The mean of a row of 1024 entries. -/
def mean (x : Fin 1024 → EReal) : EReal := Ideal.div (∑ k : Fin 1024, x k) (Ideal.ofBits .f32 0x44800000#32)

/-- Entry `k` of the row `x` normalized, with gain `g` and bias `b`. -/
def lnorm (x g b : Fin 1024 → EReal) (k : Fin 1024) : EReal :=
  (x k - mean x)
      * Ideal.rsqrt (Ideal.div (∑ l : Fin 1024, (x l - mean x) * (x l - mean x)) (Ideal.ofBits .f32 0x44800000#32)
          + Ideal.ofBits .f32 0x3727C5AC#32)
      * g k + b k

/-- Entry `k` of the normalized row, scaled by one more than `sc` and shifted by `sh`. -/
def modulate (x g b sc sh : Fin 1024 → EReal) (k : Fin 1024) : EReal :=
  lnorm x g b k * (Ideal.ofBits .f32 0x3F800000#32 + sc k) + sh k

/-- The columns of the input projection: the first 2048, and the last 512. -/
def lowCol (j : Fin 2048) : Fin 2560 := ⟨j.val, by omega⟩
def highCol (e : Fin 512) : Fin 2560 := ⟨2048 + e.val, by omega⟩

end Cert.Bridge

end
-- ==== Proof.In.Block.lean ====
/-
  The input projection's block, read at an index.
-/
module

public import proofs.«01_k».proof.Proof.Value.Norm
public import proofs.«01_k».proof.Proof.Gen.InKernelIdeal.Value

@[expose] public section

set_option maxRecDepth 16384

noncomputable section

namespace Cert.In

open Idealize.ShloMosaic Cert.InKernelIdeal Cert.InKernelIdeal.Facts₀ Cert.InKernelIdeal.Gen Cert.Bridge

variable [Cert.InKernelIdeal.Facts]

/-- The rows normalized and modulated. -/
theorem pay3_apply (x : Vec Ideal S1x512x1024 .f32) (g b : Vec Ideal S1x1024 .f32) (sc sh : Vec Ideal S1x1x1024 .f32)
    (r : Fin 512) (k : Fin 1024) :
    k0_pay3 x g b sc sh (ix2 r k)
      = modulate (fun k => x (ix3 0 r k)) (fun k => g (ix2 0 k)) (fun k => b (ix2 0 k)) (fun k => sc (ix3 0 0 k))
          (fun k => sh (ix3 0 0 k)) k := by
  pointwise [k0_pay3, modulate, lnorm, mean]

theorem pay1_apply (h : FVec Ideal S512x1024 .bf16) (w : Vec Ideal S1024x2048 .bf16) (r : Fin 512) (j : Fin 2048) :
    k0_pay1 h w (ix3 0 r j) = ∑ k : Fin 1024, h (ix2 r k) * w (ix2 k j) := by
  pointwise [k0_pay1]

theorem pay2_apply (h : FVec Ideal S512x1024 .bf16) (w : Vec Ideal S1024x512 .bf16) (d : Vec Ideal S512x1024 .bf16)
    (r : Fin 512) (j : Fin 1024) :
    k0_pay2 h w d (ix3 0 r j) = ∑ e : Fin 512, (∑ k : Fin 1024, h (ix2 r k) * w (ix2 k e)) * d (ix2 e j) := by
  pointwise [k0_pay2]

end Cert.In

end
-- ==== Proof.In.Kernel.lean ====
/-
  The input projection's two arrays after the grid: point `t` of the 128 does rows `512 (t % 8)` to
  `512 (t % 8) + 511` of batch `t / 8`.
-/
module

public import proofs.«01_k».proof.Proof.In.Block
public import Idealize.ShloMosaic.Lib.Pointwise.Reshape

@[expose] public section

set_option maxRecDepth 16384

noncomputable section

namespace Cert.In

open Idealize.ShloMosaic Cert.InKernelIdeal Cert.InKernelIdeal.Gen Cert.Bridge
open Idealize.ShloMosaic.TcCoe Idealize.ShloMosaic.Tactic Idealize.SL.Sem
open Idealize.ShloMosaic.Pipeline (Dat)

variable (m : (ℓ : Loc nD τ sig) → Buf (Elt Ideal) ℓ) (c : Dev nD)

/-! ## What the host hands over -/

theorem V_v0 : V m c main_v0 = shapeCast S1x1024 (m ((c : Thread nD τ).loc main_arg1)) shapeCasts_S1024_S1x1024 := by
  unfold_abbrev_sides; after_results; rfl
theorem V_v1 : V m c main_v1 = shapeCast S1x1024 (m ((c : Thread nD τ).loc main_arg2)) shapeCasts_S1024_S1x1024 := by
  unfold_abbrev_sides; after_results; rfl
theorem V_v2 : V m c main_v2 = (truncf .bf16 (m ((c : Thread nD τ).loc main_arg5) : FVec Ideal S1024x2560 .f32) bitsLt_bf16_f32 : FVec Ideal S1024x2560 .bf16) := by
  unfold_abbrev_sides; after_results
theorem V_v3 : V m c main_v3 = (truncf .bf16 (m ((c : Thread nD τ).loc main_arg6) : FVec Ideal S512x1024 .f32) bitsLt_bf16_f32 : FVec Ideal S512x1024 .bf16) := by
  unfold_abbrev_sides; after_results

theorem gain (k : Fin 1024) : (V m c main_v0 : S1x1024.Idx → EReal) (ix2 0 k) = (m ((c : Thread nD τ).loc main_arg1) : S1024.Idx → EReal) (ix1 k) := by
  rw [V_v0]; pointwise
theorem bias (k : Fin 1024) : (V m c main_v1 : S1x1024.Idx → EReal) (ix2 0 k) = (m ((c : Thread nD τ).loc main_arg2) : S1024.Idx → EReal) (ix1 k) := by
  rw [V_v1]; pointwise
theorem weight (k : Fin 1024) (j : Fin 2560) : (V m c main_v2 : S1024x2560.Idx → EReal) (ix2 k j) = (m ((c : Thread nD τ).loc main_arg5) : S1024x2560.Idx → EReal) (ix2 k j) := by
  rw [V_v2]; pointwise
theorem table (e : Fin 512) (j : Fin 1024) : (V m c main_v3 : S512x1024.Idx → EReal) (ix2 e j) = (m ((c : Thread nD τ).loc main_arg6) : S512x1024.Idx → EReal) (ix2 e j) := by
  rw [V_v3]; pointwise

/-! ## The windows' blocks -/

theorem tr0_eq : ∀ t : Fin grid0.N, cc0_transform_0 (grid0.coords t) = ![t.val / 8, t.val % 8, 0] := by decide +kernel
theorem tr1_eq : ∀ t : Fin grid0.N, cc0_transform_1 (grid0.coords t) = ![0, 0] := by decide +kernel
theorem tr2_eq : ∀ t : Fin grid0.N, cc0_transform_2 (grid0.coords t) = ![0, 0] := by decide +kernel
theorem tr3_eq : ∀ t : Fin grid0.N, cc0_transform_3 (grid0.coords t) = ![t.val / 8, 0, 0] := by decide +kernel
theorem tr4_eq : ∀ t : Fin grid0.N, cc0_transform_4 (grid0.coords t) = ![t.val / 8, 0, 0] := by decide +kernel
theorem tr5_eq : ∀ t : Fin grid0.N, cc0_transform_5 (grid0.coords t) = ![0, 0] := by decide +kernel
theorem tr6_eq : ∀ t : Fin grid0.N, cc0_transform_6 (grid0.coords t) = ![0, 0] := by decide +kernel
theorem tr7_eq : ∀ t : Fin grid0.N, cc0_transform_7 (grid0.coords t) = ![t.val / 8, t.val % 8, 0] := by decide +kernel
theorem tr8_eq : ∀ t : Fin grid0.N, cc0_transform_8 (grid0.coords t) = ![t.val / 8, t.val % 8, 0] := by decide +kernel

/-- The batch of point `t`, and where its row `r` lies in it. -/
def batch (t : Fin cfg0.N) : Fin 16 := ⟨t.val / 8, by have := lt_of_lt_of_eq t.isLt N_0; omega⟩
def place (t : Fin cfg0.N) (r : Fin 512) : Fin 4096 := ⟨512 * (t.val % 8) + r.val, by omega⟩

theorem blk0 (t : Fin cfg0.N) (r : Fin 512) (k : Fin 1024) :
    (iblk m c 0 t : S1x512x1024.Idx → EReal) (ix3 0 r k) = (m ((c : Thread nD τ).loc main_arg0) : S16x4096x1024.Idx → EReal) (ix3 (batch t) (place t r) k) := by
  refine (congrArg (V m c main_arg0) (funext fun a => Fin.ext ?_)).trans (congrFun (V_main_arg0 m c) (ix3 (batch t) (place t r) k))
  show cc0_transform_0 (grid0.coords t) a * S1x512x1024.size a + 1 * ((ix3 0 r k : S1x512x1024.Idx) a).val = _
  rw [tr0_eq]
  fin_cases a
  · show t.val / 8 * 1 + 1 * 0 = t.val / 8; omega
  · show t.val % 8 * 512 + 1 * r.val = 512 * (t.val % 8) + r.val; omega
  · show 0 * 1024 + 1 * k.val = k.val; omega

theorem blk3 (t : Fin cfg0.N) (k : Fin 1024) :
    (iblk m c 3 t : S1x1x1024.Idx → EReal) (ix3 0 0 k) = (m ((c : Thread nD τ).loc main_arg3) : S16x1x1024.Idx → EReal) (ix3 (batch t) 0 k) := by
  refine (congrArg (V m c main_arg3) (funext fun a => Fin.ext ?_)).trans (congrFun (V_main_arg3 m c) (ix3 (batch t) 0 k))
  show cc0_transform_3 (grid0.coords t) a * S1x1x1024.size a + 1 * ((ix3 0 0 k : S1x1x1024.Idx) a).val = _
  rw [tr3_eq]
  fin_cases a
  · show t.val / 8 * 1 + 1 * 0 = t.val / 8; omega
  · rfl
  · show 0 * 1024 + 1 * k.val = k.val; omega

theorem blk4 (t : Fin cfg0.N) (k : Fin 1024) :
    (iblk m c 4 t : S1x1x1024.Idx → EReal) (ix3 0 0 k) = (m ((c : Thread nD τ).loc main_arg4) : S16x1x1024.Idx → EReal) (ix3 (batch t) 0 k) := by
  refine (congrArg (V m c main_arg4) (funext fun a => Fin.ext ?_)).trans (congrFun (V_main_arg4 m c) (ix3 (batch t) 0 k))
  show cc0_transform_4 (grid0.coords t) a * S1x1x1024.size a + 1 * ((ix3 0 0 k : S1x1x1024.Idx) a).val = _
  rw [tr4_eq]
  fin_cases a
  · show t.val / 8 * 1 + 1 * 0 = t.val / 8; omega
  · rfl
  · show 0 * 1024 + 1 * k.val = k.val; omega

theorem blk1 (t : Fin cfg0.N) (k : Fin 1024) :
    (iblk m c 1 t : S1x1024.Idx → EReal) (ix2 0 k) = (m ((c : Thread nD τ).loc main_arg1) : S1024.Idx → EReal) (ix1 k) := by
  refine (congrArg (V m c main_v0) (funext fun a => Fin.ext ?_)).trans (gain m c k)
  show cc0_transform_1 (grid0.coords t) a * S1x1024.size a + 1 * ((ix2 0 k : S1x1024.Idx) a).val = _
  rw [tr1_eq]
  fin_cases a
  · rfl
  · show 0 * 1024 + 1 * k.val = k.val; omega

theorem blk2 (t : Fin cfg0.N) (k : Fin 1024) :
    (iblk m c 2 t : S1x1024.Idx → EReal) (ix2 0 k) = (m ((c : Thread nD τ).loc main_arg2) : S1024.Idx → EReal) (ix1 k) := by
  refine (congrArg (V m c main_v1) (funext fun a => Fin.ext ?_)).trans (bias m c k)
  show cc0_transform_2 (grid0.coords t) a * S1x1024.size a + 1 * ((ix2 0 k : S1x1024.Idx) a).val = _
  rw [tr2_eq]
  fin_cases a
  · rfl
  · show 0 * 1024 + 1 * k.val = k.val; omega

theorem blk5 (t : Fin cfg0.N) (k : Fin 1024) (j : Fin 2560) :
    (iblk m c 5 t : S1024x2560.Idx → EReal) (ix2 k j) = (m ((c : Thread nD τ).loc main_arg5) : S1024x2560.Idx → EReal) (ix2 k j) := by
  refine (congrArg (V m c main_v2) (funext fun a => Fin.ext ?_)).trans (weight m c k j)
  show cc0_transform_5 (grid0.coords t) a * S1024x2560.size a + 1 * ((ix2 k j : S1024x2560.Idx) a).val = _
  rw [tr5_eq]
  fin_cases a
  · show 0 * 1024 + 1 * k.val = k.val; omega
  · show 0 * 2560 + 1 * j.val = j.val; omega

theorem blk6 (t : Fin cfg0.N) (e : Fin 512) (j : Fin 1024) :
    (iblk m c 6 t : S512x1024.Idx → EReal) (ix2 e j) = (m ((c : Thread nD τ).loc main_arg6) : S512x1024.Idx → EReal) (ix2 e j) := by
  refine (congrArg (V m c main_v3) (funext fun a => Fin.ext ?_)).trans (table m c e j)
  show cc0_transform_6 (grid0.coords t) a * S512x1024.size a + 1 * ((ix2 e j : S512x1024.Idx) a).val = _
  rw [tr6_eq]
  fin_cases a
  · show 0 * 512 + 1 * e.val = e.val; omega
  · show 0 * 1024 + 1 * j.val = j.val; omega

/-! ## What a point writes back -/

/-- Row `r` of point `t`, normalized and modulated. -/
theorem rows_apply (x0 : Vec Ideal S1x512x1024 .f32) (x1 x2 : Vec Ideal S1x1024 .f32) (x3 x4 : Vec Ideal S1x1x1024 .f32)
    (x5 : Vec Ideal S1024x2560 .bf16) (x6 : Vec Ideal S512x1024 .bf16) (r : Fin 512) (k : Fin 1024) :
    Gen.k0_pay4 x0 x1 x2 x3 x4 x5 x6 (ix2 r k)
      = modulate (fun k => x0 (ix3 0 r k)) (fun k => x1 (ix2 0 k)) (fun k => x2 (ix2 0 k)) (fun k => x3 (ix3 0 0 k))
          (fun k => x4 (ix3 0 0 k)) k := by
  have z3 : (![0, 0, 0] : Fin 3 → ℕ) = fun _ => 0 := by decide
  have z2 : (![0, 0] : Fin 2 → ℕ) = fun _ => 0 := by decide
  unfold Gen.k0_pay4
  rw [View.ld_unit_zero z3, View.ld_unit_zero z2, View.ld_unit_zero z2, View.ld_unit_zero z3, View.ld_unit_zero z3]
  exact pay3_apply x0 x1 x2 x3 x4 r k

theorem left_apply (x5 : Vec Ideal S1024x2560 .bf16) (k : Fin 1024) (j : Fin 2048) :
    View.ld x5 r0_3 (ix2 k j) = x5 (ix2 k (lowCol j)) := by
  refine congrArg x5 (funext fun a => Fin.ext ?_)
  fin_cases a
  · show 0 + 1 * k.val = k.val; omega
  · show 0 + 1 * j.val = j.val; omega

theorem right_apply (x5 : Vec Ideal S1024x2560 .bf16) (k : Fin 1024) (e : Fin 512) :
    View.ld x5 r0_5 (ix2 k e) = x5 (ix2 k (highCol e)) := by
  refine congrArg x5 (funext fun a => Fin.ext ?_)
  fin_cases a
  · show 0 + 1 * k.val = k.val; omega
  · show 2048 + 1 * e.val = 2048 + e.val; omega

theorem out7_apply (x0 : Vec Ideal S1x512x1024 .f32) (x1 x2 : Vec Ideal S1x1024 .f32) (x3 x4 : Vec Ideal S1x1x1024 .f32)
    (x5 : Vec Ideal S1024x2560 .bf16) (x6 : Vec Ideal S512x1024 .bf16) (r : Fin 512) (j : Fin 2048) :
    out0_7 x0 x1 x2 x3 x4 x5 x6 (ix3 0 r j)
      = ∑ k : Fin 1024, modulate (fun k => x0 (ix3 0 r k)) (fun k => x1 (ix2 0 k)) (fun k => x2 (ix2 0 k))
          (fun k => x3 (ix3 0 0 k)) (fun k => x4 (ix3 0 0 k)) k * x5 (ix2 k (lowCol j)) := by
  have z3 : (![0, 0, 0] : Fin 3 → ℕ) = fun _ => 0 := by decide
  unfold out0_7
  rw [View.canon_unit_zero z3, pay1_apply]
  exact Finset.sum_congr rfl fun k _ => congrArg₂ (· * ·) (rows_apply x0 x1 x2 x3 x4 x5 x6 r k) (left_apply x5 k j)

theorem out8_apply (x0 : Vec Ideal S1x512x1024 .f32) (x1 x2 : Vec Ideal S1x1024 .f32) (x3 x4 : Vec Ideal S1x1x1024 .f32)
    (x5 : Vec Ideal S1024x2560 .bf16) (x6 : Vec Ideal S512x1024 .bf16) (r : Fin 512) (j : Fin 1024) :
    out0_8 x0 x1 x2 x3 x4 x5 x6 (ix3 0 r j)
      = ∑ e : Fin 512, (∑ k : Fin 1024, modulate (fun k => x0 (ix3 0 r k)) (fun k => x1 (ix2 0 k)) (fun k => x2 (ix2 0 k))
          (fun k => x3 (ix3 0 0 k)) (fun k => x4 (ix3 0 0 k)) k * x5 (ix2 k (highCol e))) * x6 (ix2 e j) := by
  have z3 : (![0, 0, 0] : Fin 3 → ℕ) = fun _ => 0 := by decide
  have z2 : (![0, 0] : Fin 2 → ℕ) = fun _ => 0 := by decide
  unfold out0_8
  rw [View.canon_unit_zero z3, View.ld_unit_zero z2, pay2_apply]
  exact Finset.sum_congr rfl fun e _ => congrArg (· * x6 (ix2 e j)) (Finset.sum_congr rfl fun k _ =>
    congrArg₂ (· * ·) (rows_apply x0 x1 x2 x3 x4 x5 x6 r k) (right_apply x5 k e))

/-! ## The two arrays -/

/-- Entry `j` of the projection of row `r` of batch `b`. -/
def proj (b : Fin 16) (r : Fin 4096) (j : Fin 2560) : EReal :=
  ∑ k : Fin 1024, modulate (fun k => (m ((c : Thread nD τ).loc main_arg0) : S16x4096x1024.Idx → EReal) (ix3 b r k))
      (fun k => (m ((c : Thread nD τ).loc main_arg1) : S1024.Idx → EReal) (ix1 k))
      (fun k => (m ((c : Thread nD τ).loc main_arg2) : S1024.Idx → EReal) (ix1 k))
      (fun k => (m ((c : Thread nD τ).loc main_arg3) : S16x1x1024.Idx → EReal) (ix3 b 0 k))
      (fun k => (m ((c : Thread nD τ).loc main_arg4) : S16x1x1024.Idx → EReal) (ix3 b 0 k)) k
    * (m ((c : Thread nD τ).loc main_arg5) : S1024x2560.Idx → EReal) (ix2 k j)

/-- The first result: the first 2048 columns of the projection. -/
def outS : S16x4096x2048.Idx → EReal := fun i => proj m c (i 0) (i 1) (lowCol (i 2))

/-- The second result: the other columns through the table. -/
def outZ : S16x4096x1024.Idx → EReal := fun i =>
  ∑ e : Fin 512, proj m c (i 0) (i 1) (highCol e) * (m ((c : Thread nD τ).loc main_arg6) : S512x1024.Idx → EReal) (ix2 e (i 2))

theorem emb7 (t : Fin cfg0.N) (r : Fin 512) (j : Fin 2048) :
    ((cfg0.win 7).blk t).view.emb (ix3 0 r j : S1x512x2048.Idx) = (ix3 (batch t) (place t r) j : S16x4096x2048.Idx) := by
  refine funext fun a => Fin.ext ?_
  show cc0_transform_7 (grid0.coords t) a * S1x512x2048.size a + 1 * ((ix3 0 r j : S1x512x2048.Idx) a).val = _
  rw [tr7_eq]
  fin_cases a
  · show t.val / 8 * 1 + 1 * 0 = t.val / 8; omega
  · show t.val % 8 * 512 + 1 * r.val = 512 * (t.val % 8) + r.val; omega
  · show 0 * 2048 + 1 * j.val = j.val; omega

theorem emb8 (t : Fin cfg0.N) (r : Fin 512) (j : Fin 1024) :
    ((cfg0.win 8).blk t).view.emb (ix3 0 r j : S1x512x1024.Idx) = (ix3 (batch t) (place t r) j : S16x4096x1024.Idx) := by
  refine funext fun a => Fin.ext ?_
  show cc0_transform_8 (grid0.coords t) a * S1x512x1024.size a + 1 * ((ix3 0 r j : S1x512x1024.Idx) a).val = _
  rw [tr8_eq]
  fin_cases a
  · show t.val / 8 * 1 + 1 * 0 = t.val / 8; omega
  · show t.val % 8 * 512 + 1 * r.val = 512 * (t.val % 8) + r.val; omega
  · show 0 * 1024 + 1 * j.val = j.val; omega

/-- Every row of every batch belongs to a point. -/
theorem point_of (b : Fin 16) (r : Fin 4096) : ∃ (t : Fin cfg0.N) (q : Fin 512), batch t = b ∧ place t q = r := by
  refine ⟨⟨8 * b.val + r.val / 512, lt_of_lt_of_eq (b := 128) (by omega) N_0.symm⟩, ⟨r.val % 512, by omega⟩, Fin.ext ?_, Fin.ext ?_⟩
  · show (8 * b.val + r.val / 512) / 8 = b.val; omega
  · show 512 * ((8 * b.val + r.val / 512) % 8) + r.val % 512 = r.val; omega

theorem arr7 : (dats m 0 c).arrAt 7 cfg0.N = outS m c := by
  refine Dat.arrAt_eq_of_cover (dats m 0 c) 7 (outS m c) (fun t _ => ?_) fun (i : S16x4096x2048.Idx) => ?_
  · rw [Dat.flushed, after0_7]
    funext (y : S1x512x2048.Idx)
    obtain ⟨r, j, rfl⟩ : ∃ (r : Fin 512) (j : Fin 2048), y = ix3 0 r j := ⟨y 1, y 2, (eq_ix3 y).trans (congrArg (ix3 · (y 1) (y 2)) (Subsingleton.elim (α := Fin 1) (y 0) 0))⟩
    refine Eq.trans ?_ (congrArg (outS m c) (emb7 t r j)).symm
    refine (out7_apply (iblk m c 0 t) (iblk m c 1 t) (iblk m c 2 t) (iblk m c 3 t) (iblk m c 4 t) (iblk m c 5 t) (iblk m c 6 t) r j).trans ?_
    simp only [blk0, blk1, blk2, blk3, blk4, blk5]
    rfl
  · obtain ⟨t, q, hb, hr⟩ := point_of (i 0) (i 1)
    refine ⟨t, flush0_7 t, ?_⟩
    have hm := ((cfg0.win 7).blk t).view.emb_mem_set (ix3 0 q (i 2) : S1x512x2048.Idx)
    have e := (emb7 t q (i 2)).trans ((congrArg₂ (ix3 · · (i 2)) hb hr).trans (eq_ix3 i).symm)
    exact Eq.mp (congrArg (· ∈ ((cfg0.win 7).blk t).view.set) e) hm

theorem arr8 : (dats m 0 c).arrAt 8 cfg0.N = outZ m c := by
  refine Dat.arrAt_eq_of_cover (dats m 0 c) 8 (outZ m c) (fun t _ => ?_) fun (i : S16x4096x1024.Idx) => ?_
  · rw [Dat.flushed, after0_8]
    funext (y : S1x512x1024.Idx)
    obtain ⟨r, j, rfl⟩ : ∃ (r : Fin 512) (j : Fin 1024), y = ix3 0 r j := ⟨y 1, y 2, (eq_ix3 y).trans (congrArg (ix3 · (y 1) (y 2)) (Subsingleton.elim (α := Fin 1) (y 0) 0))⟩
    refine Eq.trans ?_ (congrArg (outZ m c) (emb8 t r j)).symm
    refine (out8_apply (iblk m c 0 t) (iblk m c 1 t) (iblk m c 2 t) (iblk m c 3 t) (iblk m c 4 t) (iblk m c 5 t) (iblk m c 6 t) r j).trans ?_
    simp only [blk0, blk1, blk2, blk3, blk4, blk5, blk6]
    rfl
  · obtain ⟨t, q, hb, hr⟩ := point_of (i 0) (i 1)
    refine ⟨t, flush0_8 t, ?_⟩
    have hm := ((cfg0.win 8).blk t).view.emb_mem_set (ix3 0 q (i 2) : S1x512x1024.Idx)
    have e := (emb8 t q (i 2)).trans ((congrArg₂ (ix3 · · (i 2)) hb hr).trans (eq_ix3 i).symm)
    exact Eq.mp (congrArg (· ∈ ((cfg0.win 8).blk t).view.set) e) hm

end Cert.In

end
-- ==== Proof.In.Reference.lean ====
/-
  The input projection's reference, read at an index.
-/
module

public import proofs.«01_k».proof.Proof.Value.Norm
public import proofs.«01_k».proof.Proof.Gen.InReferenceIdeal.Run

@[expose] public section

set_option maxRecDepth 16384

noncomputable section

namespace Cert.In

open Idealize.ShloMosaic Cert.InReferenceIdeal Cert.InReferenceIdeal.Facts₀ Cert.Bridge

variable [Cert.InReferenceIdeal.Facts]

/-- The mean of every row. -/
def refMean (x : FVec Ideal S16x4096x1024 .f32) : FVec Ideal S16x4096x1 .f32 :=
  Host.divf (broadcastInDim S16x4096x1 ![0, 1] bcast_S16x4096_S16x4096x1_0_1
      (Host.reduceAdd x (constant S_ .f32 0x00000000#32) reducesTo_S16x4096x1024_S16x4096_d2 h_S_))
    (broadcastInDim S16x4096x1 ![] bcast_S_S16x4096x1 (constant S_ .f32 0x44800000#32))

/-- Every row less its mean. -/
def refDev (x : FVec Ideal S16x4096x1024 .f32) : FVec Ideal S16x4096x1024 .f32 :=
  subf x (broadcastInDim S16x4096x1024 ![0, 1, 2] bcast_S16x4096x1_S16x4096x1024_0_1_2 (refMean x))

theorem refDev_apply (x : FVec Ideal S16x4096x1024 .f32) (b : Fin 16) (t : Fin 4096) (k : Fin 1024) :
    refDev x (ix3 b t k) = x (ix3 b t k) - mean (fun k => x (ix3 b t k)) := by
  pointwise [refDev, refMean, mean]

/-- The rows normalized and modulated. -/
def refH (x : FVec Ideal S16x4096x1024 .f32) (g v : FVec Ideal S1024 .f32) (sc sh : FVec Ideal S16x1x1024 .f32) :
    FVec Ideal S16x4096x1024 .f32 :=
  addf (mulf (addf (mulf (mulf (refDev x) (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf (refDev x) (refDev x)) (constant S_ .f32 0x00000000#32) reducesTo_S16x4096x1024_S16x4096_d2 h_S_))
        (broadcastInDim S16x4096x1 ![] bcast_S_S16x4096x1 (constant S_ .f32 0x44800000#32)))
        (broadcastInDim S16x4096x1 ![] bcast_S_S16x4096x1 (constant S_ .f32 0x3727C5AC#32))))))
    (broadcastInDim S16x4096x1024 ![0, 1, 2] bcast_S1x1x1024_S16x4096x1024_0_1_2
      (broadcastInDim S1x1x1024 ![2] bcast_S1024_S1x1x1024_2 g)))
    (broadcastInDim S16x4096x1024 ![0, 1, 2] bcast_S1x1x1024_S16x4096x1024_0_1_2
      (broadcastInDim S1x1x1024 ![2] bcast_S1024_S1x1x1024_2 v)))
    (broadcastInDim S16x4096x1024 ![0, 1, 2] bcast_S16x1x1024_S16x4096x1024_0_1_2
      (addf (broadcastInDim S16x1x1024 ![] bcast_S_S16x1x1024 (constant S_ .f32 0x3F800000#32)) sc)))
    (broadcastInDim S16x4096x1024 ![0, 1, 2] bcast_S16x1x1024_S16x4096x1024_0_1_2 sh)

theorem refH_apply (x : FVec Ideal S16x4096x1024 .f32) (g v : FVec Ideal S1024 .f32) (sc sh : FVec Ideal S16x1x1024 .f32)
    (b : Fin 16) (t : Fin 4096) (k : Fin 1024) :
    refH x g v sc sh (ix3 b t k)
      = modulate (fun k => x (ix3 b t k)) (fun k => g (ix1 k)) (fun k => v (ix1 k)) (fun k => sc (ix3 b 0 k))
          (fun k => sh (ix3 b 0 k)) k := by
  pointwise [refH, refDev_apply, modulate, lnorm]

/-- The projection of the rows. -/
def refP (h : FVec Ideal S16x4096x1024 .f32) (w : FVec Ideal S1024x2560 .f32) : FVec Ideal S16x4096x2560 .f32 :=
  Host.dotGeneral dot_S16x4096x1024_S1024x2560_S16x4096x2560_2_0_01_1_n_n none h w

theorem refP_apply (h : FVec Ideal S16x4096x1024 .f32) (w : FVec Ideal S1024x2560 .f32) (b : Fin 16) (t : Fin 4096)
    (j : Fin 2560) : refP h w (ix3 b t j) = ∑ k : Fin 1024, h (ix3 b t k) * w (ix2 k j) := by
  pointwise [refP]

/-- Its first 2048 columns. -/
def refS (p : FVec Ideal S16x4096x2560 .f32) : FVec Ideal S16x4096x2048 .f32 :=
  extractStridedSlice S16x4096x2048 ![0, 0, 0] p slices_S16x4096x2560_S16x4096x2048_0_0_0

theorem refS_apply (p : FVec Ideal S16x4096x2560 .f32) (b : Fin 16) (t : Fin 4096) (j : Fin 2048) :
    refS p (ix3 b t j) = p (ix3 b t (lowCol j)) := by
  pointwise [refS, lowCol]

/-- The other 512, through the table. -/
def refZ (p : FVec Ideal S16x4096x2560 .f32) (d : FVec Ideal S512x1024 .f32) : FVec Ideal S16x4096x1024 .bf16 :=
  truncf .bf16 (Host.dotGeneral dot_S16x4096x512_S512x1024_S16x4096x1024_2_0_01_1_n_n none
    (extractStridedSlice S16x4096x512 ![0, 0, 2048] p slices_S16x4096x2560_S16x4096x512_0_0_2048) d) bitsLt_bf16_f32

theorem refZ_apply (p : FVec Ideal S16x4096x2560 .f32) (d : FVec Ideal S512x1024 .f32) (b : Fin 16) (t : Fin 4096)
    (j : Fin 1024) : refZ p d (ix3 b t j) = ∑ e : Fin 512, p (ix3 b t (highCol e)) * d (ix2 e j) := by
  pointwise [refZ, highCol]

/-! ## The run, its results named -/

open Idealize.ShloMosaic.TcCoe Idealize.SL.Sem

variable (m : (ℓ : Loc nD τ sig) → Buf (Elt Ideal) ℓ) (ρ : Dev nD → PrngReg)

/-- The projection of the reference's arguments. -/
def refProj (c : Dev nD) : FVec Ideal S16x4096x2560 .f32 :=
  refP (refH (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) (m ((c.tc : Thread nD τ).loc main_arg5))

theorem ref_run : θ_run defs (onTc (τ := τ) (main (F := Ideal))) ⟨m, fun _ => 0, ρ⟩ fun r => ∀ c : Dev nD,
      r.2.mem ((c.tc : Thread nD τ).loc main_v31) = refS (refProj m c)
      ∧ r.2.mem ((c.tc : Thread nD τ).loc main_v34) = refZ (refProj m c) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.InReferenceIdeal.Value.run m ρ

end Cert.In

end
-- ==== Proof.In.lean ====
/-
  The input projection: the kernel's two results are the reference's.
-/
module

public import proofs.«01_k».proof.Proof.In.Kernel
public import proofs.«01_k».proof.Proof.In.Reference

@[expose] public section

set_option maxRecDepth 16384

noncomputable section

namespace Cert.In

open Idealize.ShloMosaic Idealize.ShloMosaic.TcCoe Idealize.SL.Sem Cert.Bridge

section Reference
open Cert.InReferenceIdeal

variable [Cert.InReferenceIdeal.Facts] (m' : (ℓ : Loc nD τ sig) → Buf (Elt Ideal) ℓ) (c : Dev nD)

/-- The reference's projection at an index. -/
theorem refProj_apply (b : Fin 16) (r : Fin 4096) (j : Fin 2560) :
    refProj m' c (ix3 b r j) = ∑ k : Fin 1024,
      modulate (fun k => (m' ((c.tc : Thread nD τ).loc main_arg0) : S16x4096x1024.Idx → EReal) (ix3 b r k))
        (fun k => (m' ((c.tc : Thread nD τ).loc main_arg1) : S1024.Idx → EReal) (ix1 k))
        (fun k => (m' ((c.tc : Thread nD τ).loc main_arg2) : S1024.Idx → EReal) (ix1 k))
        (fun k => (m' ((c.tc : Thread nD τ).loc main_arg3) : S16x1x1024.Idx → EReal) (ix3 b 0 k))
        (fun k => (m' ((c.tc : Thread nD τ).loc main_arg4) : S16x1x1024.Idx → EReal) (ix3 b 0 k)) k
      * (m' ((c.tc : Thread nD τ).loc main_arg5) : S1024x2560.Idx → EReal) (ix2 k j) := by
  unfold refProj
  rw [refP_apply]
  simp only [refH_apply]

end Reference

theorem result (m : (ℓ : Loc Cert.InKernelIdeal.nD Cert.InKernelIdeal.τ Cert.InKernelIdeal.sig) → Buf (Elt Ideal) ℓ)
    (m' : (ℓ : Loc Cert.InReferenceIdeal.nD Cert.InReferenceIdeal.τ Cert.InReferenceIdeal.sig) → Buf (Elt Ideal) ℓ) (c : Dev Cert.InKernelIdeal.nD)
    (e : m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)) :
    refS (refProj m' c) = outS m c
      ∧ refZ (refProj m' c) (m' ((c.tc : Thread Cert.InReferenceIdeal.nD Cert.InReferenceIdeal.τ).loc Cert.InReferenceIdeal.main_arg6)) = outZ m c := by
  obtain ⟨e0, e1, e2, e3, e4, e5, e6⟩ := e
  have hp : ∀ (b : Fin 16) (r : Fin 4096) (j : Fin 2560), refProj m' c (ix3 b r j) = proj m c b r j := fun b r j => by
    rw [refProj_apply, e0, e1, e2, e3, e4, e5]; rfl
  constructor
  · funext y
    obtain ⟨b, r, j, rfl⟩ : ∃ (b : Fin 16) (r : Fin 4096) (j : Fin 2048), y = ix3 b r j := ⟨y 0, y 1, y 2, eq_ix3 y⟩
    exact (refS_apply _ b r j).trans (hp b r (lowCol j))
  · funext y
    obtain ⟨b, r, j, rfl⟩ : ∃ (b : Fin 16) (r : Fin 4096) (j : Fin 1024), y = ix3 b r j := ⟨y 0, y 1, y 2, eq_ix3 y⟩
    rw [e6]
    exact (refZ_apply _ _ b r j).trans (Finset.sum_congr rfl fun e _ => congrArg (· * _) (hp b r (highCol e)))

end Cert.In

end
-- ==== Proof.Out.Range.lean ====
/-
  The precondition, read: every slot word is below 270336.
-/
module

public import proofs.«01_k».proof.Proof.Gen.Pre_slots_in_range
public import proofs.«01_k».proof.Proof.InRange

@[expose] public section

namespace Cert.Pre_slots_in_range.Hand

open Idealize.ShloMosaic Idealize.SL.Sem
open Cert.Pre_slots_in_range

variable {F : FTy → Type} [FloatOps F]

/-- The precondition's range. -/
theorem range (x0 : IVec S4x65536 32) (x1 : FVec F S270336x1024 .f32) (x2 : FVec F S4x65536 .f32) (x3 : FVec F S16x4096x1024 .f32)
    (x4 : FVec F S16x1x1024 .f32) (x5 x6 : FVec F S1024 .f32) (h : fn x0 x1 x2 x3 x4 x5 x6 = fun _ => 1#1) :
    ∀ i, (x0 i).toNat < 270336 := by
  have e := congrFun h (fun a => a.elim0)
  unfold fn at e
  intro i
  obtain ⟨a, b⟩ := IntOp.andi_eq_one.1 (Host.reduce_andi_all _ _ _ _ _ e i)
  exact Cert.Pre_in_range.Hand.below _ 270336#32 (by decide) a b

end Cert.Pre_slots_in_range.Hand

end
-- ==== Proof.OutKernelIdeal.Rows.lean ====
/-
  The two-slot gather of the combine kernel: names for one row of the array of rows, one row of the
  two-slot buffer and one counter, the ghost state of the two slots, and one trip of the issuing loops.
-/
module

public import proofs.«01_k».proof.Proof.Gen.OutKernelIdeal.Launch
public import proofs.«01_k».proof.Proof.Gen.OutKernelIdeal.Skeleton
public import proofs.«01_k».proof.Proof.Gen.OutKernelIdeal.Loops
public import Idealize.ShloMosaic.Lib.Batch
public import Idealize.ShloMosaic.Lib.Ring
public import Idealize.ShloMosaic.Lib.Tactic
public import Idealize.ShloMosaic.Lib.ValueIdxCore
public import Idealize.ShloMosaic.Lib.Pipeline.FrameBody

@[expose] public section

set_option maxRecDepth 16384

noncomputable section

namespace Cert.OutKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.OutKernelIdeal.Gen
open Idealize.ShloMosaic.ValueIdx

variable {F : FTy → Type} [FloatOps F]

local notation "𝕄" => MT nD τ sig Unit (Elt F) ℕ (UD sig nD τ) ℕ

/-- The array of rows and the two-slot buffer, whole. -/
abbrev HM : Memref sig .tc .hbm S270336x1024 .f32 := Memref.whole main_arg1
abbrev XM : Memref sig .tc .vmem S2x512x1024 .f32 := Memref.whole cc0_scratch0

/-- One row of the two-slot buffer, one row of the array of rows and one counter, at an offset. -/
def rowO (off : Fin 3 → ℕ) (h : ∀ a, off a + S1x1x1024.size a ≤ S2x512x1024.size a) : Memref sig .tc .vmem S1x1024 .f32 :=
  (XM.slice (Rect.unit (s := S2x512x1024) off S1x1x1024.size h) (fun _ => rfl)).squeeze S1x1024 squeezes_S1x1x1024_S1x1024
def srcO (off : Fin 2 → ℕ) (h : ∀ a, off a + S1x1024.size a ≤ S270336x1024.size a) : Memref sig .tc .hbm S1x1024 .f32 :=
  HM.slice (Rect.unit (s := S270336x1024) off S1x1024.size h) (fun _ => rfl)
def cellO (off : Fin 1 → ℕ) (h : ∀ a, off a + S1.size a ≤ S2.size a) : DmaSem sig :=
  ((cc0_scratch1.slice (Rect.unit (s := S2) off S1.size h)).squeeze S_ squeezes_S1_S_).sem

theorem row_inb (p : Fin 2) (r : Fin 512) : ∀ a, (![p.val, r.val, 0] : Fin 3 → ℕ) a + S1x1x1024.size a ≤ S2x512x1024.size a := by
  have := p.isLt; have := r.isLt; intro a; fin_cases a
  · show p.val + 1 ≤ 2; omega
  · show r.val + 1 ≤ 512; omega
  · show 0 + 1024 ≤ 1024; omega
theorem src_inb (n : Fin 270336) : ∀ a, (![n.val, 0] : Fin 2 → ℕ) a + S1x1024.size a ≤ S270336x1024.size a := by
  have := n.isLt; intro a; fin_cases a
  · show n.val + 1 ≤ 270336; omega
  · show 0 + 1024 ≤ 1024; omega
theorem cell_inb (p : Fin 2) : ∀ a, (![p.val] : Fin 1 → ℕ) a + S1.size a ≤ S2.size a := by
  have := p.isLt; intro a; fin_cases a; show p.val + 1 ≤ 2; omega

/-- Row `r` of slot `p`, row `n` of the array of rows, the counter of slot `p`. -/
def row (p : Fin 2) (r : Fin 512) := rowO ![p.val, r.val, 0] (row_inb p r)
def src (n : Fin 270336) := srcO ![n.val, 0] (src_inb n)
def cell (p : Fin 2) : DmaSem sig := cellO ![p.val] (cell_inb p)

theorem rowO_eq {off : Fin 3 → ℕ} {h} (p : Fin 2) (r : Fin 512) (e : off = ![p.val, r.val, 0]) : rowO off h = row p r := by
  subst e; rfl
theorem srcO_eq {off : Fin 2 → ℕ} {h} (n : Fin 270336) (e : off = ![n.val, 0]) : srcO off h = src n := by
  subst e; rfl
theorem cellO_eq {off : Fin 1 → ℕ} {h} (p : Fin 2) (e : off = ![p.val]) : cellO off h = cell p := by
  subst e; rfl

/-- The row a word names. -/
def tokOf (w : BitVec 32) : Fin 270336 := ⟨w.toNat % 270336, Nat.mod_lt _ (by decide)⟩

/-- The two-slot buffer with row `r` of either slot the row the `r`-th word names. -/
def gath (w : Fin 512 → BitVec 32) (hf : S270336x1024.Idx → Elt F .f32) : S2x512x1024.Idx → Elt F .f32 :=
  fun y => hf (ix2 (tokOf (w (y 1))) (y 2))

/-! ## Where the rows lie -/

theorem row_emb (p : Fin 2) (r : Fin 512) (x : S1x1024.Idx) : (row p r).view.emb x = ix3 p r (x 1) := by
  unfold row rowO
  show (Rect.unit (s := S2x512x1024) ![p.val, r.val, 0] S1x1x1024.size (row_inb p r)).emb (Shape.reshapeEquiv _ x) = _
  rw [Shape.reshapeEquiv_cons_one (d := ![1, 1024])]
  funext a; apply Fin.ext; match a with
  | ⟨0, _⟩ => show p.val + 1 * 0 = p.val; omega
  | ⟨1, _⟩ => have h : (x 0).val < 1 := (x 0).isLt; show r.val + 1 * (x 0).val = r.val; omega
  | ⟨2, _⟩ => show 0 + 1 * (x 1).val = (x 1).val; omega

theorem src_emb (n : Fin 270336) (x : S1x1024.Idx) : (src n).view.emb x = ix2 n (x 1) := by
  unfold src srcO
  show (Rect.unit (s := S270336x1024) ![n.val, 0] S1x1024.size (src_inb n)).emb x = _
  funext a; apply Fin.ext; match a with
  | ⟨0, _⟩ => have h : (x 0).val < 1 := (x 0).isLt; show n.val + 1 * (x 0).val = n.val; omega
  | ⟨1, _⟩ => show 0 + 1 * (x 1).val = (x 1).val; omega

/-- Row `r` of slot `p`, and row `n` of the array of rows, as elements of the buffers. -/
def rowSet (p : Fin 2) (r : Fin 512) : Finset S2x512x1024.Idx := (row p r).view.set
def srcSet (n : Fin 270336) : Finset S270336x1024.Idx := (src n).view.set

theorem mem_row (p : Fin 2) (r : Fin 512) (y : S2x512x1024.Idx) : y ∈ rowSet p r ↔ y 0 = p ∧ y 1 = r := by
  constructor
  · intro h
    obtain ⟨x, hx⟩ := (Finset.mem_map.mp h : ∃ x, x ∈ Finset.univ ∧ (row p r).view.emb x = y)
    rw [← hx.2, row_emb]; exact And.intro rfl rfl
  · intro h
    have e : y = (row p r).view.emb (ix2 0 (y 2) : S1x1024.Idx) := by
      rw [row_emb]; funext a; match a with
      | ⟨0, _⟩ => exact h.1
      | ⟨1, _⟩ => exact h.2
      | ⟨2, _⟩ => rfl
    rw [e]; exact View.emb_mem_set _ _

/-- Slot `p`'s elements. -/
def slotSet (p : Fin 2) : Finset S2x512x1024.Idx := Finset.univ.filter fun y => (y 0).val = p.val
theorem mem_slot (p : Fin 2) (y : S2x512x1024.Idx) : y ∈ slotSet p ↔ y 0 = p := by
  unfold slotSet; rw [Finset.mem_filter]; exact (and_iff_right (Finset.mem_univ y)).trans Fin.ext_iff.symm

theorem rows_disjoint (p : Fin 2) : ∀ r r' : Fin 512, r ≠ r' → Disjoint (rowSet p r) (rowSet p r') := by
  intro r r' h; rw [Finset.disjoint_left]; intro y hy hy'
  exact h (((mem_row p r y).mp hy).2.symm.trans ((mem_row p r' y).mp hy').2)
theorem rows_cover (p : Fin 2) : Finset.univ.biUnion (rowSet p) = slotSet p := by
  refine Finset.ext fun y => ?_
  rw [Finset.mem_biUnion, mem_slot]
  constructor
  · intro h; obtain ⟨r, hr⟩ := h; exact ((mem_row p r y).mp hr.2).1
  · intro h; exact Exists.intro (y 1) (And.intro (Finset.mem_univ _) ((mem_row p (y 1) y).mpr (And.intro h rfl)))
theorem slots_disjoint : ∀ p p' : Fin 2, p ≠ p' → Disjoint (slotSet p) (slotSet p') := by
  intro p p' h; rw [Finset.disjoint_left]; intro y hy hy'
  exact h (((mem_slot p y).mp hy).symm.trans ((mem_slot p' y).mp hy'))
theorem slots_cover : Finset.univ.biUnion slotSet = Finset.univ := by
  refine Finset.ext fun y => ?_
  rw [Finset.mem_biUnion]
  exact iff_of_true (Exists.intro (y 0) (And.intro (Finset.mem_univ _) ((mem_slot (y 0) y).mpr rfl))) (Finset.mem_univ _)

/-- What a row's transfer leaves in the row is the row the word names. -/
theorem row_write (p : Fin 2) (r : Fin 512) (n : Fin 270336) (w : Fin 512 → BitVec 32) (hn : tokOf (w r) = n) (hf : S270336x1024.Idx → Elt F .f32)
    (fd : S2x512x1024.Idx → Elt F .f32) (y : S2x512x1024.Idx) (hy : y ∈ rowSet p r) :
    (row p r).view.write (Elt F) fd ((src n).view.read (Elt F) hf) Finset.univ y = gath w hf y := by
  subst hn
  obtain ⟨x, hx⟩ := (Finset.mem_map.mp hy : ∃ x, x ∈ Finset.univ ∧ (row p r).view.emb x = y)
  rw [← hx.2]
  refine (View.write_emb_of_mem (v := (row p r).view) fd _ (Finset.mem_univ x)).trans ?_
  exact (congrArg hf (src_emb (tokOf (w r)) x)).trans (congrArg (gath w hf) (row_emb p r x)).symm

/-! ## The ghost state of a slot -/

section State

variable (c : Dev nD)

/-- A row held at contents `f`; the share of the array of rows lent with row `r` of slot `p`. -/
abbrev rowAt (p : Fin 2) (r : Fin 512) (f : S2x512x1024.Idx → Elt F .f32) : sProp 𝕄 :=
  XM.view.loc (c : Thread nD τ) ↦[rowSet p r]{fullShare} f
abbrev share (p : Fin 2) (r : Fin 512) : PosShare TreeShare := Transfers.shareTokN fullShare (512 * p.val + r.val)

/-- A row held at some contents; its share of the array of rows whole; the row of it that is lent; what stays behind. -/
def rowOwn (p : Fin 2) (r : Fin 512) : sProp 𝕄 := iprop(∃ f, rowAt c p r f)
def tokAll (p : Fin 2) (hf : S270336x1024.Idx → Elt F .f32) (r : Fin 512) : sProp 𝕄 :=
  HM.view.loc (c : Thread nD τ) ↦{share p r} hf
def tokLent (p : Fin 2) (w : Fin 512 → BitVec 32) (hf : S270336x1024.Idx → Elt F .f32) (r : Fin 512) : sProp 𝕄 :=
  HM.view.loc (c : Thread nD τ) ↦[srcSet (tokOf (w r))]{share p r} hf
def tokRest (p : Fin 2) (w : Fin 512 → BitVec 32) (hf : S270336x1024.Idx → Elt F .f32) (r : Fin 512) : sProp 𝕄 :=
  HM.view.loc (c : Thread nD τ) ↦[Finset.univ \ srcSet (tokOf (w r))]{share p r} hf

/-- What row `r`'s transfer delivers: the row at the gathered contents and the lent row of the array of rows. -/
def deliv (p : Fin 2) (w : Fin 512 → BitVec 32) (hf : S270336x1024.Idx → Elt F .f32) (r : Fin 512) : sProp 𝕄 :=
  iprop(rowAt c p r (gath w hf) ∗ tokLent c p w hf r)

instance deliv_storable (p : Fin 2) (w : Fin 512 → BitVec 32) (hf : S270336x1024.Idx → Elt F .f32) (r : Fin 512) :
    BI.Storable (upEmb : UEmb _ 𝕄) (deliv c p w hf r) := by
  unfold deliv tokLent; infer_instance

/-- One row's credit. -/
abbrev NN : ℕ := (row 0 0).view.dmaCredit

/-- The 512 row transfers on slot `p`'s counter: `j` started, `u` units taken. -/
abbrev batch (p : Fin 2) (w : Fin 512 → BitVec 32) (hf : S270336x1024.Idx → Elt F .f32) (j u : ℕ) : sProp 𝕄 :=
  Transfers.Batch (countersEmb (U := UD sig nD τ)) (c : Thread nD τ) (.dma (cell p)) () NN (deliv c p w hf) j u

/-- Starting row `k`'s transfer, whatever the offsets it is spelt with. -/
theorem issue_core {α : Type} (p : Fin 2) (k : Fin 512) (n : Fin 270336) (w : Fin 512 → BitVec 32) (hf : S270336x1024.Idx → Elt F .f32)
    (hn : tokOf (w k) = n) {offS offD offC hS hD hC} (eS : offS = ![n.val, 0]) (eD : offD = ![p.val, k.val, 0]) (eC : offC = ![p.val])
    {hsrc : (srcO offS hS).view.WordExact} {hdst : (rowO offD hD).view.WordExact}
    {hsem : DmaTarget.Typed (nD := nD) (p := (.tc : Proc τ)) .hbm (.dma (cellO offC hC)) (.here (rowO offD hD))}
    {K : PUnit → Prog (TpuEff nD τ sig (Elt F) Λ₀ .tc) α} {Q : α → sProp 𝕄} :
    iprop(batch c p w hf k.val 0 ∗ rowOwn c p k ∗ tokAll c p hf k)
      ⊢ iprop((iprop(batch c p w hf (k.val + 1) 0 ∗ tokRest c p w hf k) -∗ wp frame (wpE defs₀ Variants.none (c : Thread nD τ) none) Set.univ (K ⟨⟩) Q)
        -∗ wp frame (wpE defs₀ Variants.none (c : Thread nD τ) none) Set.univ
            (.op (.enqueueDma (srcO offS hS) (.here (rowO offD hD)) (.dma (cellO offC hC)) hsrc hdst hsem) K) Q) := by
  subst eS eD eC
  unfold rowOwn tokAll
  iintro ⟨HB, ⟨%g, HR⟩, HT⟩ Hk
  ihave HT' := (pointsTo_split_subset (Finset.subset_univ (srcSet n))).1 $$ HT
  icases HT' with ⟨HT, Hrest⟩
  iapply (Transfers.wp_dmaBatch (countersEmb (U := UD sig nD τ)) Variants.none (c : Thread nD τ) none () NN (src := src n) (dst := row p k) (sm := .dma (cell p))
    (Sd := rowSet p k) (q := share p k) (fs := hf) (fd := g) (D := deliv c p w hf) (j := k.val) (u := 0) rfl subset_rfl k.isLt (Nat.zero_le _) ?_) $$ [HT HR HB]
  · unfold deliv tokLent
    rw [hn]
    iintro ⟨HR, HT⟩
    isplitl [HR]
    · iapply (Entails.of_eq (pointsTo_congr (fun y hy => row_write p k n w hn hf g y hy))); iexact HR
    · iexact HT
  · isplitl [HT]; · iexact HT
    isplitl [HR]
    · iexact HR
    · iexact HB
  iintro HB
  iapply Hk
  isplitl [HB]; · iexact HB
  unfold tokRest; rw [hn]; iexact Hrest

end State

end Cert.OutKernelIdeal.Hand

end
-- ==== Proof.OutKernelIdeal.Trips.lean ====
/-
  One trip of each of the combine kernel's three loops: the loop that starts the first block's row
  transfers, the loop that starts the next block's, and the loop that waits for the current block's.
-/
module

public import proofs.«01_k».proof.Proof.OutKernelIdeal.Rows

@[expose] public section

set_option maxRecDepth 16384

noncomputable section

namespace Cert.OutKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.OutKernelIdeal.Gen
open Idealize.ShloMosaic.ValueIdx

variable {F : FTy → Type} [FloatOps F]

local notation "𝕄" => MT nD τ sig Unit (Elt F) ℕ (UD sig nD τ) ℕ

theorem trips1 : k0_t1_loop.trips = 512 := by decide +kernel
theorem trips2 : k0_t2_loop.trips = 512 := by decide +kernel
theorem trips3 : k0_t3_loop.trips = 512 := by decide +kernel

/-- The number of a grid point: the points run row by row. -/
def num (i : grid0.Coords) : ℕ := (i 0).val * 32 + (i 1).val

theorem num_lt (i : grid0.Coords) : num i < 512 := by
  have h0 : (i 0).val < 16 := (i 0).isLt
  have h1 : (i 1).val < 32 := (i 1).isLt
  unfold num; omega

/-- The slot the current block uses and the other one. -/
def cur (i : grid0.Coords) : Fin 2 := ⟨num i % 2, Nat.mod_lt _ (by decide)⟩
def oth (i : grid0.Coords) : Fin 2 := ⟨1 - num i % 2, by omega⟩

/-- The grid coordinates of the point in row `a` and column `b`. -/
def two (a : Fin 16) (b : Fin 32) : grid0.Coords := fun k => match k with | ⟨0, _⟩ => a | ⟨1, _⟩ => b
theorem two_eq (i : grid0.Coords) : two (i 0) (i 1) = i := by
  funext k; match k with
  | ⟨0, _⟩ => rfl
  | ⟨1, _⟩ => rfl

/-- What holds at every row and column holds at every grid point. -/
theorem at_two {P : grid0.Coords → Prop} (h : ∀ (a : Fin 16) (b : Fin 32), P (two a b)) (i : grid0.Coords) : P i := by
  have k := h (i 0) (i 1); rwa [two_eq] at k

theorem cell_oth : ∀ i : grid0.Coords, k0_off5 i 0 = (oth i).val := at_two (by decide +kernel)
theorem cell_cur : ∀ i : grid0.Coords, k0_off8 i 0 = (cur i).val := at_two (by decide +kernel)
theorem cond1_iff : ∀ i : grid0.Coords, k0_cond1 i = 1#1 ↔ num i = 0 := at_two (by decide +kernel)
theorem cond2_iff : ∀ i : grid0.Coords, k0_cond2 i = 1#1 ↔ num i + 1 < 512 := at_two (by decide +kernel)

theorem cellO_oth (i : grid0.Coords) : k0_off5 i = ![(oth i).val] := by
  funext a; match a with | ⟨0, _⟩ => exact cell_oth i
theorem cellO_cur (i : grid0.Coords) : k0_off8 i = ![(cur i).val] := by
  funext a; match a with | ⟨0, _⟩ => exact cell_cur i
theorem rowO_oth (i : grid0.Coords) (k : Fin k0_t2_loop.trips) : k0_off6 i k = ![(oth i).val, k.val, 0] := by
  funext a; match a with
  | ⟨0, _⟩ => exact cell_oth i
  | ⟨1, _⟩ => exact congrFun (k0_off4_eq k) 2
  | ⟨2, _⟩ => rfl
theorem rowO_cur (i : grid0.Coords) (k : Fin k0_t3_loop.trips) : k0_off9 i k = ![(cur i).val, k.val, 0] := by
  funext a; match a with
  | ⟨0, _⟩ => exact cell_cur i
  | ⟨1, _⟩ => exact congrFun (k0_off1_eq k) 2
  | ⟨2, _⟩ => rfl

/-- The `k`-th quarter of the current slot, by the offset its load is spelt with. -/
theorem load_eq (i : grid0.Coords) : k0_off10 i = ![(cur i).val, 0, 0] ∧ k0_off11 i = ![(cur i).val, 128, 0]
    ∧ k0_off12 i = ![(cur i).val, 256, 0] ∧ k0_off13 i = ![(cur i).val, 384, 0] := by
  refine ⟨?_, ?_, ?_, ?_⟩ <;>
  · funext a; match a with
    | ⟨0, _⟩ => exact cell_cur i
    | ⟨1, _⟩ => rfl
    | ⟨2, _⟩ => rfl

section Issue

variable (c : Dev nD) (p : Fin 2) (w : Fin 512 → BitVec 32) (hf : S270336x1024.Idx → Elt F .f32)

/-- Before trip `k` of an issuing loop: `k` transfers started; the rows and the shares of the array of rows from `k` on in
    hand; of the shares before `k` what is not lent; the block's words. -/
def issueAt (M : Memref sig .tc .smem S1x1x512 .i32) (q : PosShare TreeShare) (f : M.view.ty.Contents (Elt F)) (k : ℕ) (_ : Unit) : sProp 𝕄 :=
  iprop(batch c p w hf k 0 ∗ bigSep (Ring.rangeSet 512 k 512) (rowOwn c p) ∗ bigSep (Ring.rangeSet 512 k 512) (tokAll c p hf)
    ∗ bigSep (Ring.rangeSet 512 0 k) (tokRest c p w hf) ∗ (M.view.loc (c : Thread nD τ) ↦[M.view.set]{q} f))

/-- The word a loop loads at trip `k`, by the offset it is spelt with. -/
theorem word_at (k : Fin 512) (off : Fin 3 → ℕ) (e : off = ![0, 0, k.val]) (h : ∀ a, off a + S1x1x1.size a ≤ S1x1x512.size a)
    (h0 : 0 < (Rect.unit (s := S1x1x512) off S1x1x1.size h).toLoadRect.shape.numel) :
    ((Rect.unit (s := S1x1x512) off S1x1x1.size h).toLoadRect.idx (Shape.Idx.first h0) : S1x1x512.Idx) = ix3 0 0 k := by
  subst e
  refine funext fun a => Fin.ext ?_
  match a with
  | ⟨0, _⟩ => rfl
  | ⟨1, _⟩ => rfl
  | ⟨2, _⟩ => show k.val + 1 * 0 = k.val; omega

theorem chk_of (v : BitVec 32) (h : v.toNat < 270336) : ∀ a, (k0_off3 v) a + S1x1024.size a ≤ S270336x1024.size a := by
  intro a; fin_cases a
  · show v.toNat + 1 ≤ 270336; omega
  · show 0 + 1024 ≤ 1024; omega

theorem tok_of (v : BitVec 32) (h : v.toNat < 270336) : (tokOf v).val = v.toNat := Nat.mod_eq_of_lt h

variable (i : grid0.Coords) (arg2 : Memref sig .tc .smem S1x1x512 .i32) (harg2 : arg2.IsWhole) (arg3 : Memref sig .tc .smem S1x1x512 .i32) (harg3 : arg3.IsWhole) (arg5 : Memref sig .tc .vmem S128x4 .f32) (harg5 : arg5.IsWhole) (arg6 : Memref sig .tc .vmem S1x128x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x128x1024 .f32) (harg10 : arg10.IsWhole)

/-- The loops' bodies on the launch's operands. -/
abbrev body1 (h : k0_cond1 i = 1#1) := k0_t1_body (F := F) i arg2 harg2 arg3 harg3 HM (Memref.isWhole_whole _) arg5 harg5 arg6 harg6 arg7 harg7 arg8 harg8 arg9 harg9 arg10 harg10 XM (Memref.isWhole_whole _) cc0_scratch1 h
abbrev body2 (h : k0_cond2 i = 1#1) := k0_t2_body (F := F) i arg2 harg2 arg3 harg3 HM (Memref.isWhole_whole _) arg5 harg5 arg6 harg6 arg7 harg7 arg8 harg8 arg9 harg9 arg10 harg10 XM (Memref.isWhole_whole _) cc0_scratch1 h
abbrev body3 := k0_t3_body (F := F) i arg2 harg2 arg3 harg3 HM (Memref.isWhole_whole _) arg5 harg5 arg6 harg6 arg7 harg7 arg8 harg8 arg9 harg9 arg10 harg10 XM (Memref.isWhole_whole _) cc0_scratch1

/-- One trip of the loop that starts the first block's transfers. -/
theorem trip1 (h : k0_cond1 i = 1#1) (q : PosShare TreeShare) (f : arg2.view.ty.Contents (Elt F))
    (hw : ∀ r : Fin 512, arg2.view.read (Elt F) f (ix3 0 0 r) = w r) (hlt : ∀ r, (w r).toNat < 270336)
    (k : Fin k0_t1_loop.trips) (acc : Unit) :
    issueAt c 0 w hf arg2 q f k acc ⊢ wp frame (wpE defs₀ Variants.none (c : Thread nD τ) none) Set.univ
      (body1 i arg2 harg2 arg3 harg3 arg5 harg5 arg6 harg6 arg7 harg7 arg8 harg8 arg9 harg9 arg10 harg10 h k acc)
      (issueAt c 0 w hf arg2 q f (k.val + 1)) := by
  have hk : k.val < 512 := trips1 ▸ k.isLt
  unfold issueAt
  rw [Ring.bigSep_rangeSet_head (Φ := rowOwn c 0) (by omega) (by omega), Ring.bigSep_rangeSet_head (Φ := tokAll c 0 hf) (by omega) (by omega)]
  iintro ⟨HB, ⟨HR, HRs⟩, ⟨HT, HTs⟩, HL, HM⟩
  unfold body1 k0_t1_body
  sl_exec
  have hv : trip1.sl.r i arg2 h f k = w ⟨k.val, hk⟩ := by
    unfold trip1.sl.r
    rw [← hw]
    exact congrArg (arg2.view.read (Elt F) f) (word_at ⟨k.val, hk⟩ _ (k0_off1_eq k) _ _)
  rw [hv]
  iapply (wp_assume Variants.none (c : Thread nD τ) none Set.univ (fun _ => chk_of _ (hlt _)))
  have e1 := k0_off2_eq k
  have e2 : k0_off3 (w ⟨k.val, hk⟩) = ![(tokOf (w ⟨k.val, hk⟩)).val, 0] := by rw [tok_of _ (hlt _)]; rfl
  iapply (issue_core c 0 ⟨k.val, hk⟩ (tokOf (w ⟨k.val, hk⟩)) w hf rfl e2 e1 rfl) $$ [HB HR HT]
  · isplitl [HB]; · iexact HB
    isplitl [HR]; · iexact HR
    iexact HT
  iintro ⟨HB, HX⟩
  dsimp only [Prog.bind]
  sl_step
  isplitl [HB]; · iexact HB
  isplitl [HRs]; · iexact HRs
  isplitl [HTs]; · iexact HTs
  isplitl [HL HX]
  · rw [Ring.bigSep_rangeSet_last (Φ := tokRest c 0 w hf) (lo := 0) (hi := k.val + 1) (by omega) (by omega)]
    isplitl [HX]; · iexact HX
    iexact HL
  iexact HM

/-- One trip of the loop that starts the next block's transfers. -/
theorem trip2 (h : k0_cond2 i = 1#1) (q : PosShare TreeShare) (f : arg3.view.ty.Contents (Elt F))
    (hw : ∀ r : Fin 512, arg3.view.read (Elt F) f (ix3 0 0 r) = w r) (hlt : ∀ r, (w r).toNat < 270336)
    (k : Fin k0_t2_loop.trips) (acc : Unit) :
    issueAt c (oth i) w hf arg3 q f k acc ⊢ wp frame (wpE defs₀ Variants.none (c : Thread nD τ) none) Set.univ
      (body2 i arg2 harg2 arg3 harg3 arg5 harg5 arg6 harg6 arg7 harg7 arg8 harg8 arg9 harg9 arg10 harg10 h k acc)
      (issueAt c (oth i) w hf arg3 q f (k.val + 1)) := by
  have hk : k.val < 512 := trips2 ▸ k.isLt
  unfold issueAt
  rw [Ring.bigSep_rangeSet_head (Φ := rowOwn c (oth i)) (by omega) (by omega), Ring.bigSep_rangeSet_head (Φ := tokAll c (oth i) hf) (by omega) (by omega)]
  iintro ⟨HB, ⟨HR, HRs⟩, ⟨HT, HTs⟩, HL, HM⟩
  unfold body2 k0_t2_body
  sl_exec
  have hv : trip2.sl.r i arg3 h f k = w ⟨k.val, hk⟩ := by
    unfold trip2.sl.r
    rw [← hw]
    exact congrArg (arg3.view.read (Elt F) f) (word_at ⟨k.val, hk⟩ _ (k0_off4_eq k) _ _)
  rw [hv]
  iapply (wp_assume Variants.none (c : Thread nD τ) none Set.univ (fun _ => chk_of _ (hlt _)))
  have e1 := rowO_oth i k
  have e2 : k0_off7 (w ⟨k.val, hk⟩) = ![(tokOf (w ⟨k.val, hk⟩)).val, 0] := by rw [tok_of _ (hlt _)]; rfl
  iapply (issue_core c (oth i) ⟨k.val, hk⟩ (tokOf (w ⟨k.val, hk⟩)) w hf rfl e2 e1 (cellO_oth i)) $$ [HB HR HT]
  · isplitl [HB]; · iexact HB
    isplitl [HR]; · iexact HR
    iexact HT
  iintro ⟨HB, HX⟩
  dsimp only [Prog.bind]
  sl_step
  isplitl [HB]; · iexact HB
  isplitl [HRs]; · iexact HRs
  isplitl [HTs]; · iexact HTs
  isplitl [HL HX]
  · rw [Ring.bigSep_rangeSet_last (Φ := tokRest c (oth i) w hf) (lo := 0) (hi := k.val + 1) (by omega) (by omega)]
    isplitl [HX]; · iexact HX
    iexact HL
  iexact HM

/-- Before trip `k` of the waiting loop: the transfers' credits of `k` rows taken, or, after the last trip, the counter at
    zero and everything delivered. -/
def drainAt (k : ℕ) (_ : Unit) : sProp 𝕄 :=
  iprop(⌜k ≤ 512⌝ ∗ (∃ W, owes (c : Thread nD τ) 0 W)
    ∗ (if k < 512 then batch c p w hf 512 (k * NN) else iprop(semVal ((c : Thread nD τ), SemLoc.dma (cell p)) 0 ∗ bigSep Finset.univ (deliv c p w hf))))

/-- Waiting for one row, whatever the offsets it is spelt with: short of the last, and the last. -/
theorem wait_core {α : Type} (k : Fin 512) {offD offC hD hC hS} (eD : offD = ![p.val, k.val, 0]) (eC : offC = ![p.val])
    {hsrc : (srcO ![0, 0] hS).view.WordExact} {hdst : (rowO offD hD).view.WordExact}
    {K : PUnit → Prog (TpuEff nD τ sig (Elt F) Λ₀ .tc) α} {Q : α → sProp 𝕄} :
    drainAt c p w hf k.val ()
      ⊢ iprop((drainAt c p w hf (k.val + 1) () -∗ wp frame (wpE defs₀ Variants.none (c : Thread nD τ) none) Set.univ (K ⟨⟩) Q)
        -∗ wp frame (wpE defs₀ Variants.none (c : Thread nD τ) none) Set.univ
            (.op (.waitDma2 (cellO offC hC) (srcO ![0, 0] hS) (rowO offD hD) hsrc hdst) K) Q) := by
  subst eD eC
  have hk := k.isLt
  have hN : 0 < NN := by decide
  unfold drainAt
  simp only [if_pos hk]
  rcases Nat.lt_or_ge (k.val + 1) 512 with h1 | h1
  · simp only [if_pos h1]
    iintro ⟨-, ⟨%W, HO⟩, HB⟩ Hk
    have hu : k.val * NN + NN < NN * 512 := by
      generalize NN = N at hN ⊢
      rw [← Nat.succ_mul, Nat.mul_comm]; exact Nat.mul_lt_mul_of_pos_left h1 hN
    iapply (Transfers.wp_waitBatch (countersEmb (U := UD sig nD τ)) Variants.none (c : Thread nD τ) none () (N := NN) (sem := cell p) (srcw := src 0) (dstw := row p k)
      (hsrc := hsrc) (hdst := hdst) (D := deliv c p w hf) (u := k.val * NN) (W := W) rfl hu) $$ [HO HB]
    · isplitl [HB]; · iexact HB
      iexact HO
    iintro ⟨HB, HO⟩
    iapply Hk
    isplitr; · ipureintro; omega
    isplitl [HO]; · iexists _; iexact HO
    rw [Nat.succ_mul]
    iexact HB
  · simp only [if_neg (Nat.not_lt.mpr h1)]
    iintro ⟨-, ⟨%W, HO⟩, HB⟩ Hk
    have hu : k.val * NN + NN = NN * 512 := by
      generalize NN = N at hN ⊢
      have e : k.val + 1 = 512 := by omega
      rw [← Nat.succ_mul, Nat.succ_eq_add_one, e, Nat.mul_comm]
    iapply (Transfers.wp_waitBatchLast (countersEmb (U := UD sig nD τ)) Variants.none (c : Thread nD τ) none () (N := NN) (sem := cell p) (srcw := src 0) (dstw := row p k)
      (hsrc := hsrc) (hdst := hdst) (D := deliv c p w hf) (u := k.val * NN) (W := W) rfl hN hu) $$ [HO HB]
    · isplitl [HB]; · iexact HB
      iexact HO
    iintro ⟨HD, HS, HO⟩
    iapply Hk
    isplitr; · ipureintro; omega
    isplitl [HO]; · iexists _; iexact HO
    isplitl [HS]; · iexact HS
    iexact HD

/-- One trip of the waiting loop. -/
theorem trip3 (k : Fin k0_t3_loop.trips) (acc : Unit) :
    drainAt c (cur i) w hf k acc ⊢ wp frame (wpE defs₀ Variants.none (c : Thread nD τ) none) Set.univ
      (body3 (F := F) i arg2 harg2 arg3 harg3 arg5 harg5 arg6 harg6 arg7 harg7 arg8 harg8 arg9 harg9 arg10 harg10 k acc)
      (drainAt c (cur i) w hf (k.val + 1)) := by
  have hk : k.val < 512 := trips3 ▸ k.isLt
  iintro HD
  unfold body3 k0_t3_body
  iapply (wait_core c (cur i) w hf ⟨k.val, hk⟩ (rowO_cur i k) (cellO_cur i)) $$ [HD]
  · iexact HD
  iintro HD
  dsimp only [Prog.bind]
  sl_step
  iexact HD

end Issue

end Cert.OutKernelIdeal.Hand

end
-- ==== Proof.OutKernelIdeal.Slots.lean ====
/-
  The two slots of the combine kernel's buffer: a slot at rest, a slot whose 512 row transfers are under way,
  a slot whose rows have arrived; and each of the kernel's three loops as a step between them.
-/
module

public import proofs.«01_k».proof.Proof.OutKernelIdeal.Trips

@[expose] public section

set_option maxRecDepth 16384

noncomputable section

namespace Cert.OutKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.OutKernelIdeal.Gen
open Idealize.ShloMosaic.ValueIdx

variable {F : FTy → Type} [FloatOps F]

local notation "𝕄" => MT nD τ sig Unit (Elt F) ℕ (UD sig nD τ) ℕ

section Slots

variable (c : Dev nD) (p : Fin 2) (w : Fin 512 → BitVec 32) (hf : S270336x1024.Idx → Elt F .f32)

/-- A slot held at contents `f`. -/
abbrev slotAt (f : S2x512x1024.Idx → Elt F .f32) : sProp 𝕄 := XM.view.loc (c : Thread nD τ) ↦[slotSet p]{fullShare} f

/-- At rest: the counter at zero, the slot at some contents, its shares of the array of rows whole. -/
def idle : sProp 𝕄 :=
  iprop(semVal ((c : Thread nD τ), SemLoc.dma (cell p)) 0 ∗ (∃ f, slotAt c p f) ∗ bigSep Finset.univ (tokAll c p hf))
/-- Under way: all 512 transfers started, none waited for. -/
def flight : sProp 𝕄 := iprop(batch c p w hf 512 0 ∗ bigSep Finset.univ (tokRest c p w hf))
/-- Arrived: the slot at the gathered rows. -/
def landed : sProp 𝕄 :=
  iprop(semVal ((c : Thread nD τ), SemLoc.dma (cell p)) 0 ∗ slotAt c p (gath w hf) ∗ bigSep Finset.univ (tokAll c p hf))

theorem landed_idle : landed c p w hf ⊢ idle c p hf := by
  unfold landed idle
  iintro ⟨HS, HX, HT⟩
  isplitl [HS]; · iexact HS
  isplitl [HX]; · iexists _; iexact HX
  iexact HT

theorem slot_rows (f : S2x512x1024.Idx → Elt F .f32) : slotAt c p f = bigSep Finset.univ (fun r => rowAt c p r f) :=
  Ring.pointsTo_sub_blocks (ℓ := XM.view.loc (c : Thread nD τ)) (q := fullShare) (rowSet p) (rows_disjoint p) (slotSet p) (rows_cover p) f

theorem tok_join (r : Fin 512) : iprop(tokLent c p w hf r ∗ tokRest c p w hf r) ⊢ tokAll c p hf r := by
  unfold tokLent tokRest tokAll
  exact (pointsTo_split_subset (Finset.subset_univ (srcSet (tokOf (w r))))).2

/-- From rest to the state before an issuing loop. -/
theorem idle_start (M : Memref sig .tc .smem S1x1x512 .i32) (q : PosShare TreeShare) (f : M.view.ty.Contents (Elt F)) :
    iprop(idle c p hf ∗ (M.view.loc (c : Thread nD τ) ↦[M.view.set]{q} f)) ⊢ |={Set.univ}=> issueAt c p w hf M q f 0 () := by
  unfold idle issueAt
  iintro ⟨⟨HS, ⟨%g, HX⟩, HT⟩, HM⟩
  imod (Transfers.batch_alloc' (Lvl := ℕ) (countersEmb (U := UD sig nD τ)) (c : Thread nD τ) () NN (deliv c p w hf) (sm := .dma (cell p)) (E := Set.univ)) $$ HS with HB
  imodintro
  rw [Ring.rangeSet_univ, Ring.bigSep_rangeSet_empty (Nat.le_refl 0)]
  isplitl [HB]; · iexact HB
  isplitl [HX]
  · ihave HX' := (Entails.of_eq (slot_rows c p g)) $$ HX
    iapply (show bigSep Finset.univ (fun r => rowAt c p r g) ⊢ bigSep Finset.univ (rowOwn c p) from
      BI.bigSep_mono fun r _ => by unfold rowOwn; exact exists_intro (Φ := fun f => rowAt c p r f) g)
    iexact HX'
  isplitl [HT]; · iexact HT
  isplitr; · iempintro
  iexact HM

/-- The state after an issuing loop is the slot under way. -/
theorem issue_flight (M : Memref sig .tc .smem S1x1x512 .i32) (q : PosShare TreeShare) (f : M.view.ty.Contents (Elt F)) :
    issueAt c p w hf M q f 512 () ⊢ iprop(flight c p w hf ∗ (M.view.loc (c : Thread nD τ) ↦[M.view.set]{q} f)) := by
  unfold flight issueAt
  rw [Ring.rangeSet_univ]
  iintro ⟨HB, -, -, HT, HM⟩
  isplitr [HM]
  · isplitl [HB]; · iexact HB
    iexact HT
  iexact HM

/-- The state after the waiting loop, with what was not lent, is the slot arrived. -/
theorem drain_landed :
    iprop(drainAt c p w hf 512 () ∗ bigSep Finset.univ (tokRest c p w hf)) ⊢ iprop(landed c p w hf ∗ ∃ W, owes (c : Thread nD τ) 0 W) := by
  unfold landed drainAt
  simp only [if_neg (Nat.lt_irrefl 512)]
  iintro ⟨⟨-, HO, HS, HD⟩, HT⟩
  isplitr [HO]
  · isplitl [HS]; · iexact HS
    ihave HD' := (show bigSep Finset.univ (deliv c p w hf) ⊢ iprop(bigSep Finset.univ (fun r => rowAt c p r (gath w hf)) ∗ bigSep Finset.univ (tokLent c p w hf))
      from Entails.of_eq (BI.bigSep_sep _ _ _)) $$ HD
    icases HD' with ⟨HX, HL⟩
    isplitl [HX]
    · iapply (Entails.of_eq (slot_rows c p (gath w hf)).symm); iexact HX
    iapply (show iprop(bigSep Finset.univ (tokLent c p w hf) ∗ bigSep Finset.univ (tokRest c p w hf)) ⊢ bigSep Finset.univ (tokAll c p hf) from
      (Entails.of_eq (BI.bigSep_sep Finset.univ (tokLent c p w hf) (tokRest c p w hf)).symm).trans (BI.bigSep_mono fun r _ => tok_join c p w hf r))
    isplitl [HL]; · iexact HL
    iexact HT
  iexact HO

variable (i : grid0.Coords) (arg2 : Memref sig .tc .smem S1x1x512 .i32) (harg2 : arg2.IsWhole) (arg3 : Memref sig .tc .smem S1x1x512 .i32) (harg3 : arg3.IsWhole) (arg5 : Memref sig .tc .vmem S128x4 .f32) (harg5 : arg5.IsWhole) (arg6 : Memref sig .tc .vmem S1x128x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x128x1024 .f32) (harg10 : arg10.IsWhole)

/-- The loop that starts the first block's transfers: slot 0 goes from rest to under way. -/
theorem loop1 (h : k0_cond1 i = 1#1) (q : PosShare TreeShare) (f : arg2.view.ty.Contents (Elt F))
    (hw : ∀ r : Fin 512, arg2.view.read (Elt F) f (ix3 0 0 r) = w r) (hlt : ∀ r, (w r).toNat < 270336) {Q : Unit → sProp 𝕄} :
    iprop(idle c 0 hf ∗ (arg2.view.loc (c : Thread nD τ) ↦[arg2.view.set]{q} f))
      ⊢ iprop((iprop(flight c 0 w hf ∗ (arg2.view.loc (c : Thread nD τ) ↦[arg2.view.set]{q} f)) -∗ Q ())
        -∗ wp frame (wpE defs₀ Variants.none (c : Thread nD τ) none) Set.univ
          (Scf.Loop.for k0_t1_loop (k0_t1_ok i h) ⟨⟩ (body1 (F := F) i arg2 harg2 arg3 harg3 arg5 harg5 arg6 harg6 arg7 harg7 arg8 harg8 arg9 harg9 arg10 harg10 h)) Q) := by
  iintro HI Hk
  imod (idle_start c 0 w hf arg2 q f) $$ HI with HI
  iapply (Scf.wp_for frame (wpE defs₀ Variants.none (c : Thread nD τ) none) Set.univ k0_t1_loop.lb k0_t1_loop.ub k0_t1_loop.st (k0_t1_ok i h) ⟨⟩
    (body1 (F := F) i arg2 harg2 arg3 harg3 arg5 harg5 arg6 harg6 arg7 harg7 arg8 harg8 arg9 harg9 arg10 harg10 h) (issueAt c 0 w hf arg2 q f)
    (trip1 c w hf i arg2 harg2 arg3 harg3 arg5 harg5 arg6 harg6 arg7 harg7 arg8 harg8 arg9 harg9 arg10 harg10 h q f hw hlt))
  isplitl [HI]; · iexact HI
  iintro %acc HL
  iapply Hk
  iapply (issue_flight c 0 w hf arg2 q f)
  rw [← trips1]
  iexact HL

/-- The loop that starts the next block's transfers: the other slot goes from rest to under way. -/
theorem loop2 (h : k0_cond2 i = 1#1) (q : PosShare TreeShare) (f : arg3.view.ty.Contents (Elt F))
    (hw : ∀ r : Fin 512, arg3.view.read (Elt F) f (ix3 0 0 r) = w r) (hlt : ∀ r, (w r).toNat < 270336) {Q : Unit → sProp 𝕄} :
    iprop(idle c (oth i) hf ∗ (arg3.view.loc (c : Thread nD τ) ↦[arg3.view.set]{q} f))
      ⊢ iprop((iprop(flight c (oth i) w hf ∗ (arg3.view.loc (c : Thread nD τ) ↦[arg3.view.set]{q} f)) -∗ Q ())
        -∗ wp frame (wpE defs₀ Variants.none (c : Thread nD τ) none) Set.univ
          (Scf.Loop.for k0_t2_loop (k0_t2_ok i h) ⟨⟩ (body2 (F := F) i arg2 harg2 arg3 harg3 arg5 harg5 arg6 harg6 arg7 harg7 arg8 harg8 arg9 harg9 arg10 harg10 h)) Q) := by
  iintro HI Hk
  imod (idle_start c (oth i) w hf arg3 q f) $$ HI with HI
  iapply (Scf.wp_for frame (wpE defs₀ Variants.none (c : Thread nD τ) none) Set.univ k0_t2_loop.lb k0_t2_loop.ub k0_t2_loop.st (k0_t2_ok i h) ⟨⟩
    (body2 (F := F) i arg2 harg2 arg3 harg3 arg5 harg5 arg6 harg6 arg7 harg7 arg8 harg8 arg9 harg9 arg10 harg10 h) (issueAt c (oth i) w hf arg3 q f)
    (trip2 c w hf i arg2 harg2 arg3 harg3 arg5 harg5 arg6 harg6 arg7 harg7 arg8 harg8 arg9 harg9 arg10 harg10 h q f hw hlt))
  isplitl [HI]; · iexact HI
  iintro %acc HL
  iapply Hk
  iapply (issue_flight c (oth i) w hf arg3 q f)
  rw [← trips2]
  iexact HL

/-- The waiting loop: the current slot goes from under way to arrived. -/
theorem loop3 {Q : Unit → sProp 𝕄} :
    iprop(flight c (cur i) w hf ∗ ∃ W, owes (c : Thread nD τ) 0 W)
      ⊢ iprop((iprop(landed c (cur i) w hf ∗ ∃ W, owes (c : Thread nD τ) 0 W) -∗ Q ())
        -∗ wp frame (wpE defs₀ Variants.none (c : Thread nD τ) none) Set.univ
          (Scf.Loop.for k0_t3_loop k0_t3_ok ⟨⟩ (body3 (F := F) i arg2 harg2 arg3 harg3 arg5 harg5 arg6 harg6 arg7 harg7 arg8 harg8 arg9 harg9 arg10 harg10)) Q) := by
  unfold flight
  iintro ⟨⟨HB, HT⟩, HO⟩ Hk
  iapply (Scf.wp_for frame (wpE defs₀ Variants.none (c : Thread nD τ) none) Set.univ k0_t3_loop.lb k0_t3_loop.ub k0_t3_loop.st k0_t3_ok ⟨⟩
    (body3 (F := F) i arg2 harg2 arg3 harg3 arg5 harg5 arg6 harg6 arg7 harg7 arg8 harg8 arg9 harg9 arg10 harg10) (drainAt c (cur i) w hf)
    (trip3 c w hf i arg2 harg2 arg3 harg3 arg5 harg5 arg6 harg6 arg7 harg7 arg8 harg8 arg9 harg9 arg10 harg10))
  isplitl [HB HO]
  · unfold drainAt
    simp only [if_pos (show 0 < 512 by decide), Nat.zero_mul]
    isplitr; · ipureintro; omega
    isplitl [HO]; · iexact HO
    iexact HB
  iintro %acc HL
  iapply Hk
  iapply (drain_landed c (cur i) w hf)
  isplitl [HL]
  · rw [← trips3]; iexact HL
  iexact HT

end Slots

end Cert.OutKernelIdeal.Hand

end
-- ==== Proof.OutKernelIdeal.Body.lean ====
/-
  The combine kernel's body at one block: from the current slot under way (or, at the first block, at rest)
  to the next block's slot under way (or, at the last block, at rest), with the output block's contents named.
-/
module

public import proofs.«01_k».proof.Proof.OutKernelIdeal.Slots
public import Idealize.ShloMosaic.Lib.WholeRead
public import Idealize.ShloMosaic.Lib.VecWindow

@[expose] public section

set_option maxRecDepth 16384

noncomputable section

namespace Cert.OutKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.OutKernelIdeal.Gen
open Idealize.ShloMosaic.ValueIdx

variable {F : FTy → Type} [FloatOps F]

local notation "𝕄" => MT nD τ sig Unit (Elt F) ℕ (UD sig nD τ) ℕ

section Run

variable (c : Dev nD) (hf : S270336x1024.Idx → Elt F .f32)

/-- The 512 words of a block, read off its window. -/
def words (x : Vec F S1x1x512 .i32) : Fin 512 → BitVec 32 := fun r => x (ix3 0 0 r)

/-- The `k`-th quarter of the rows a block works on: row `r` the row the `128 k + r`-th word names. -/
def rows (k : Fin 4) (w : Fin 512 → BitVec 32) (hf : S270336x1024.Idx → Elt F .f32) : Vec F S1x128x1024 .f32 :=
  fun y => hf (ix2 (tokOf (w (Fin.ofNat 512 (128 * k.val + (y 1).val)))) (y 2))

/-- The block the body stores: of the gathered rows, the gates, the block of the residual, the batch's gate and the
    normalisation's scale and shift. -/
def outv (w : Fin 512 → BitVec 32) (hf : S270336x1024.Idx → Elt F .f32) (x2 : Vec F S128x4 .f32) (x3 : Vec F S1x128x1024 .f32) (x4 : Vec F S1x1x1024 .f32)
    (x5 x6 : Vec F S1x1024 .f32) : Vec F S1x128x1024 .f32 :=
  k0_pay1 (k0_pay6 x5) (k0_pay7 x6)
    (k0_pay8 (k0_pay2 x2) (k0_pay3 x2 (rows 0 w hf)) (k0_pay4 (rows 1 w hf)) (k0_pay5 x2) (rows 2 w hf) (rows 3 w hf) x3 x4)
    (k0_pay9 (k0_pay2 x2) (k0_pay3 x2 (rows 0 w hf)) (k0_pay4 (rows 1 w hf)) (k0_pay5 x2) (rows 2 w hf) (rows 3 w hf) x3 x4)
    (Scalar.ofBits .f32 0x3727C5AC#32)

/-- The two slots before a block's body and after it. -/
def slotsIn (i : grid0.Coords) (w : Fin 512 → BitVec 32) : sProp 𝕄 :=
  iprop((if num i = 0 then idle c (cur i) hf else flight c (cur i) w hf) ∗ idle c (oth i) hf)
def slotsOut (i : grid0.Coords) (w : Fin 512 → BitVec 32) : sProp 𝕄 :=
  iprop(idle c (cur i) hf ∗ (if num i + 1 < 512 then flight c (oth i) w hf else idle c (oth i) hf))

theorem cur_zero (i : grid0.Coords) (h : num i = 0) : cur i = 0 := by
  apply Fin.ext; show num i % 2 = 0; omega

theorem zero2 : ∀ a : Fin 2, (![0, 0] : Fin 2 → ℕ) a = 0 := by decide
theorem zero3 : ∀ a : Fin 3, (![0, 0, 0] : Fin 3 → ℕ) a = 0 := by decide

/-- A whole buffer loaded reads its contents. -/
theorem loaded {S : Shape} {e : EltTy} {sp : Space} {M : Memref sig .tc sp S e} (hM : M.IsWhole) (X : S.Idx → Elt F e) {off : Fin S.rank → ℕ} (ho : ∀ a, off a = 0)
    (h : ∀ a, off a + S.size a ≤ S.size a) : M.view.readAt (Elt F) (Rect.unit (s := S) off S.size h).toLoadRect (hM.unread X) = X := by
  funext x
  rw [hM.readAt_unread]
  refine congrArg X (funext fun a => Fin.ext ?_)
  show off a + 1 * (x a).val = (x a).val
  rw [ho a]; omega

/-- What the load of a slot's quarter reads, once the rows have arrived, whatever the offset it is spelt with. -/
theorem slot_load (p : Fin 2) (k : Fin 4) (w : Fin 512 → BitVec 32) {off : Fin 3 → ℕ} (e : off = ![p.val, 128 * k.val, 0])
    (h : ∀ a, off a + S1x128x1024.size a ≤ S2x512x1024.size a) :
    XM.view.readAt (Elt F) (Rect.unit (s := S2x512x1024) off S1x128x1024.size h).toLoadRect (gath w hf) = rows k w hf := by
  subst e
  funext x
  have hk := k.isLt
  have hx : (x 1).val < 128 := (x 1).isLt
  show gath w hf ((Rect.unit (s := S2x512x1024) ![p.val, 128 * k.val, 0] S1x128x1024.size h).emb x) = rows k w hf x
  have e1 : (Rect.unit (s := S2x512x1024) ![p.val, 128 * k.val, 0] S1x128x1024.size h).emb x 1 = Fin.ofNat 512 (128 * k.val + (x 1).val) :=
    Fin.ext (by show 128 * k.val + 1 * (x 1).val = (128 * k.val + (x 1).val) % 512; omega)
  have e2 : (Rect.unit (s := S2x512x1024) ![p.val, 128 * k.val, 0] S1x128x1024.size h).emb x 2 = x 2 :=
    Fin.ext (by show 0 + 1 * (x 2).val = (x 2).val; omega)
  unfold gath rows
  rw [e1, e2]

/-- The load of a slot's quarter stays inside the slot. -/
theorem slot_load_sub (p : Fin 2) {off : Fin 3 → ℕ} (h0 : off 0 = p.val) (h : ∀ a, off a + S1x128x1024.size a ≤ S2x512x1024.size a) :
    XM.view.setOn (Rect.unit (s := S2x512x1024) off S1x128x1024.size h).toLoadRect.set ⊆ slotSet p := by
  intro y hy
  obtain ⟨x, hx, rfl⟩ := Finset.mem_map.mp hy
  obtain ⟨j, hj, he⟩ := (LoadRect.mem_set _).mp hx 0
  have hj : j < 1 := hj
  have he : (x 0).val = off 0 + 1 * j := he
  rw [mem_slot]
  exact Fin.ext (by show (x 0).val = p.val; omega)

section Gates

variable (w : Fin 512 → BitVec 32) (i : grid0.Coords) (arg2 : Memref sig .tc .smem S1x1x512 .i32) (harg2 : arg2.IsWhole) (arg3 : Memref sig .tc .smem S1x1x512 .i32) (harg3 : arg3.IsWhole) (arg5 : Memref sig .tc .vmem S128x4 .f32) (harg5 : arg5.IsWhole) (arg6 : Memref sig .tc .vmem S1x128x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x128x1024 .f32) (harg10 : arg10.IsWhole)

/-- The first block's start, when it is this block; nothing otherwise. -/
theorem gate1 {α : Type} {T : Prog (TpuEff nD τ sig (Elt F) Λ₀ .tc) α} {Q : α → sProp 𝕄} (q : PosShare TreeShare) (f : arg2.view.ty.Contents (Elt F))
    (hw : ∀ r : Fin 512, arg2.view.read (Elt F) f (ix3 0 0 r) = w r) (hlt : ∀ r, (w r).toNat < 270336) :
    iprop((if num i = 0 then idle c (cur i) hf else flight c (cur i) w hf) ∗ (arg2.view.loc (c : Thread nD τ) ↦[arg2.view.set]{q} f))
      ⊢ iprop((iprop(flight c (cur i) w hf ∗ (arg2.view.loc (c : Thread nD τ) ↦[arg2.view.set]{q} f)) -∗ wp frame (wpE defs₀ Variants.none (c : Thread nD τ) none) Set.univ T Q)
        -∗ wp frame (wpE defs₀ Variants.none (c : Thread nD τ) none) Set.univ
          (if h : k0_cond1 i = 1#1 then (Scf.Loop.for k0_t1_loop (k0_t1_ok i h) ⟨⟩ (body1 (F := F) i arg2 harg2 arg3 harg3 arg5 harg5 arg6 harg6 arg7 harg7 arg8 harg8 arg9 harg9 arg10 harg10 h) >>= fun _ => T) else T) Q) := by
  by_cases h : k0_cond1 i = 1#1
  · have hi := (cond1_iff i).mp h
    rw [if_pos hi, dif_pos h, cur_zero i hi, wp_bind]
    exact loop1 (Q := fun _ => wp frame (wpE defs₀ Variants.none (c : Thread nD τ) none) Set.univ T Q) c w hf i arg2 harg2 arg3 harg3 arg5 harg5 arg6 harg6 arg7 harg7 arg8 harg8 arg9 harg9 arg10 harg10 h q f hw hlt
  · rw [if_neg (fun hi => h ((cond1_iff i).mpr hi)), dif_neg h]
    iintro H Hk
    iapply Hk; iexact H

/-- The next block's start, when there is one. -/
theorem gate2 {α : Type} {T : Prog (TpuEff nD τ sig (Elt F) Λ₀ .tc) α} {Q : α → sProp 𝕄} (q : PosShare TreeShare) (f : arg3.view.ty.Contents (Elt F))
    (hw : ∀ r : Fin 512, arg3.view.read (Elt F) f (ix3 0 0 r) = w r) (hlt : ∀ r, (w r).toNat < 270336) :
    iprop(idle c (oth i) hf ∗ (arg3.view.loc (c : Thread nD τ) ↦[arg3.view.set]{q} f))
      ⊢ iprop((iprop((if num i + 1 < 512 then flight c (oth i) w hf else idle c (oth i) hf) ∗ (arg3.view.loc (c : Thread nD τ) ↦[arg3.view.set]{q} f))
            -∗ wp frame (wpE defs₀ Variants.none (c : Thread nD τ) none) Set.univ T Q)
        -∗ wp frame (wpE defs₀ Variants.none (c : Thread nD τ) none) Set.univ
          (if h : k0_cond2 i = 1#1 then (Scf.Loop.for k0_t2_loop (k0_t2_ok i h) ⟨⟩ (body2 (F := F) i arg2 harg2 arg3 harg3 arg5 harg5 arg6 harg6 arg7 harg7 arg8 harg8 arg9 harg9 arg10 harg10 h) >>= fun _ => T) else T) Q) := by
  by_cases h : k0_cond2 i = 1#1
  · rw [if_pos ((cond2_iff i).mp h), dif_pos h, wp_bind]
    exact loop2 (Q := fun _ => wp frame (wpE defs₀ Variants.none (c : Thread nD τ) none) Set.univ T Q) c w hf i arg2 harg2 arg3 harg3 arg5 harg5 arg6 harg6 arg7 harg7 arg8 harg8 arg9 harg9 arg10 harg10 h q f hw hlt
  · rw [if_neg (fun hi => h ((cond2_iff i).mpr hi)), dif_neg h]
    iintro H Hk
    iapply Hk; iexact H

/-- The wait, at the head of what follows. -/
theorem gate3 {α : Type} {T : PUnit → Prog (TpuEff nD τ sig (Elt F) Λ₀ .tc) α} {Q : α → sProp 𝕄} :
    iprop(flight c (cur i) w hf ∗ ∃ W, owes (c : Thread nD τ) 0 W)
      ⊢ iprop((iprop(landed c (cur i) w hf ∗ ∃ W, owes (c : Thread nD τ) 0 W) -∗ wp frame (wpE defs₀ Variants.none (c : Thread nD τ) none) Set.univ (T ⟨⟩) Q)
        -∗ wp frame (wpE defs₀ Variants.none (c : Thread nD τ) none) Set.univ (Scf.Loop.for k0_t3_loop k0_t3_ok ⟨⟩ (body3 (F := F) i arg2 harg2 arg3 harg3 arg5 harg5 arg6 harg6 arg7 harg7 arg8 harg8 arg9 harg9 arg10 harg10) >>= T) Q) := by
  rw [wp_bind]
  exact loop3 (Q := fun x => wp frame (wpE defs₀ Variants.none (c : Thread nD τ) none) Set.univ (T x) Q) c w hf i arg2 harg2 arg3 harg3 arg5 harg5 arg6 harg6 arg7 harg7 arg8 harg8 arg9 harg9 arg10 harg10

end Gates

set_option maxHeartbeats 1000000 in
theorem run (i : grid0.Coords) (arg2 : Memref sig .tc .smem S1x1x512 .i32) (harg2 : arg2.IsWhole) (arg3 : Memref sig .tc .smem S1x1x512 .i32) (harg3 : arg3.IsWhole) (arg5 : Memref sig .tc .vmem S128x4 .f32) (harg5 : arg5.IsWhole) (arg6 : Memref sig .tc .vmem S1x128x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x128x1024 .f32) (harg10 : arg10.IsWhole)
    (x0 x1 : Vec F S1x1x512 .i32) (x2 : Vec F S128x4 .f32) (x3 : Vec F S1x128x1024 .f32) (x4 : Vec F S1x1x1024 .f32) (x5 x6 : Vec F S1x1024 .f32)
    (h0 : ∀ r, (words x0 r).toNat < 270336) (h1 : ∀ r, (words x1 r).toNat < 270336) (q0 q1 q2 q3 q4 q5 q6 : PosShare TreeShare) (K : PUnit → sProp 𝕄) :
    iprop(owns (c : Thread nD τ) arg2 q0 x0 ∗ owns (c : Thread nD τ) arg3 q1 x1 ∗ owns (c : Thread nD τ) arg5 q2 x2 ∗ owns (c : Thread nD τ) arg6 q3 x3 ∗ owns (c : Thread nD τ) arg7 q4 x4 ∗ owns (c : Thread nD τ) arg8 q5 x5 ∗ owns (c : Thread nD τ) arg9 q6 x6 ∗ (∃ d, owns (c : Thread nD τ) arg10 fullShare d)
        ∗ slotsIn c hf i (words x0) ∗ (∃ W, owes (c : Thread nD τ) 0 W)
        ∗ (iprop(owns (c : Thread nD τ) arg2 q0 x0 ∗ owns (c : Thread nD τ) arg3 q1 x1 ∗ owns (c : Thread nD τ) arg5 q2 x2 ∗ owns (c : Thread nD τ) arg6 q3 x3 ∗ owns (c : Thread nD τ) arg7 q4 x4 ∗ owns (c : Thread nD τ) arg8 q5 x5 ∗ owns (c : Thread nD τ) arg9 q6 x6 ∗ owns (c : Thread nD τ) arg10 fullShare (outv (words x0) hf x2 x3 x4 x5 x6)
            ∗ slotsOut c hf i (words x1) ∗ (∃ W, owes (c : Thread nD τ) 0 W)) -∗ K ⟨⟩))
      ⊢ wp frame (wpE (defs₀ (F := F)) Variants.none (c : Thread nD τ) none) Set.univ
          (cc0_moe_combine i arg2 harg2 arg3 harg3 HM (Memref.isWhole_whole _) arg5 harg5 arg6 harg6 arg7 harg7 arg8 harg8 arg9 harg9 arg10 harg10 XM (Memref.isWhole_whole _) cc0_scratch1) K := by
  simp only [cc0_moe_combine_eq_skeleton]; unfold cc0_moe_combine_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HS, HO, Hk⟩
  obtain rfl := harg2.eq_unread hf0; obtain rfl := harg3.eq_unread hf1; obtain rfl := harg5.eq_unread hf2; obtain rfl := harg6.eq_unread hf3; obtain rfl := harg7.eq_unread hf4; obtain rfl := harg8.eq_unread hf5; obtain rfl := harg9.eq_unread hf6
  unfold slotsIn
  icases HS with ⟨HS, HI⟩
  rw [wp_bind]
  dsimp only
  iapply (gate1 c hf (words x0) i arg2 harg2 arg3 harg3 arg5 harg5 arg6 harg6 arg7 harg7 arg8 harg8 arg9 harg9 arg10 harg10 q0 (harg2.unread x0) (fun r => congrFun hf0 (ix3 0 0 r)) h0) $$ [HS H0]
  · isplitl [HS]; · iexact HS
    iexact H0
  iintro ⟨HS, H0⟩
  iapply (gate2 c hf (words x1) i arg2 harg2 arg3 harg3 arg5 harg5 arg6 harg6 arg7 harg7 arg8 harg8 arg9 harg9 arg10 harg10 q1 (harg3.unread x1) (fun r => congrFun hf1 (ix3 0 0 r)) h1) $$ [HI H1]
  · isplitl [HI]; · iexact HI
    iexact H1
  iintro ⟨HI, H1⟩
  iapply (gate3 c hf (words x0) i arg2 harg2 arg3 harg3 arg5 harg5 arg6 harg6 arg7 harg7 arg8 harg8 arg9 harg9 arg10 harg10) $$ [HS HO]
  · isplitl [HS]; · iexact HS
    iexact HO
  iintro ⟨HS, HO⟩
  unfold landed
  icases HS with ⟨HS, HX, HT⟩
  unfold slotAt
  have e := load_eq i
  sl_exec
  iapply (wp_load Variants.none (c : Thread nD τ) none Set.univ (slot_load_sub (cur i) (congrFun e.1 0) _)) $$ HX
  iintro HX
  dsimp only [Prog.bind]
  rw [slot_load hf (cur i) 0 (words x0) e.1]
  iapply (wp_load Variants.none (c : Thread nD τ) none Set.univ (slot_load_sub (cur i) (congrFun e.2.1 0) _)) $$ HX
  iintro HX
  dsimp only [Prog.bind]
  rw [slot_load hf (cur i) 1 (words x0) e.2.1]
  sl_step
  dsimp only
  rw [wp_bind]
  iapply (wp_load Variants.none (c : Thread nD τ) none Set.univ (slot_load_sub (cur i) (congrFun e.2.2.1 0) _)) $$ HX
  iintro HX
  dsimp only [Prog.bind]
  rw [slot_load hf (cur i) 2 (words x0) e.2.2.1]
  iapply (wp_load Variants.none (c : Thread nD τ) none Set.univ (slot_load_sub (cur i) (congrFun e.2.2.2 0) _)) $$ HX
  iintro HX
  dsimp only [Prog.bind]
  rw [slot_load hf (cur i) 3 (words x0) e.2.2.2]
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    rw [View.read_writes_full]
    unfold outv run.sl.r run.sl.r_1 run.sl.r_2 run.sl.r_3 run.sl.r_4
    rw [loaded harg5 x2 zero2, loaded harg6 x3 zero3, loaded harg7 x4 zero3, loaded harg8 x5 zero2, loaded harg9 x6 zero2]
  isplitr [HO]
  · unfold slotsOut
    isplitl [HS HX HT]
    · iapply (landed_idle c (cur i) (words x0) hf)
      unfold landed
      isplitl [HS]; · iexact HS
      isplitl [HX]; · iexact HX
      iexact HT
    iexact HI
  iexact HO

end Run

end Cert.OutKernelIdeal.Hand

end
-- ==== Proof.Out.Block.lean ====
/-
  The combine kernel's block, read at an index.
-/
module

public import proofs.«01_k».proof.Proof.Value.Norm
public import proofs.«01_k».proof.Proof.OutKernelIdeal.Body

@[expose] public section

set_option maxRecDepth 16384

noncomputable section

namespace Cert.Out

open Idealize.ShloMosaic Cert.OutKernelIdeal Cert.OutKernelIdeal.Facts₀ Cert.OutKernelIdeal.Gen Cert.Bridge

/-- Entry `k` of a row before its normalization: the residual `x` scaled, and under the gate `t` the four rows `y`
    weighted by `g`. -/
def joined (g : Fin 4 → EReal) (y : Fin 4 → Fin 1024 → EReal) (x t : Fin 1024 → EReal) (k : Fin 1024) : EReal :=
  Ideal.ofBits .f32 0x3F9837F0#32 * x k + t k * ∑ j : Fin 4, g j * y j k

variable [Cert.OutKernelIdeal.Facts]

theorem gates_apply (g : Vec Ideal S128x4 .f32) (r : Fin 128) (j : Fin 4) : k0_pay2 g (ix2 r j) = g (ix2 r j) := by
  pointwise [k0_pay2]

theorem first_apply (g : Vec Ideal S128x4 .f32) (y : Vec Ideal S1x128x1024 .f32) (r : Fin 128) (k : Fin 1024) :
    k0_pay3 g y (ix2 r k) = g (ix2 r 0) * y (ix3 0 r k) := by
  pointwise [k0_pay3, gates_apply]

theorem row_apply (y : Vec Ideal S1x128x1024 .f32) (r : Fin 128) (k : Fin 1024) : k0_pay4 y (ix2 r k) = y (ix3 0 r k) := by
  pointwise [k0_pay4]

theorem second_apply (g : Vec Ideal S128x4 .f32) (r : Fin 128) (k : Fin 1024) : k0_pay5 g (ix2 r k) = g (ix2 r 1) := by
  pointwise [k0_pay5, gates_apply]

theorem line_apply (x : Vec Ideal S1x1024 .f32) (k : Fin 1024) : k0_pay6 x (ix2 0 k) = x (ix2 0 k) ∧ k0_pay7 x (ix2 0 k) = x (ix2 0 k) := by
  constructor
  · pointwise [k0_pay6]
  · pointwise [k0_pay7]

section Row
variable (g : FVec Ideal S128x4 .f32) (a b d : FVec Ideal S128x1024 .f32) (y2 y3 x : Vec Ideal S1x128x1024 .f32) (t : Vec Ideal S1x1x1024 .f32)

/-- Entry `k` of row `r` before its normalization. -/
def rowSum (r : Fin 128) (k : Fin 1024) : EReal :=
  Ideal.ofBits .f32 0x3F9837F0#32 * x (ix3 0 r k)
    + t (ix3 0 0 k) * (a (ix2 r k) + d (ix2 r k) * b (ix2 r k) + g (ix2 r 2) * y2 (ix3 0 r k) + g (ix2 r 3) * y3 (ix3 0 r k))

theorem dev_apply (r : Fin 128) (k : Fin 1024) :
    k0_pay8 g a b d y2 y3 x t (ix2 r k) = rowSum g a b d y2 y3 x t r k - mean (rowSum g a b d y2 y3 x t r) := by
  pointwise [k0_pay8, mean, rowSum]

theorem var_apply (r : Fin 128) :
    k0_pay9 g a b d y2 y3 x t (ix2 r 0)
      = Ideal.div (∑ l : Fin 1024, (rowSum g a b d y2 y3 x t r l - mean (rowSum g a b d y2 y3 x t r)) * (rowSum g a b d y2 y3 x t r l - mean (rowSum g a b d y2 y3 x t r)))
          (Ideal.ofBits .f32 0x44800000#32) := by
  pointwise [k0_pay9, dev_apply]

end Row

theorem norm_apply (g b : FVec Ideal S1x1024 .f32) (x : FVec Ideal S128x1024 .f32) (v : FVec Ideal S128x1 .f32) (e : EReal) (r : Fin 128) (k : Fin 1024) :
    k0_pay1 g b x v e (ix3 0 r k) = x (ix2 r k) * Ideal.rsqrt (v (ix2 r 0) + e) * g (ix2 0 k) + b (ix2 0 k) := by
  pointwise [k0_pay1]

theorem outv_apply (w : Fin 512 → BitVec 32) (hf : S270336x1024.Idx → EReal) (x2 : Vec Ideal S128x4 .f32) (x3 : Vec Ideal S1x128x1024 .f32)
    (x4 : Vec Ideal S1x1x1024 .f32) (x5 x6 : Vec Ideal S1x1024 .f32) (r : Fin 128) (k : Fin 1024) :
    Hand.outv (F := Ideal) w hf x2 x3 x4 x5 x6 (ix3 0 r k)
      = lnorm (joined (fun j => x2 (ix2 r j)) (fun j l => Hand.rows (F := Ideal) j w hf (ix3 0 r l)) (fun l => x3 (ix3 0 r l)) (fun l => x4 (ix3 0 0 l)))
          (fun l => x5 (ix2 0 l)) (fun l => x6 (ix2 0 l)) k := by
  have s : rowSum (k0_pay2 x2) (k0_pay3 x2 (Hand.rows (F := Ideal) 0 w hf)) (k0_pay4 (Hand.rows (F := Ideal) 1 w hf)) (k0_pay5 x2)
      (Hand.rows (F := Ideal) 2 w hf) (Hand.rows (F := Ideal) 3 w hf) x3 x4 r
      = joined (fun j => x2 (ix2 r j)) (fun j l => Hand.rows (F := Ideal) j w hf (ix3 0 r l)) (fun l => x3 (ix3 0 r l)) (fun l => x4 (ix3 0 0 l)) :=
    funext fun l => by
      unfold rowSum joined
      rw [first_apply, row_apply, second_apply, gates_apply, gates_apply, Fin.sum_univ_four]
  unfold Hand.outv
  rw [norm_apply, dev_apply, var_apply, s, (line_apply x5 k).1, (line_apply x6 k).2]
  rfl

end Cert.Out

end
-- ==== Proof.Out.Reference.lean ====
/-
  The combine reference, read at an index.
-/
module

public import proofs.«01_k».proof.Proof.Out.Block
public import proofs.«01_k».proof.Proof.Value.Tables
public import proofs.«01_k».proof.Proof.Gen.OutReferenceIdeal.Run

@[expose] public section

set_option maxRecDepth 16384

noncomputable section

namespace Cert.Out

open Idealize.ShloMosaic Cert.OutReferenceIdeal Cert.OutReferenceIdeal.Facts₀ Cert.Bridge

variable [Cert.OutReferenceIdeal.Facts]

/-! ## The gathered rows -/

/-- The rows the slot words name, as a table of starts. -/
def starts (s : S4x65536.Idx → BitVec 32) : S4x65536x1.Idx → BitVec 32 :=
  broadcastInDim S4x65536x1 ![0, 1] bcast_S4x65536_S4x65536x1_0_1
    (select (cmpi .slt s (broadcastInDim S4x65536 ![] bcast_S_S4x65536 (constantI S_ 32 0#32)))
      (addi s (broadcastInDim S4x65536 ![] bcast_S_S4x65536 (constantI S_ 32 270336#32))) s)

theorem starts_apply (s : S4x65536.Idx → BitVec 32) (j : Fin 4) (i : Fin 65536) (h : (s (ix2 j i)).toNat < 270336) :
    starts s (ix3 j i 0) = s (ix2 j i) := by
  have hw : starts s (ix3 j i 0) = wrap 270336#32 (s (ix2 j i)) := by pointwise [starts, wrap]; rfl
  rw [hw, wrap, if_neg (not_neg (by omega))]

/-- The rows gathered. -/
def picked (y : FVec Ideal S270336x1024 .f32) (s : S4x65536.Idx → BitVec 32) : FVec Ideal S4x65536x1024 .f32 :=
  Host.gather gather_S270336x1024_S4x65536x1_S4x65536x1024_2_0_n_n_0_2_11024 y (starts s)

theorem picked_apply (y : FVec Ideal S270336x1024 .f32) (s : S4x65536.Idx → BitVec 32) (j : Fin 4) (i : Fin 65536) (k : Fin 1024)
    (h : (s (ix2 j i)).toNat < 270336) : picked y s (ix3 j i k) = y (ix2 ⟨(s (ix2 j i)).toNat, h⟩ k) := by
  refine gather_rows _ y (starts s) j i k ⟨_, h⟩ ?_
  rw [starts_apply s j i h, toInt_of (by omega)]

/-- The four rows of every row weighted and summed. -/
def weighted (g : FVec Ideal S4x65536 .f32) (p : FVec Ideal S4x65536x1024 .f32) : FVec Ideal S65536x1024 .f32 :=
  Host.reduceAdd (mulf (broadcastInDim S4x65536x1024 ![0, 1, 2] bcast_S4x65536x1_S4x65536x1024_0_1_2
      (broadcastInDim S4x65536x1 ![0, 1] bcast_S4x65536_S4x65536x1_0_1 g)) p)
    (constant S_ .f32 0x00000000#32) reducesTo_S4x65536x1024_S65536x1024_d0 h_S_

theorem weighted_apply (g : FVec Ideal S4x65536 .f32) (p : FVec Ideal S4x65536x1024 .f32) (i : Fin 65536) (k : Fin 1024) :
    weighted g p (ix2 i k) = ∑ j : Fin 4, g (ix2 j i) * p (ix3 j i k) := by
  pointwise [weighted]

/-- The rows by batch. -/
def byBatch (f : FVec Ideal S65536x1024 .f32) : FVec Ideal S16x4096x1024 .f32 :=
  shapeCast S16x4096x1024 f shapeCasts_S65536x1024_S16x4096x1024

theorem byBatch_apply (f : FVec Ideal S65536x1024 .f32) (b : Fin 16) (t : Fin 4096) (k : Fin 1024) :
    byBatch f (ix3 b t k) = f (ix2 ⟨4096 * b.val + t.val, by omega⟩ k) := by
  refine shapeCast_apply _ _ _ _ ?_
  refine (rowMajor_val2 _ 1024 rfl).trans (Eq.trans ?_ (rowMajor_val3 _ 4194304 1024 rfl rfl).symm)
  show (4096 * b.val + t.val) * 1024 + k.val = b.val * 4194304 + t.val * 1024 + k.val; omega

/-! ## The rows before and after their normalization -/

def before (f x : FVec Ideal S16x4096x1024 .f32) (t : FVec Ideal S16x1x1024 .f32) : FVec Ideal S16x4096x1024 .f32 :=
  addf (mulf (broadcastInDim S16x4096x1024 ![] bcast_S_S16x4096x1024 (constant S_ .f32 0x3F9837F0#32)) x)
    (mulf (broadcastInDim S16x4096x1024 ![0, 1, 2] bcast_S16x1x1024_S16x4096x1024_0_1_2 t) f)

theorem before_apply (f x : FVec Ideal S16x4096x1024 .f32) (t : FVec Ideal S16x1x1024 .f32) (b : Fin 16) (r : Fin 4096) (k : Fin 1024) :
    before f x t (ix3 b r k) = Ideal.ofBits .f32 0x3F9837F0#32 * x (ix3 b r k) + t (ix3 b 0 k) * f (ix3 b r k) := by
  pointwise [before]

/-- The mean of every row. -/
def rowMean (x : FVec Ideal S16x4096x1024 .f32) : FVec Ideal S16x4096x1 .f32 :=
  Host.divf (broadcastInDim S16x4096x1 ![0, 1] bcast_S16x4096_S16x4096x1_0_1
      (Host.reduceAdd x (constant S_ .f32 0x00000000#32) reducesTo_S16x4096x1024_S16x4096_d2 h_S_))
    (broadcastInDim S16x4096x1 ![] bcast_S_S16x4096x1 (constant S_ .f32 0x44800000#32))

/-- Every row less its mean. -/
def rowDev (x : FVec Ideal S16x4096x1024 .f32) : FVec Ideal S16x4096x1024 .f32 :=
  subf x (broadcastInDim S16x4096x1024 ![0, 1, 2] bcast_S16x4096x1_S16x4096x1024_0_1_2 (rowMean x))

theorem rowDev_apply (x : FVec Ideal S16x4096x1024 .f32) (b : Fin 16) (t : Fin 4096) (k : Fin 1024) :
    rowDev x (ix3 b t k) = x (ix3 b t k) - mean (fun k => x (ix3 b t k)) := by
  pointwise [rowDev, rowMean, mean]

/-- The rows normalized. -/
def normed (x : FVec Ideal S16x4096x1024 .f32) (g v : FVec Ideal S1024 .f32) : FVec Ideal S16x4096x1024 .f32 :=
  addf (mulf (mulf (rowDev x) (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf (rowDev x) (rowDev x)) (constant S_ .f32 0x00000000#32) reducesTo_S16x4096x1024_S16x4096_d2 h_S_))
        (broadcastInDim S16x4096x1 ![] bcast_S_S16x4096x1 (constant S_ .f32 0x44800000#32)))
        (broadcastInDim S16x4096x1 ![] bcast_S_S16x4096x1 (constant S_ .f32 0x3727C5AC#32))))))
    (broadcastInDim S16x4096x1024 ![0, 1, 2] bcast_S1x1x1024_S16x4096x1024_0_1_2
      (broadcastInDim S1x1x1024 ![2] bcast_S1024_S1x1x1024_2 g)))
    (broadcastInDim S16x4096x1024 ![0, 1, 2] bcast_S1x1x1024_S16x4096x1024_0_1_2
      (broadcastInDim S1x1x1024 ![2] bcast_S1024_S1x1x1024_2 v))

theorem normed_apply (x : FVec Ideal S16x4096x1024 .f32) (g v : FVec Ideal S1024 .f32) (b : Fin 16) (t : Fin 4096) (k : Fin 1024) :
    normed x g v (ix3 b t k) = lnorm (fun k => x (ix3 b t k)) (fun k => g (ix1 k)) (fun k => v (ix1 k)) k := by
  pointwise [normed, rowDev_apply, lnorm]

/-- The reference's result. -/
def refOut (s : S4x65536.Idx → BitVec 32) (y : FVec Ideal S270336x1024 .f32) (g : FVec Ideal S4x65536 .f32) (x : FVec Ideal S16x4096x1024 .f32)
    (t : FVec Ideal S16x1x1024 .f32) (n v : FVec Ideal S1024 .f32) : FVec Ideal S16x4096x1024 .f32 :=
  normed (before (byBatch (weighted g (picked y s))) x t) n v

theorem refOut_apply (s : S4x65536.Idx → BitVec 32) (y : FVec Ideal S270336x1024 .f32) (g : FVec Ideal S4x65536 .f32) (x : FVec Ideal S16x4096x1024 .f32)
    (t : FVec Ideal S16x1x1024 .f32) (n v : FVec Ideal S1024 .f32) (hs : ∀ i, (s i).toNat < 270336) (b : Fin 16) (r : Fin 4096) (k : Fin 1024) :
    refOut s y g x t n v (ix3 b r k)
      = lnorm (joined (fun j => g (ix2 j ⟨4096 * b.val + r.val, by omega⟩))
            (fun j l => y (ix2 ⟨(s (ix2 j ⟨4096 * b.val + r.val, by omega⟩)).toNat, hs _⟩ l)) (fun l => x (ix3 b r l)) (fun l => t (ix3 b 0 l)))
          (fun l => n (ix1 l)) (fun l => v (ix1 l)) k := by
  unfold refOut
  rw [normed_apply]
  refine congrArg (lnorm · _ _ k) (funext fun l => ?_)
  rw [before_apply, byBatch_apply, weighted_apply]
  unfold joined
  refine congrArg (fun z => _ + t (ix3 b 0 l) * z) (Finset.sum_congr rfl fun j _ => ?_)
  rw [picked_apply y s j _ l (hs _)]

/-! ## The run, its result named -/

open Idealize.ShloMosaic.TcCoe Idealize.SL.Sem

variable (m : (ℓ : Loc nD τ sig) → Buf (Elt Ideal) ℓ) (ρ : Dev nD → PrngReg)

/-- The result of the reference's arguments. -/
def refRes (c : Dev nD) : FVec Ideal S16x4096x1024 .f32 :=
  refOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

theorem ref_run : θ_run defs (onTc (τ := τ) (main (F := Ideal))) ⟨m, fun _ => 0, ρ⟩ fun r => ∀ c : Dev nD,
      r.2.mem ((c.tc : Thread nD τ).loc main_v40) = refRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.OutReferenceIdeal.Value.run m ρ

end Cert.Out

end
-- ==== Proof.OutKernelIdeal.Setup.lean ====
/-
  The launch of the combine kernel, its setting: the buffers as the grid finds them, the windows' blocks, the
  slot words of a block, and the invariant the grid points keep.
-/
module

public import proofs.«01_k».proof.Proof.OutKernelIdeal.Body
public import Idealize.ShloMosaic.Lib.Pipeline.FrameBody
public import Idealize.ShloMosaic.Lib.Pipeline.TalkSched
public import Idealize.ShloMosaic.Lib.Claim

@[expose] public section

set_option maxRecDepth 16384

noncomputable section

namespace Cert.OutKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Pipeline (Dat Cfg Window BodyObligation cellOf)
open Cert.OutKernelIdeal.Gen
open Idealize.ShloMosaic.ValueIdx

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## Before the grid -/

/-- Core `c`'s buffers when the grid starts: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments. -/
def args : List (Ref sig .tc) := [main_arg0, main_arg1, main_arg2, main_arg3, main_arg4, main_arg5, main_arg6]

/-- No host operation writes an argument. -/
theorem V_arg (c : Dev nD) (b : Ref sig .tc) (hb : b ∈ args) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by revert b; decide)))

/-! ## The windows' blocks -/

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The kernel body at point `t`, on the buffers it is called with. -/
abbrev bodyAt (t : Fin cfg0.N) : Prog (TpuEff nD τ sig (Elt F) Λ₀ .tc) PUnit :=
  cc0_moe_combine (grid0.coords t) (win0_0.stage (cfg0.slots t 0)) (hstage0_0 ((cfg0.slots t 0).cast nbuf0_0)) (win0_1.stage (cfg0.slots t 1)) (hstage0_1 ((cfg0.slots t 1).cast nbuf0_1)) HM (Memref.isWhole_whole _) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) XM (Memref.isWhole_whole _) cc0_scratch1

/-- The body table's row at point `t` is that body. -/
theorem row_body (t : Fin cfg0.N) :
    defs₀ (F := F) .tc cfg0.body (cfg0.bodyArgs t (cfg0.slots t)) = bodyAt t := by
  unfold defs₀; rw [Defs.onTc_tc]

/-! ## The slot words -/

/-- A point's number. -/
theorem coord (t : Fin grid0.N) : num (grid0.coords t) = t.val :=
  (by decide +kernel : ∀ t : Fin grid0.N, num (grid0.coords t) = t.val) t

/-- The array of rows. -/
abbrev tok (c : Dev nD) : S270336x1024.Idx → Elt F .f32 := V m c main_arg1
/-- The slot words as the host lays them out, block by block. -/
abbrev lay (c : Dev nD) : S512x1x512.Idx → BitVec 32 := V m c main_v5
/-- Block `n`'s slot words. -/
def tw (c : Dev nD) (n : ℕ) : Fin 512 → BitVec 32 := fun r => lay m c (ix3 (Fin.ofNat 512 n) 0 r)

/-- Where the two windows on the slot words, and the result's window, put a point's block. -/
theorem tr0_eq : ∀ t : Fin grid0.N, cc0_transform_0 (grid0.coords t) = ![t.val, 0, 0] := by decide +kernel
theorem tr1_eq : ∀ t : Fin grid0.N, cc0_transform_1 (grid0.coords t) = ![min (t.val + 1) 511, 0, 0] := by decide +kernel
theorem tr8_eq : ∀ t : Fin grid0.N, cc0_transform_8 (grid0.coords t) = ![t.val / 32, t.val % 32, 0] := by decide +kernel

theorem words_cur (c : Dev nD) (t : Fin cfg0.N) : words (F := F) (iblk m c 0 t) = tw m c t.val := by
  have ht : t.val < 512 := lt_of_lt_of_eq t.isLt N_0
  funext r
  refine congrArg (lay m c) (funext fun a => Fin.ext ?_)
  show cc0_transform_0 (grid0.coords t) a * S1x1x512.size a + 1 * ((ix3 0 0 r : S1x1x512.Idx) a).val = ((ix3 (Fin.ofNat 512 t.val) 0 r : S512x1x512.Idx) a).val
  rw [tr0_eq t]
  fin_cases a
  · show t.val * 1 + 1 * 0 = t.val % 512; omega
  · rfl
  · show 0 * 512 + 1 * r.val = r.val; omega

theorem words_next (c : Dev nD) (t : Fin cfg0.N) : words (F := F) (iblk m c 1 t) = tw m c (min (t.val + 1) 511) := by
  funext r
  refine congrArg (lay m c) (funext fun a => Fin.ext ?_)
  show cc0_transform_1 (grid0.coords t) a * S1x1x512.size a + 1 * ((ix3 0 0 r : S1x1x512.Idx) a).val = ((ix3 (Fin.ofNat 512 (min (t.val + 1) 511)) 0 r : S512x1x512.Idx) a).val
  rw [tr1_eq t]
  fin_cases a
  · show min (t.val + 1) 511 * 1 + 1 * 0 = min (t.val + 1) 511 % 512; omega
  · rfl
  · show 0 * 512 + 1 * r.val = r.val; omega

/-! ## What the points keep -/

/-- The two slots before point `t`: the rows of block `t` are under way, except before the first point and after the last. -/
def slots (c : Dev nD) (t : ℕ) : sProp 𝕄 :=
  iprop((if 0 < t ∧ t < 512 then flight c (Fin.ofNat 2 t) (tw m c t) (tok m c) else idle c (Fin.ofNat 2 t) (tok m c)) ∗ idle c (Fin.ofNat 2 (t + 1)) (tok m c))

/-- Everything the points keep: the generator's register, what is left of the array of rows, the two slots. -/
def kept (c : Dev nD) (t : ℕ) : sProp 𝕄 :=
  iprop((∃ r, prngReg c r) ∗ (HM.view.loc (c : Thread nD τ) ↦{Transfers.shareDrop fullShare 1024} tok m c) ∗ slots m c t)

theorem ofNat_cur (i : grid0.Coords) : (Fin.ofNat 2 (num i)) = cur i := rfl
theorem ofNat_oth (i : grid0.Coords) : (Fin.ofNat 2 (num i + 1)) = oth i := Fin.ext (by show (num i + 1) % 2 = 1 - num i % 2; omega)
theorem ofNat_two (n : ℕ) : Fin.ofNat 2 (n + 1 + 1) = Fin.ofNat 2 n := Fin.ext (by show (n + 1 + 1) % 2 = n % 2; omega)

/-- The state before a point is the one its run starts from, -/
theorem slots_in (c : Dev nD) (t : Fin cfg0.N) : slots m c t.val = slotsIn c (tok m c) (grid0.coords t) (words (F := F) (iblk m c 0 t)) := by
  have ht : t.val < 512 := lt_of_lt_of_eq t.isLt N_0
  unfold slots slotsIn
  rw [words_cur, ← ofNat_cur, ← ofNat_oth, coord]
  by_cases h : t.val = 0
  · rw [if_pos h, if_neg (by omega)]
  · rw [if_neg h, if_pos ⟨by omega, ht⟩]

/-- and the state its run ends in is the one before the next. -/
theorem slots_out (c : Dev nD) (t : Fin cfg0.N) : slotsOut c (tok m c) (grid0.coords t) (words (F := F) (iblk m c 1 t)) ⊢ slots m c (t.val + 1) := by
  have ht : t.val < 512 := lt_of_lt_of_eq t.isLt N_0
  unfold slots slotsOut
  rw [words_next, ← ofNat_cur, ← ofNat_oth, coord, ofNat_two]
  by_cases h : t.val + 1 < 512
  · rw [if_pos h, if_pos ⟨by omega, h⟩, show min (t.val + 1) 511 = t.val + 1 from by omega]
    iintro ⟨H0, H1⟩; isplitl [H1]; · iexact H1
    iexact H0
  · rw [if_neg h, if_neg (fun hh => h hh.2)]
    iintro ⟨H0, H1⟩; isplitl [H1]; · iexact H1
    iexact H0

/-! ## Entering and leaving the grid -/

/-- The kernel's own counters. -/
def own : Fin 2 → SemLoc sig := fun p => .dma (cell p)

/-- 1024 shares of the array of rows are the two slots' shares. -/
theorem toks (c : Dev nD) : (bigSep (Finset.range 1024) (fun i => HM.view.loc (c : Thread nD τ) ↦{Transfers.shareTokN fullShare i} tok m c) : sProp 𝕄)
    = iprop(bigSep Finset.univ (tokAll c 0 (tok m c)) ∗ bigSep Finset.univ (tokAll c 1 (tok m c))) := by
  rw [← Ring.bigSep_fin_eq_range 1024 (fun i : Fin 1024 => (HM.view.loc (c : Thread nD τ) ↦{Transfers.shareTokN fullShare i.val} tok m c : sProp 𝕄)) _ (fun _ _ => rfl),
    ← Ring.rangeSet_univ, Ring.bigSep_rangeSet_split (a := 0) (b := 512) (d := 1024) (by decide) (by decide),
    Ring.bigSep_rangeSet_eq_range (lo := 0) (hi := 512) (by decide) (fun k => (HM.view.loc (c : Thread nD τ) ↦{Transfers.shareTokN fullShare k} tok m c : sProp 𝕄)) (fun k h => congrArg (fun n => (HM.view.loc (c : Thread nD τ) ↦{Transfers.shareTokN fullShare n} tok m c : sProp 𝕄)) (Nat.zero_add k).symm),
    Ring.bigSep_rangeSet_eq_range (lo := 512) (hi := 1024) (by decide) (fun k => (HM.view.loc (c : Thread nD τ) ↦{Transfers.shareTokN fullShare (512 + k)} tok m c : sProp 𝕄)) (fun k h => rfl),
    Ring.bigSep_fin_eq_range 512 (tokAll c 0 (tok m c)) (fun k => (HM.view.loc (c : Thread nD τ) ↦{Transfers.shareTokN fullShare k} tok m c : sProp 𝕄))
      (fun k h => by unfold tokAll share; rw [show 512 * (0 : Fin 2).val + k = k from by show 512 * 0 + k = k; omega]),
    Ring.bigSep_fin_eq_range 512 (tokAll c 1 (tok m c)) (fun k => (HM.view.loc (c : Thread nD τ) ↦{Transfers.shareTokN fullShare (512 + k)} tok m c : sProp 𝕄))
      (fun k h => rfl)]

theorem slots_rest (c : Dev nD) {t : ℕ} (h : ¬ (0 < t ∧ t < 512)) (he : t % 2 = 0) : slots m c t = iprop(idle c 0 (tok m c) ∗ idle c 1 (tok m c)) := by
  unfold slots
  rw [if_neg h, show Fin.ofNat 2 t = 0 from Fin.ext he, show Fin.ofNat 2 (t + 1) = 1 from Fin.ext (by show (t + 1) % 2 = 1; omega)]

/-- The two-slot buffer is its two slots. -/
theorem two_slots (c : Dev nD) (f : S2x512x1024.Idx → Elt F .f32) : (XM.view.loc (c : Thread nD τ) ↦{fullShare} f : sProp 𝕄) = iprop(slotAt c 0 f ∗ slotAt c 1 f) := by
  rw [← Ring.bigSep_fin2 (fun p => slotAt c p f)]
  exact Ring.pointsTo_blocks (ℓ := XM.view.loc (c : Thread nD τ)) (q := fullShare) slotSet slots_disjoint slots_cover f

/-- What the launch hands over starts the invariant, -/
theorem kept_in (c : Dev nD) : ΦD own spec0 {main_arg1} (V m) c ⊢ kept m c 0 := by
  rw [ΦD_eq, scopedRest0_eq, bigSep_singleton]
  unfold kept ownSems0
  rw [Ring.bigSep_fin2, slots_rest m c (by omega) rfl]
  unfold idle
  iintro ⟨⟨%f, HX⟩, Hr, ⟨S0, S1⟩, HM⟩
  ihave HX := (show _ ⊢ _ from Entails.of_eq (two_slots c f)) $$ HX
  icases HX with ⟨X0, X1⟩
  ihave HM := (show _ ⊢ _ from (Transfers.pointsTo_toks_range fullShare 1024).1) $$ HM
  icases HM with ⟨HM, Hk⟩
  ihave Hk := (show _ ⊢ _ from Entails.of_eq (toks m c)) $$ Hk
  icases Hk with ⟨K0, K1⟩
  isplitl [Hr]; · iexact Hr
  isplitl [HM]; · iexact HM
  isplitl [S0 X0 K0]
  · isplitl [S0]; · iexact S0
    isplitl [X0]; · iexists _; iexact X0
    iexact K0
  isplitl [S1]; · iexact S1
  isplitl [X1]; · iexists _; iexact X1
  iexact K1

/-- and after the last point it is handed back. -/
theorem kept_out (c : Dev nD) : kept m c 512 ⊢ ΦD own spec0 {main_arg1} (V m) c := by
  rw [ΦD_eq, scopedRest0_eq, bigSep_singleton]
  unfold kept ownSems0
  rw [Ring.bigSep_fin2, slots_rest m c (by omega) rfl]
  unfold idle
  iintro ⟨Hr, HM, ⟨S0, ⟨%f, X0⟩, K0⟩, S1, X1, K1⟩
  isplitl [X0 X1]
  · iapply (Ring.pointsTo_blocks_join_exists (ℓ := XM.view.loc (c : Thread nD τ)) (q := fullShare) slotSet slots_disjoint slots_cover f)
    rw [Ring.bigSep_fin2]
    isplitl [X0]; · iexists f; iexact X0
    iexact X1
  isplitl [Hr]; · iexact Hr
  isplitl [S0 S1]
  · isplitl [S0]; · iexact S0
    iexact S1
  iapply (show _ ⊢ _ from (Transfers.pointsTo_toks_range fullShare 1024).2)
  isplitl [HM]; · iexact HM
  iapply (show _ ⊢ _ from Entails.of_eq (toks m c).symm)
  isplitl [K0]; · iexact K0
  iexact K1

end Cert.OutKernelIdeal.Hand

end
-- ==== Proof.OutKernelIdeal.Frame.lean ====
/-
  The launch of the combine kernel: the body at every grid point, the whole run with each result block named, and
  from it the arguments unchanged and every counter at zero.
-/
module

public import proofs.«01_k».proof.Proof.OutKernelIdeal.Setup
public import Idealize.ShloMosaic.Lib.Pipeline.FrameBody
public import Idealize.ShloMosaic.Lib.Pipeline.TalkSched
public import Idealize.ShloMosaic.Lib.Claim

@[expose] public section

set_option maxRecDepth 16384

noncomputable section

namespace Cert.OutKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.Pipeline (Dat Cfg Window BodyObligation cellOf)
open Cert.OutKernelIdeal.Gen
open Idealize.ShloMosaic.ValueIdx

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The words the run follows stay in the array of rows. -/
abbrev Rows : Prop := ∀ (c : Dev nD) (n : ℕ) (r : Fin 512), (tw m c n r).toNat < 270336

/-- What the body leaves in the result's buffer at point `t`. -/
def block (c : Dev nD) (t : Fin cfg0.N) : Vec F S1x128x1024 .f32 :=
  outv (words (F := F) (iblk m c 0 t)) (tok m c) (iblk m c 2 t) (iblk m c 3 t) (iblk m c 4 t) (iblk m c 5 t) (iblk m c 6 t)

/-- The run's data: each input's buffer keeps its block, the result's buffer ends at `block`, the points keep `kept`. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => block m c t
  Φ t := kept m c t.val
  q w := shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = iblk m c 5 t := by dsimp only [dats]; try rfl
theorem after_6 (c : Dev nD) (t : Fin cfg0.N) : (dats m 0 c).after 6 t = iblk m c 6 t := by dsimp only [dats]; try rfl
theorem after_7 (c : Dev nD) (t : Fin cfg0.N) : (dats m 0 c).after 7 t = block m c t := by dsimp only [dats]; try rfl

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

set_option maxHeartbeats 800000 in
theorem sound_body (hR : Rows m) (c : Dev nD) (t : Fin cfg0.N) :
    bodyPre m c t ⊢ wp frame (wpE (defs₀ (F := F)) Variants.none (c : Thread nD τ) none) Set.univ (bodyAt t) (fun _ => bodyPost m c t) := by
  unfold bodyPre bodyPost bodyAt
  simp only [before_0, before_1, before_2, before_3, before_4, before_5, before_6]
  rw [after_0, after_1, after_2, after_3, after_4, after_5, after_6, after_7,
    show (dats m 0 c).Φ t.succ = kept m c (t.val + 1) from rfl, show (dats m 0 c).Φ t.castSucc = kept m c t.val from rfl]
  unfold kept
  rw [slots_in m c t]
  iintro ⟨⟨Hr, HM, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave Ho := (Idealize.ShloMosaic.TalkSites.owesAt_elim (dats m 0 c) () t.castSucc 0 rfl) $$ Ho
  iapply (run c (tok m c) (grid0.coords t) _ _ _ _ _ _ _ _ _ _ _ _ _ _ _ _ (iblk m c 0 t) (iblk m c 1 t) (iblk m c 2 t) (iblk m c 3 t) (iblk m c 4 t) (iblk m c 5 t) (iblk m c 6 t)
    (fun r => by rw [words_cur]; exact hR c _ r) (fun r => by rw [words_next]; exact hR c _ r) fullShare fullShare fullShare fullShare fullShare fullShare fullShare _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  isplitl [Ho]; · iexact Ho
  iintro ⟨H0, H1, H2, H3, H4, H5, H6, H7, HS, Ho⟩
  icases Ho with ⟨%W, Ho⟩
  isplitl [Hr HM HS]
  · isplitl [Hr]; · iexact Hr
    isplitl [HM]; · iexact HM
    iapply (slots_out m c t); iexact HS
  isplitl [Ho]; · iapply (Idealize.ShloMosaic.TalkSites.owesAt_intro (dats m 0 c) () t.succ 0 rfl rfl W); iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (hR : Rows m) (c : Dev nD) : BodyObligation (dats (F := F) m 0 c) (defs₀ (F := F)) Variants.none () Set.univ := fun t => by
  rw [bigSep_W0, bigSep_W0, row_body]
  exact triple_restated (sound_body m hR c t) rfl .rfl fun _ => .rfl

/-! ## The run -/

theorem arg1_rest : ({main_arg1} : Finset (Ref sig .tc)) ⊆ Pipeline.restRefs sig spec0 := by decide
theorem own_facts : Pipeline.OwnSemFacts spec0 own := by decide

set_option backward.isDefEq.respectTransparency.types false in
/-- The whole run: every array as the grid leaves it, every counter at zero. -/
theorem run_all (hR : Rows m) : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 own defs₀ Variants.none own_facts {main_arg1} arg1_rest m ρ main
    (hbody := fun c => (body_obligation m hR c).loose) (hq := fun _ _ _ => rfl)
    (howed := fun _ _ => rfl) (V := V m) (hmain := hmain m Variants.none) (hA := A_eq m)
    (hin := kept_in m) (hout := fun c => kept_out m c)

end Cert.OutKernelIdeal.Hand

end
-- ==== Proof.OutKernelIdeal.Host.lean ====
/-
  The launch of the combine kernel: what the host hands the grid — the gates by row, the normalisation's scale and
  shift as rows, the slot words block by block — and where each point's windows lie.
-/
module

public import proofs.«01_k».proof.Proof.OutKernelIdeal.Frame
public import Idealize.ShloMosaic.Lib.Pointwise.Reshape

@[expose] public section

set_option maxRecDepth 16384

noncomputable section

namespace Cert.OutKernelIdeal.Hand

open Idealize.ShloMosaic hiding ix1 ix2 ix3
open Idealize.ShloMosaic.TcCoe Idealize.ShloMosaic.Tactic
open Idealize.SL.Sem
open Idealize.ShloMosaic.Pipeline (Dat Cfg Window BodyObligation cellOf)
open Cert.OutKernelIdeal.Gen
open Idealize.ShloMosaic.ValueIdx

variable {F : FTy → Type} [FloatOps F]

variable (m : (ℓ : Loc nD τ sig) → Buf (Elt F) ℓ) (ρ : Dev nD → PrngReg)

/-! ## What the host operations leave -/

theorem V_v0 (c : Dev nD) : V m c main_v0 = transpose S65536x4 [1, 0] (m ((c : Thread nD τ).loc main_arg2)) transposes_S4x65536_S65536x4_1_0 := by
  unfold_abbrev_sides; after_results
theorem V_v1 (c : Dev nD) : (V m c main_v1 : S1x1024.Idx → Elt F .f32) = shapeCast S1x1024 (m ((c : Thread nD τ).loc main_arg5)) shapeCasts_S1024_S1x1024 := by
  unfold_abbrev_sides; after_results; rfl
theorem V_v2 (c : Dev nD) : (V m c main_v2 : S1x1024.Idx → Elt F .f32) = shapeCast S1x1024 (m ((c : Thread nD τ).loc main_arg6)) shapeCasts_S1024_S1x1024 := by
  unfold_abbrev_sides; after_results; rfl
theorem V_v5 (c : Dev nD) : lay m c = shapeCast S512x1x512 (transpose S512x4x128 [1, 0, 2]
    (shapeCast S4x512x128 (m ((c : Thread nD τ).loc main_arg0)) shapeCasts_S4x65536_S4x512x128) transposes_S4x512x128_S512x4x128_1_0_2) shapeCasts_S512x4x128_S512x1x512 := by
  unfold_abbrev_sides; after_results; rfl

/-! ## The slot words -/

/-- The slot words, as handed over, in range. -/
abbrev Words : Prop := ∀ (c : Dev nD) (i : S4x65536.Idx), ((m ((c : Thread nD τ).loc main_arg0) : S4x65536.Idx → BitVec 32) i).toNat < 270336

/-- Word `128 k + j` of block `n` is choice `k`'s word of row `128 n + j`. -/
theorem lay_apply (c : Dev nD) (n : Fin 512) (k : Fin 4) (j : Fin 128) :
    lay m c (ix3 n 0 ⟨128 * k.val + j.val, by omega⟩) = (m ((c : Thread nD τ).loc main_arg0) : S4x65536.Idx → BitVec 32) (ix2 k ⟨128 * n.val + j.val, by omega⟩) := by
  rw [V_v5]
  refine (shapeCast_apply _ _ _ (ix3 n k j) ?_).trans ?_
  · refine (rowMajor_val3 _ 512 128 rfl rfl).trans (Eq.trans ?_ (rowMajor_val3 _ 512 512 rfl rfl).symm)
    show n.val * 512 + k.val * 128 + j.val = n.val * 512 + 0 * 512 + (128 * k.val + j.val); omega
  refine (transpose_apply _ _ _ _ (ix3 k n j) fun b => by fin_cases b <;> rfl).trans ?_
  refine shapeCast_apply _ _ _ _ ?_
  refine (rowMajor_val2 _ 65536 rfl).trans (Eq.trans ?_ (rowMajor_val3 _ 65536 128 rfl rfl).symm)
  show k.val * 65536 + (128 * n.val + j.val) = k.val * 65536 + n.val * 128 + j.val; omega

theorem rows_of (h : Words m) : Rows m := fun c n r => by
  unfold tw; rw [V_v5]; exact h c _

/-! ## The windows -/

theorem tr3_eq : ∀ t : Fin grid0.N, cc0_transform_3 (grid0.coords t) = ![t.val, 0] := by decide +kernel
theorem tr4_eq : ∀ t : Fin grid0.N, cc0_transform_4 (grid0.coords t) = ![t.val / 32, t.val % 32, 0] := by decide +kernel
theorem tr5_eq : ∀ t : Fin grid0.N, cc0_transform_5 (grid0.coords t) = ![t.val / 32, 0, 0] := by decide +kernel
theorem tr6_eq : ∀ t : Fin grid0.N, cc0_transform_6 (grid0.coords t) = ![0, 0] := by decide +kernel
theorem tr7_eq : ∀ t : Fin grid0.N, cc0_transform_7 (grid0.coords t) = ![0, 0] := by decide +kernel

/-- The gates of block `n`'s rows, its rows of the residual, and its batch's row of the gate. -/
abbrev gsl {α : Type} (x : S65536x4.Idx → α) (n : ℕ) : S128x4.Idx → α := fun y => x (ix2 (Fin.ofNat 65536 (128 * n + (y 0).val)) (y 1))
abbrev xsl {α : Type} (x : S16x4096x1024.Idx → α) (n : ℕ) : S1x128x1024.Idx → α := fun y => x (ix3 (Fin.ofNat 16 (n / 32)) (Fin.ofNat 4096 (128 * (n % 32) + (y 1).val)) (y 2))
abbrev bsl {α : Type} (x : S16x1x1024.Idx → α) (n : ℕ) : S1x1x1024.Idx → α := fun y => x (ix3 (Fin.ofNat 16 (n / 32)) 0 (y 2))

theorem blk_2 (c : Dev nD) (t : Fin cfg0.N) : iblk m c 2 t = gsl (V m c main_v0) t.val := by
  have ht : t.val < 512 := lt_of_lt_of_eq t.isLt N_0
  funext (y : S128x4.Idx)
  have y0 : (y 0).val < 128 := (y 0).isLt
  refine congrArg (V m c main_v0) (funext fun a => Fin.ext ?_)
  show cc0_transform_3 (grid0.coords t) a * S128x4.size a + 1 * (y a).val = _
  rw [tr3_eq t]
  fin_cases a
  · show t.val * 128 + 1 * (y 0).val = (128 * t.val + (y 0).val) % 65536; omega
  · show 0 * 4 + 1 * (y 1).val = (y 1).val; omega

theorem blk_3 (c : Dev nD) (t : Fin cfg0.N) : iblk m c 3 t = xsl (V m c main_arg3) t.val := by
  have ht : t.val < 512 := lt_of_lt_of_eq t.isLt N_0
  funext (y : S1x128x1024.Idx)
  have y0 : (y 0).val < 1 := (y 0).isLt
  have y1 : (y 1).val < 128 := (y 1).isLt
  refine congrArg (V m c main_arg3) (funext fun a => Fin.ext ?_)
  show cc0_transform_4 (grid0.coords t) a * S1x128x1024.size a + 1 * (y a).val = _
  rw [tr4_eq t]
  fin_cases a
  · show t.val / 32 * 1 + 1 * (y 0).val = t.val / 32 % 16; omega
  · show t.val % 32 * 128 + 1 * (y 1).val = (128 * (t.val % 32) + (y 1).val) % 4096; omega
  · show 0 * 1024 + 1 * (y 2).val = (y 2).val; omega

theorem blk_4 (c : Dev nD) (t : Fin cfg0.N) : iblk m c 4 t = bsl (V m c main_arg4) t.val := by
  have ht : t.val < 512 := lt_of_lt_of_eq t.isLt N_0
  funext (y : S1x1x1024.Idx)
  have y0 : (y 0).val < 1 := (y 0).isLt
  have y1 : (y 1).val < 1 := (y 1).isLt
  refine congrArg (V m c main_arg4) (funext fun a => Fin.ext ?_)
  show cc0_transform_5 (grid0.coords t) a * S1x1x1024.size a + 1 * (y a).val = _
  rw [tr5_eq t]
  fin_cases a
  · show t.val / 32 * 1 + 1 * (y 0).val = t.val / 32 % 16; omega
  · show 0 * 1 + 1 * (y 1).val = 0; omega
  · show 0 * 1024 + 1 * (y 2).val = (y 2).val; omega

theorem blk_5 (c : Dev nD) (t : Fin cfg0.N) : iblk m c 5 t = V m c main_v1 := by
  funext (y : S1x1024.Idx)
  refine congrArg (V m c main_v1) (funext fun a => Fin.ext ?_)
  show cc0_transform_6 (grid0.coords t) a * S1x1024.size a + 1 * (y a).val = _
  rw [tr6_eq t]
  fin_cases a
  · show 0 * 1 + 1 * (y 0).val = (y 0).val; omega
  · show 0 * 1024 + 1 * (y 1).val = (y 1).val; omega

theorem blk_6 (c : Dev nD) (t : Fin cfg0.N) : iblk m c 6 t = V m c main_v2 := by
  funext (y : S1x1024.Idx)
  refine congrArg (V m c main_v2) (funext fun a => Fin.ext ?_)
  show cc0_transform_7 (grid0.coords t) a * S1x1024.size a + 1 * (y a).val = _
  rw [tr7_eq t]
  fin_cases a
  · show 0 * 1 + 1 * (y 0).val = (y 0).val; omega
  · show 0 * 1024 + 1 * (y 1).val = (y 1).val; omega

/-! ## The result -/

/-- Block `n` of the result. -/
def outb (c : Dev nD) (n : ℕ) : Vec F S1x128x1024 .f32 :=
  outv (tw m c n) (tok m c) (gsl (V m c main_v0) n) (xsl (V m c main_arg3) n) (bsl (V m c main_arg4) n) (V m c main_v1) (V m c main_v2)

/-- The result: batch `b`'s rows are blocks `32 b` to `32 b + 31`, one under the other. -/
def out (c : Dev nD) : S16x4096x1024.Idx → Elt F .f32 := fun i => outb m c (32 * (i 0).val + (i 1).val / 128) (ix3 0 (Fin.ofNat 128 (i 1).val) (i 2))

theorem block_eq (c : Dev nD) (t : Fin cfg0.N) : block m c t = outb m c t.val := by
  unfold block outb
  rw [words_cur, blk_2, blk_3, blk_4, blk_5, blk_6]

/-- The result's window is written back at every point. -/
theorem flush_7 : ∀ t : Fin cfg0.N, (cfg0.win 7).flush t = true :=
  (fun t => (Pipeline.Window.flush_reads win0_7 rfl 1 (by decide) (by decide) (Pipeline.Window.sep_of_coord cc0_transform_8 1 1 (fun _ => rfl) (by decide)) (P := 1) (m := 0) (by decide) rfl t).mpr (Nat.mod_one _) :
    ∀ t : Fin grid0.N, win0_7.flush t = true)

/-- The result's block at point `t` is rows `128 (t % 32)` to `128 (t % 32) + 127` of batch `t / 32`. -/
theorem emb_7 (t : Fin cfg0.N) (y : S1x128x1024.Idx) (i : S16x4096x1024.Idx)
    (h0 : (i 0).val = t.val / 32) (h1 : (i 1).val = 128 * (t.val % 32) + (y 1).val) (h2 : (i 2).val = (y 2).val) : ((cfg0.win 7).blk t).view.emb y = i := by
  have y0 : (y 0).val < 1 := (y 0).isLt
  refine funext fun a => Fin.ext ?_
  show cc0_transform_8 (grid0.coords t) a * S1x128x1024.size a + 1 * (y a).val = (i a).val
  rw [tr8_eq t]
  fin_cases a
  · refine Eq.trans ?_ h0.symm; show t.val / 32 * 1 + 1 * (y 0).val = _; omega
  · refine Eq.trans ?_ h1.symm; show t.val % 32 * 128 + 1 * (y 1).val = _; omega
  · refine Eq.trans ?_ h2.symm; show 0 * 1024 + 1 * (y 2).val = _; omega

/-- After the grid the result's array is `out`. -/
theorem arr_7 (c : Dev nD) : (dats m 0 c).arrAt 7 cfg0.N = out m c := by
  refine Dat.arrAt_eq_of_cover (dats m 0 c) 7 (out m c) (fun t _ => ?_) fun (i : S16x4096x1024.Idx) => ?_
  · rw [Dat.flushed, after_7, block_eq]
    have ht : t.val < 512 := lt_of_lt_of_eq t.isLt N_0
    funext (y : S1x128x1024.Idx)
    have y0 : (y 0).val < 1 := (y 0).isLt
    have y1 : (y 1).val < 128 := (y 1).isLt
    have e := emb_7 t y (ix3 ⟨t.val / 32, by omega⟩ ⟨128 * (t.val % 32) + (y 1).val, by omega⟩ (y 2)) rfl rfl rfl
    refine Eq.trans ?_ (congrArg (out m c) e).symm
    show outb m c t.val y = outb m c (32 * (t.val / 32) + (128 * (t.val % 32) + (y 1).val) / 128) (ix3 0 (Fin.ofNat 128 (128 * (t.val % 32) + (y 1).val)) (y 2))
    rw [show 32 * (t.val / 32) + (128 * (t.val % 32) + (y 1).val) / 128 = t.val from by omega]
    refine congrArg (outb m c t.val) (funext fun a => Fin.ext ?_)
    fin_cases a
    · show (y 0).val = 0; omega
    · show (y 1).val = (128 * (t.val % 32) + (y 1).val) % 128; omega
    · rfl
  · have i0 : (i 0).val < 16 := (i 0).isLt
    have i1 : (i 1).val < 4096 := (i 1).isLt
    let t : Fin cfg0.N := ⟨32 * (i 0).val + (i 1).val / 128, lt_of_lt_of_eq (b := 512) (by omega) N_0.symm⟩
    refine ⟨t, flush_7 t, ?_⟩
    have e := emb_7 t (ix3 0 (Fin.ofNat 128 (i 1).val) (i 2)) i (by show (i 0).val = (32 * (i 0).val + (i 1).val / 128) / 32; omega)
      (by show (i 1).val = 128 * ((32 * (i 0).val + (i 1).val / 128) % 32) + (i 1).val % 128; omega) rfl
    have hm := ((cfg0.win 7).blk t).view.emb_mem_set (ix3 0 (Fin.ofNat 128 (i 1).val) (i 2) : S1x128x1024.Idx)
    rwa [e] at hm

/-! ## The run, stated of the arguments and the result -/

/-- The arguments no window is on. -/
theorem args_rest : ∀ b ∈ args, b = main_arg3 ∨ b = main_arg4 ∨ b ∈ Pipeline.restRefs sig spec0 := by decide

theorem run_out (hW : Words m) : θ_run defs (onTc (τ := τ) (main (F := F))) ⟨m, fun _ => 0, ρ⟩
    (fun r => ((∀ c : Dev nD, r.2.mem ((c : Thread nD τ).loc main_v6) = out m c)
      ∧ ∀ (c : Dev nD), ∀ b ∈ args, r.2.mem ((c : Thread nD τ).loc b) = m ((c : Thread nD τ).loc b)) ∧ r.2.sem = fun _ => 0) :=
  θ_run_mono (run_all m ρ (rows_of m hW)) fun r h =>
    ⟨⟨fun c => ((h.1 c).1 7).trans (arr_7 m c), fun c b hb => by
      rcases args_rest b hb with rfl | rfl | hr
      · exact ((h.1 c).1 3).trans (((dats m 0 c).arrAt_in 3 rfl _).trans ((A_eq m c 3).trans (V_arg m c _ hb)))
      · exact ((h.1 c).1 4).trans (((dats m 0 c).arrAt_in 4 rfl _).trans ((A_eq m c 4).trans (V_arg m c _ hb)))
      · exact ((h.1 c).2 b hr).trans (V_arg m c b hb)⟩, h.2⟩

/-- The arguments end unchanged and every counter at zero. -/
theorem frame (hW : Words m) : θ_run defs (onTc (τ := τ) (main (F := F))) ⟨m, fun _ => 0, ρ⟩
    (fun r => (∀ c : Dev nD,
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6)) ∧ r.2.sem = fun _ => 0) :=
  θ_run_mono (run_out m ρ hW) fun r h => ⟨fun c =>
    have k := h.1.2 c
    ⟨k _ (by decide), k _ (by decide), k _ (by decide), k _ (by decide), k _ (by decide), k _ (by decide), k _ (by decide)⟩, h.2⟩

end Cert.OutKernelIdeal.Hand

end
-- ==== Proof.Out.lean ====
/-
  The combine kernel: its result is the reference's.
-/
module

public import proofs.«01_k».proof.Proof.Out.Range
public import proofs.«01_k».proof.Proof.Out.Reference
public import proofs.«01_k».proof.Proof.OutKernelIdeal.Host

@[expose] public section

set_option maxRecDepth 16384

noncomputable section

namespace Cert.Out

open Idealize.ShloMosaic Idealize.ShloMosaic.TcCoe Idealize.SL.Sem Cert.Bridge

variable [Cert.OutKernelIdeal.Facts] [Cert.OutReferenceIdeal.Facts]

section Kernel
open Cert.OutKernelIdeal Cert.OutKernelIdeal.Hand

variable (m : (ℓ : Loc nD τ sig) → Buf (Elt Ideal) ℓ) (c : Dev nD)

/-- The gates by row, and the normalization's scale and shift as rows. -/
theorem gate (i : Fin 65536) (j : Fin 4) :
    (V m c main_v0 : S65536x4.Idx → EReal) (ix2 i j) = (m ((c.tc : Thread nD τ).loc main_arg2) : S4x65536.Idx → EReal) (ix2 j i) := by
  rw [V_v0]; pointwise
theorem gain (l : Fin 1024) : (V m c main_v1 : S1x1024.Idx → EReal) (ix2 0 l) = (m ((c.tc : Thread nD τ).loc main_arg5) : S1024.Idx → EReal) (ix1 l) := by
  rw [V_v1]; pointwise
theorem shift (l : Fin 1024) : (V m c main_v2 : S1x1024.Idx → EReal) (ix2 0 l) = (m ((c.tc : Thread nD τ).loc main_arg6) : S1024.Idx → EReal) (ix1 l) := by
  rw [V_v2]; pointwise

/-- The number of row `r` of batch `b` among all rows. -/
def flat (b : Fin 16) (r : Fin 4096) : Fin 65536 := ⟨4096 * b.val + r.val, by omega⟩

/-- The row that choice `j`'s word of row `r` of batch `b` names, as the point that does the row finds it. -/
theorem named (hW : Words m) (b : Fin 16) (r : Fin 4096) (j : Fin 4) (l : Fin 1024) :
    rows (F := Ideal) j (tw m c (32 * b.val + r.val / 128)) (tok m c) (ix3 0 (Fin.ofNat 128 r.val) l)
      = (m ((c.tc : Thread nD τ).loc main_arg1) : S270336x1024.Idx → EReal)
          (ix2 ⟨((m ((c.tc : Thread nD τ).loc main_arg0) : S4x65536.Idx → BitVec 32) (ix2 j (flat b r))).toNat, hW c _⟩ l) := by
  have e : tok m c = m ((c.tc : Thread nD τ).loc main_arg1) := V_arg m c main_arg1 (by decide)
  have hw : tw m c (32 * b.val + r.val / 128) (Fin.ofNat 512 (128 * j.val + r.val % 128))
      = (m ((c.tc : Thread nD τ).loc main_arg0) : S4x65536.Idx → BitVec 32) (ix2 j (flat b r)) := by
    have h := lay_apply m c ⟨32 * b.val + r.val / 128, by omega⟩ j ⟨r.val % 128, by omega⟩
    rw [← ix2_eq_valueIdx] at h
    refine Eq.trans ?_ (h.trans (congrArg (fun z => (m ((c.tc : Thread nD τ).loc main_arg0) : S4x65536.Idx → BitVec 32) (ix2 j z))
      (Fin.ext (by show 128 * (32 * b.val + r.val / 128) + r.val % 128 = 4096 * b.val + r.val; omega))))
    show lay m c (ValueIdx.ix3 (Fin.ofNat 512 (32 * b.val + r.val / 128)) 0 (Fin.ofNat 512 (128 * j.val + r.val % 128))) = _
    rw [show Fin.ofNat 512 (32 * b.val + r.val / 128) = ⟨32 * b.val + r.val / 128, by omega⟩ from Fin.ext (Nat.mod_eq_of_lt (by omega)),
      show Fin.ofNat 512 (128 * j.val + r.val % 128) = ⟨128 * j.val + r.val % 128, by omega⟩ from Fin.ext (Nat.mod_eq_of_lt (by omega))]
  rw [e]
  show (m ((c.tc : Thread nD τ).loc main_arg1) : S270336x1024.Idx → EReal)
    (ValueIdx.ix2 (tokOf (tw m c (32 * b.val + r.val / 128) (Fin.ofNat 512 (128 * j.val + r.val % 128)))) l) = _
  rw [hw, ← ix2_eq_valueIdx]
  exact congrArg (fun z => (m ((c.tc : Thread nD τ).loc main_arg1) : S270336x1024.Idx → EReal) (ix2 z l)) (Fin.ext (tok_of _ (hW c _)))

theorem out_apply (hW : Words m) (b : Fin 16) (r : Fin 4096) (k : Fin 1024) :
    (out m c : S16x4096x1024.Idx → EReal) (ix3 b r k)
      = lnorm (joined (fun j => (m ((c.tc : Thread nD τ).loc main_arg2) : S4x65536.Idx → EReal) (ix2 j (flat b r)))
            (fun j l => (m ((c.tc : Thread nD τ).loc main_arg1) : S270336x1024.Idx → EReal)
              (ix2 ⟨((m ((c.tc : Thread nD τ).loc main_arg0) : S4x65536.Idx → BitVec 32) (ix2 j (flat b r))).toNat, hW c _⟩ l))
            (fun l => (m ((c.tc : Thread nD τ).loc main_arg3) : S16x4096x1024.Idx → EReal) (ix3 b r l))
            (fun l => (m ((c.tc : Thread nD τ).loc main_arg4) : S16x1x1024.Idx → EReal) (ix3 b 0 l)))
          (fun l => (m ((c.tc : Thread nD τ).loc main_arg5) : S1024.Idx → EReal) (ix1 l))
          (fun l => (m ((c.tc : Thread nD τ).loc main_arg6) : S1024.Idx → EReal) (ix1 l)) k := by
  have e3 : V m c main_arg3 = m ((c.tc : Thread nD τ).loc main_arg3) := V_arg m c main_arg3 (by decide)
  have e4 : V m c main_arg4 = m ((c.tc : Thread nD τ).loc main_arg4) := V_arg m c main_arg4 (by decide)
  have hb : Fin.ofNat 16 ((32 * b.val + r.val / 128) / 32) = b := Fin.ext (by show (32 * b.val + r.val / 128) / 32 % 16 = b.val; omega)
  have hr : Fin.ofNat 4096 (128 * ((32 * b.val + r.val / 128) % 32) + r.val % 128) = r :=
    Fin.ext (by show (128 * ((32 * b.val + r.val / 128) % 32) + r.val % 128) % 4096 = r.val; omega)
  have hf : Fin.ofNat 65536 (128 * (32 * b.val + r.val / 128) + r.val % 128) = flat b r :=
    Fin.ext (by show (128 * (32 * b.val + r.val / 128) + r.val % 128) % 65536 = 4096 * b.val + r.val; omega)
  have g2 : ∀ j : Fin 4, gsl (V m c main_v0) (32 * b.val + r.val / 128) (ix2 (Fin.ofNat 128 r.val) j)
      = (m ((c.tc : Thread nD τ).loc main_arg2) : S4x65536.Idx → EReal) (ix2 j (flat b r)) := fun j => by
    show V m c main_v0 (ValueIdx.ix2 (Fin.ofNat 65536 (128 * (32 * b.val + r.val / 128) + r.val % 128)) j) = _
    rw [hf, ← ix2_eq_valueIdx]; exact gate m c _ j
  have g3 : ∀ l : Fin 1024, xsl (V m c main_arg3) (32 * b.val + r.val / 128) (ix3 0 (Fin.ofNat 128 r.val) l)
      = (m ((c.tc : Thread nD τ).loc main_arg3) : S16x4096x1024.Idx → EReal) (ix3 b r l) := fun l => by
    show V m c main_arg3 (ValueIdx.ix3 (Fin.ofNat 16 ((32 * b.val + r.val / 128) / 32)) (Fin.ofNat 4096 (128 * ((32 * b.val + r.val / 128) % 32) + r.val % 128)) l) = _
    rw [hb, hr, ← ix3_eq_valueIdx, e3]
  have g4 : ∀ l : Fin 1024, bsl (V m c main_arg4) (32 * b.val + r.val / 128) (ix3 0 0 l)
      = (m ((c.tc : Thread nD τ).loc main_arg4) : S16x1x1024.Idx → EReal) (ix3 b 0 l) := fun l => by
    show V m c main_arg4 (ValueIdx.ix3 (Fin.ofNat 16 ((32 * b.val + r.val / 128) / 32)) 0 l) = _
    rw [hb, ← ix3_eq_valueIdx, e4]
  show outb m c (32 * b.val + r.val / 128) (ValueIdx.ix3 0 (Fin.ofNat 128 r.val) k) = _
  rw [← ix3_eq_valueIdx]
  unfold outb
  rw [outv_apply]
  simp only [named m c hW, g2, g3, g4]
  exact congrArg₂ (lnorm _ · · k) (funext fun l => gain m c l) (funext fun l => shift m c l)

end Kernel

theorem result (m : (ℓ : Loc Cert.OutKernelIdeal.nD Cert.OutKernelIdeal.τ Cert.OutKernelIdeal.sig) → Buf (Elt Ideal) ℓ)
    (m' : (ℓ : Loc Cert.OutReferenceIdeal.nD Cert.OutReferenceIdeal.τ Cert.OutReferenceIdeal.sig) → Buf (Elt Ideal) ℓ) (c : Dev Cert.OutKernelIdeal.nD)
    (e : m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6))
    (hW : Cert.OutKernelIdeal.Hand.Words m) :
    refRes m' c = Cert.OutKernelIdeal.Hand.out m c := by
  obtain ⟨e0, e1, e2, e3, e4, e5, e6⟩ := e
  funext y
  obtain ⟨b, r, k, rfl⟩ : ∃ (b : Fin 16) (r : Fin 4096) (k : Fin 1024), y = ix3 b r k := ⟨y 0, y 1, y 2, eq_ix3 y⟩
  refine Eq.trans ?_ (out_apply m c hW b r k).symm
  unfold refRes
  rw [e0, e1, e2, e3, e4, e5, e6]
  exact refOut_apply _ _ _ _ _ _ _ (hW c) b r k

end Cert.Out

end
-- ==== Proof.Proj.Mix.lean ====
/-
  The output projection of a row, entry by entry: the mathematics both programs compute.
-/
module

public import proofs.«01_k».proof.Proof.Value.Norm

@[expose] public section

noncomputable section

namespace Cert.Proj

open Idealize.ShloMosaic Cert.Bridge

/-- The rows of the output weights: the first 512, and the last 512. -/
def lowRow (e : Fin 512) : Fin 1024 := ⟨e.val, by omega⟩
def highRow (e : Fin 512) : Fin 1024 := ⟨512 + e.val, by omega⟩

/-- Channel `c` of group `g`, of eight groups of 64. -/
def chan (g : Fin 8) (c : Fin 64) : Fin 512 := ⟨64 * g.val + c.val, by omega⟩
def groupOf (e : Fin 512) : Fin 8 := ⟨e.val / 64, by omega⟩
def inGroup (e : Fin 512) : Fin 64 := ⟨e.val % 64, by omega⟩

theorem chan_of (e : Fin 512) : chan (groupOf e) (inGroup e) = e := Fin.ext (by show 64 * (e.val / 64) + e.val % 64 = e.val; omega)

/-- A sum over the channels is the sum over the groups of the sums over each. -/
theorem sum_chan (f : Fin 512 → EReal) : ∑ e : Fin 512, f e = ∑ g : Fin 8, ∑ c : Fin 64, f (chan g c) := by
  rw [← Fintype.sum_prod_type' fun g c => f (chan g c)]
  refine Fintype.sum_equiv ⟨fun e => (groupOf e, inGroup e), fun p => chan p.1 p.2, chan_of, fun p => ?_⟩ _ _ fun e => congrArg f (chan_of e).symm
  obtain ⟨g, c⟩ := p
  exact Prod.ext (Fin.ext (by show (64 * g.val + c.val) / 64 = g.val; omega)) (Fin.ext (by show (64 * g.val + c.val) % 64 = c.val; omega))

/-- A sum over the rows of the output weights is the sum over the first half and the sum over the second. -/
theorem sum_halves (f : Fin 1024 → EReal) : ∑ j : Fin 1024, f j = (∑ e : Fin 512, f (lowRow e)) + ∑ e : Fin 512, f (highRow e) :=
  Fin.sum_univ_add (a := 512) (b := 512) f

/-- The product with the block diagonal of the groups' weights is the product of each group with its own. -/
theorem sum_blocks (z : Fin 512 → EReal) (w : Fin 8 → Fin 64 → EReal) (g : Fin 8) :
    ∑ e : Fin 512, z e * ((if groupOf e = g then 1 else 0) * w (groupOf e) (inGroup e)) = ∑ c : Fin 64, w g c * z (chan g c) := by
  have hg : ∀ (h : Fin 8) (c : Fin 64), groupOf (chan h c) = h := fun h c => Fin.ext (by show (64 * h.val + c.val) / 64 = h.val; omega)
  have hc : ∀ (h : Fin 8) (c : Fin 64), inGroup (chan h c) = c := fun h c => Fin.ext (by show (64 * h.val + c.val) % 64 = c.val; omega)
  rw [sum_chan, Finset.sum_eq_single g]
  · refine Finset.sum_congr rfl fun c _ => ?_
    rw [hg, hc, if_pos rfl, one_mul, mul_comm]
  · intro h _ hne
    refine Finset.sum_eq_zero fun c _ => ?_
    rw [hg, if_neg hne, zero_mul, mul_zero]
  · exact fun h => absurd (Finset.mem_univ g) h

/-- The mixed row through the output weights: the recurrence's half `p` and the Fourier half `q`. -/
def mixed (p q : Fin 512 → EReal) (w : Fin 1024 → Fin 1024 → EReal) (k : Fin 1024) : EReal :=
  (∑ e : Fin 512, p e * w (lowRow e) k) + ∑ e : Fin 512, q e * w (highRow e) k

/-- The row before its second normalization. -/
def skip (x q gate : Fin 1024 → EReal) (k : Fin 1024) : EReal :=
  Ideal.ofBits .f32 0x3F9837F0#32 * x k + gate k * q k

/-- The Fourier half of the mixed row: each group of channels through its own weights, and its bias. -/
def spread (z : Fin 512 → EReal) (f : Fin 8 → Fin 64 → Fin 64 → EReal) (a : Fin 8 → Fin 64 → EReal) (e : Fin 512) : EReal :=
  (∑ l : Fin 64, f (groupOf e) l (inGroup e) * z (chan (groupOf e) l)) + a (groupOf e) (inGroup e)

/-- The row after it: `x` normalized, the mixed halves added, and the sum normalized. -/
def row (x g b : Fin 1024 → EReal) (p q z : Fin 512 → EReal) (f : Fin 8 → Fin 64 → Fin 64 → EReal) (a : Fin 8 → Fin 64 → EReal)
    (w : Fin 1024 → Fin 1024 → EReal) (gate g' b' : Fin 1024 → EReal) (k : Fin 1024) : EReal :=
  lnorm (skip (lnorm x g b) (mixed (fun e => p e + q e) (spread z f a) w) gate) g' b' k

/-- A row shifted and scaled. -/
def shifted (x sc sh : Fin 1024 → EReal) (k : Fin 1024) : EReal := x k * (Ideal.ofBits .f32 0x3F800000#32 + sc k) + sh k

end Cert.Proj

end
-- ==== Proof.Proj.Block.lean ====
/-
  The output projection's block, read at an index.
-/
module

public import proofs.«01_k».proof.Proof.Proj.Mix
public import proofs.«01_k».proof.Proof.Gen.ProjKernelIdeal.Skeleton

@[expose] public section

set_option maxRecDepth 16384

noncomputable section

namespace Cert.Proj

open Idealize.ShloMosaic Cert.ProjKernelIdeal Cert.ProjKernelIdeal.Facts₀ Cert.ProjKernelIdeal.Gen Cert.Bridge

variable [Cert.ProjKernelIdeal.Facts]

/-- The rows of the block normalized. -/
theorem pay7_apply (x : Vec Ideal S1x512x1024 .f32) (g b : Vec Ideal S1x1024 .f32) (r : Fin 512) (k : Fin 1024) :
    k0_pay7 x g b (ix2 r k) = lnorm (fun k => x (ix3 0 r k)) (fun k => g (ix2 0 k)) (fun k => b (ix2 0 k)) k := by
  pointwise [k0_pay7, lnorm, mean]

/-- The rows of the block before their second normalization. -/
theorem pay9_apply (d : Vec Ideal S1x6x1x1024 .f32) (x : FVec Ideal S512x1024 .f32) (p q z : Vec Ideal S1x512x512 .f32)
    (f : Vec Ideal S512x512 .bf16) (a : Vec Ideal S1x512 .f32) (u v : Vec Ideal S512x1024 .bf16) (r : Fin 512) (k : Fin 1024) :
    k0_pay9 (k0_pay6 d) x (k0_pay8 p) q z f a u v (ix2 r k)
      = skip (fun k => x (ix2 r k))
          (fun k => (∑ e : Fin 512, (p (ix3 0 r e) + q (ix3 0 r e)) * u (ix2 e k))
            + ∑ e : Fin 512, ((∑ c : Fin 512, z (ix3 0 r c) * f (ix2 c e)) + a (ix2 0 e)) * v (ix2 e k))
          (fun k => d (ix4 0 2 0 k)) k := by
  pointwise [k0_pay9, k0_pay6, k0_pay8, skip]

theorem pay12_apply (d : FVec Ideal S6x1x1024 .f32) (x : FVec Ideal S512x1024 .f32) (p : FVec Ideal S512x512 .f32) (q z : Vec Ideal S1x512x512 .f32)
    (f : Vec Ideal S512x512 .bf16) (a : Vec Ideal S1x512 .f32) (u v : Vec Ideal S512x1024 .bf16) (r : Fin 512) :
    k0_pay12 d x p q z f a u v (ix2 r 0) = ∑ k : Fin 1024, k0_pay9 d x p q z f a u v (ix2 r k) := by
  pointwise [k0_pay12]

/-- The rows of the block after it. -/
theorem pay14_apply (x : FVec Ideal S512x1024 .f32) (g b : Vec Ideal S1x1024 .f32) (s : FVec Ideal S512x1 .f32)
    (hs : ∀ r : Fin 512, s (ix2 r 0) = ∑ k : Fin 1024, x (ix2 r k)) (r : Fin 512) (k : Fin 1024) :
    k0_pay14 x (k0_pay10 g) (k0_pay11 b) s k0_pay13 (ix2 r k)
      = lnorm (fun k => x (ix2 r k)) (fun k => g (ix2 0 k)) (fun k => b (ix2 0 k)) k := by
  have h : k0_pay14 x (k0_pay10 g) (k0_pay11 b) s k0_pay13 (ix2 r k)
      = (x (ix2 r k) - Ideal.div (s (ix2 r 0)) (Ideal.ofBits .f32 0x44800000#32))
          * Ideal.rsqrt (Ideal.div (∑ l : Fin 1024, (x (ix2 r l) - Ideal.div (s (ix2 r 0)) (Ideal.ofBits .f32 0x44800000#32))
              * (x (ix2 r l) - Ideal.div (s (ix2 r 0)) (Ideal.ofBits .f32 0x44800000#32))) (Ideal.ofBits .f32 0x44800000#32)
            + Ideal.ofBits .f32 0x3727C5AC#32) * g (ix2 0 k) + b (ix2 0 k) := by
    pointwise [k0_pay14, k0_pay10, k0_pay11, k0_pay13]
  rw [h, hs]; rfl

/-- The first result's block, and the second's. -/
theorem pay16_apply (x : FVec Ideal S512x1024 .f32) (g b : FVec Ideal S1x1024 .f32) (s w : FVec Ideal S512x1 .f32) (r : Fin 512) (k : Fin 1024) :
    k0_pay16 x g b s w (ix3 0 r k) = k0_pay14 x g b s w (ix2 r k) := by
  pointwise [k0_pay16]

theorem pay17_apply (d : Vec Ideal S1x6x1x1024 .f32) (x : FVec Ideal S512x1024 .f32) (g b : FVec Ideal S1x1024 .f32) (s w : FVec Ideal S512x1 .f32)
    (r : Fin 512) (k : Fin 1024) :
    k0_pay17 (k0_pay6 d) x g b s w (ix3 0 r k)
      = k0_pay14 x g b s w (ix2 r k) * (Ideal.ofBits .f32 0x3F800000#32 + d (ix4 0 4 0 k)) + d (ix4 0 3 0 k) := by
  pointwise [k0_pay17, k0_pay15, k0_pay6]

end Cert.Proj

end
-- ==== Proof.Proj.Pieces.lean ====
/-
  What a point of the output projection's grid writes to its two arrays, as a function of the blocks it reads. The
  first point differs from the others only in what it does for the routing.
-/
module

public import proofs.«01_k».proof.Proof.Proj.Block
public import proofs.«01_k».proof.Proof.Gen.ProjKernelIdeal.Value
public import Idealize.ShloMosaic.Lib.Pipeline.Value

@[expose] public section

set_option maxRecDepth 16384

noncomputable section

namespace Cert.Proj

open Idealize.ShloMosaic Cert.ProjKernelIdeal Cert.ProjKernelIdeal.Gen
open Idealize.ShloMosaic.TcCoe Idealize.ShloMosaic.Tactic Idealize.SL.Sem
open Idealize.ShloMosaic.Pipeline (Dat)
open Cert.ProjKernelIdeal.Value (flushed15_A flushed15_B flushed16_A flushed16_B)

variable (m : (ℓ : Loc nD τ sig) → Buf (Elt Ideal) ℓ) (c : Dev nD)

/-- The upper and the lower half of the output weights. -/
def upper (w : Vec Ideal S1024x1024 .bf16) : Vec Ideal S512x1024 .bf16 :=
  View.ld w (Rect.unit (s := S1024x1024) ![0, 0] S512x1024.size inb_S1024x1024_S512x1024_0_0)
def lower (w : Vec Ideal S1024x1024 .bf16) : Vec Ideal S512x1024 .bf16 :=
  View.ld w (Rect.unit (s := S1024x1024) ![512, 0] S512x1024.size inb_S1024x1024_S512x1024_512_0)

/-- The block before its second normalization. -/
def mid (x0 : Vec Ideal S1x512x1024 .f32) (x1 x2 x3 : Vec Ideal S1x512x512 .f32) (x4 : Vec Ideal S1x6x1x1024 .f32)
    (x5 x6 : Vec Ideal S1x1024 .f32) (x9 : Vec Ideal S512x512 .bf16) (x10 : Vec Ideal S1x512 .f32) (x11 : Vec Ideal S1024x1024 .bf16) :
    FVec Ideal S512x1024 .f32 :=
  k0_pay9 (k0_pay6 x4) (k0_pay7 x0 x5 x6) (k0_pay8 x1) x2 x3 x9 x10 (upper x11) (lower x11)

/-- Its row sums. -/
def midSum (x0 : Vec Ideal S1x512x1024 .f32) (x1 x2 x3 : Vec Ideal S1x512x512 .f32) (x4 : Vec Ideal S1x6x1x1024 .f32)
    (x5 x6 : Vec Ideal S1x1024 .f32) (x9 : Vec Ideal S512x512 .bf16) (x10 : Vec Ideal S1x512 .f32) (x11 : Vec Ideal S1024x1024 .bf16) :
    FVec Ideal S512x1 .f32 :=
  k0_pay12 (k0_pay6 x4) (k0_pay7 x0 x5 x6) (k0_pay8 x1) x2 x3 x9 x10 (upper x11) (lower x11)

/-- The first result's block at point `t`. -/
def first (t : Fin cfg0.N) : Vec Ideal S1x512x1024 .f32 :=
  k0_pay16 (mid (iblk m c 0 t) (iblk m c 1 t) (iblk m c 2 t) (iblk m c 3 t) (iblk m c 4 t) (iblk m c 5 t) (iblk m c 6 t) (iblk m c 9 t) (iblk m c 10 t) (iblk m c 11 t))
    (k0_pay10 (iblk m c 7 t)) (k0_pay11 (iblk m c 8 t))
    (midSum (iblk m c 0 t) (iblk m c 1 t) (iblk m c 2 t) (iblk m c 3 t) (iblk m c 4 t) (iblk m c 5 t) (iblk m c 6 t) (iblk m c 9 t) (iblk m c 10 t) (iblk m c 11 t))
    k0_pay13

/-- The second's. -/
def second (t : Fin cfg0.N) : Vec Ideal S1x512x1024 .f32 :=
  k0_pay17 (k0_pay6 (iblk m c 4 t))
    (mid (iblk m c 0 t) (iblk m c 1 t) (iblk m c 2 t) (iblk m c 3 t) (iblk m c 4 t) (iblk m c 5 t) (iblk m c 6 t) (iblk m c 9 t) (iblk m c 10 t) (iblk m c 11 t))
    (k0_pay10 (iblk m c 7 t)) (k0_pay11 (iblk m c 8 t))
    (midSum (iblk m c 0 t) (iblk m c 1 t) (iblk m c 2 t) (iblk m c 3 t) (iblk m c 4 t) (iblk m c 5 t) (iblk m c 6 t) (iblk m c 9 t) (iblk m c 10 t) (iblk m c 11 t))
    k0_pay13

theorem zeros4 : (![0, 0, 0, 0] : Fin 4 → ℕ) = fun _ => 0 := by decide
theorem zeros3 : (![0, 0, 0] : Fin 3 → ℕ) = fun _ => 0 := by decide
theorem zeros2 : (![0, 0] : Fin 2 → ℕ) = fun _ => 0 := by decide

theorem found15 (t : Fin cfg0.N) : (dats m 0 c).flushed 15 t = (cfg0.win 15).cut (grid0.coords t) (first m c t) := by
  by_cases h0 : t.val % 128 = 0
  · rw [flushed15_A m c t h0]
    refine congrArg _ ?_
    unfold out0_A_15
    rw [View.read_writes_junk_eq_canon]
    unfold kernelRun0_A first mid midSum upper lower; dsimp only; sl_unfold_words
    rw [View.canon_cons_unit_zero (S := S1x512x1024) zeros3]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_10 t).read_unread, (hs0_11 t).read_unread,
      View.ld_unit_zero (S := S1x6x1x1024) zeros4, View.ld_unit_zero (S := S1x512x1024) zeros3, View.ld_unit_zero (S := S1x512x512) zeros3,
      View.ld_unit_zero (S := S1x1024) zeros2, View.ld_unit_zero (S := S512x512) zeros2, View.ld_unit_zero (S := S1x512) zeros2]
  · rw [flushed15_B m c t h0]
    refine congrArg _ ?_
    unfold out0_B_15
    rw [View.read_writes_junk_eq_canon]
    unfold kernelRun0_B first mid midSum upper lower; dsimp only; sl_unfold_words
    rw [View.canon_cons_unit_zero (S := S1x512x1024) zeros3]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_10 t).read_unread, (hs0_11 t).read_unread,
      View.ld_unit_zero (S := S1x6x1x1024) zeros4, View.ld_unit_zero (S := S1x512x1024) zeros3, View.ld_unit_zero (S := S1x512x512) zeros3,
      View.ld_unit_zero (S := S1x1024) zeros2, View.ld_unit_zero (S := S512x512) zeros2, View.ld_unit_zero (S := S1x512) zeros2]

theorem found16 (t : Fin cfg0.N) : (dats m 0 c).flushed 16 t = (cfg0.win 16).cut (grid0.coords t) (second m c t) := by
  by_cases h0 : t.val % 128 = 0
  · rw [flushed16_A m c t h0]
    refine congrArg _ ?_
    unfold out0_A_16
    rw [View.read_writes_junk_eq_canon]
    unfold kernelRun0_A second mid midSum upper lower; dsimp only; sl_unfold_words
    rw [View.canon_cons_unit_zero (S := S1x512x1024) zeros3]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_10 t).read_unread, (hs0_11 t).read_unread,
      View.ld_unit_zero (S := S1x6x1x1024) zeros4, View.ld_unit_zero (S := S1x512x1024) zeros3, View.ld_unit_zero (S := S1x512x512) zeros3,
      View.ld_unit_zero (S := S1x1024) zeros2, View.ld_unit_zero (S := S512x512) zeros2, View.ld_unit_zero (S := S1x512) zeros2]
  · rw [flushed16_B m c t h0]
    refine congrArg _ ?_
    unfold out0_B_16
    rw [View.read_writes_junk_eq_canon]
    unfold kernelRun0_B second mid midSum upper lower; dsimp only; sl_unfold_words
    rw [View.canon_cons_unit_zero (S := S1x512x1024) zeros3]
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_10 t).read_unread, (hs0_11 t).read_unread,
      View.ld_unit_zero (S := S1x6x1x1024) zeros4, View.ld_unit_zero (S := S1x512x1024) zeros3, View.ld_unit_zero (S := S1x512x512) zeros3,
      View.ld_unit_zero (S := S1x1024) zeros2, View.ld_unit_zero (S := S512x512) zeros2, View.ld_unit_zero (S := S1x512) zeros2]

end Cert.Proj

end
-- ==== Proof.Proj.Kernel.lean ====
/-
  The output projection's two arrays after the grid: point `t` of the 128 does rows `512 (t % 8)` to
  `512 (t % 8) + 511` of batch `t / 8`.
-/
module

public import proofs.«01_k».proof.Proof.Proj.Pieces
public import Idealize.ShloMosaic.Lib.Pointwise.Reshape

@[expose] public section

set_option maxRecDepth 16384

noncomputable section

namespace Cert.Proj

open Idealize.ShloMosaic Cert.ProjKernelIdeal Cert.ProjKernelIdeal.Gen Cert.Bridge
open Idealize.ShloMosaic.TcCoe Idealize.ShloMosaic.Tactic Idealize.SL.Sem
open Idealize.ShloMosaic.Pipeline (Dat)

variable (m : (ℓ : Loc nD τ sig) → Buf (Elt Ideal) ℓ) (c : Dev nD)

/-! ## What the host hands over -/

/-- The unit matrix over the groups. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- The block diagonal of the groups' weights. -/
def diagonal (w : FVec Ideal S8x64x64 .f32) : FVec Ideal S512x512 .f32 :=
  shapeCast S512x512 (mulf (broadcastInDim S8x64x8x64 ![0, 1, 2, 3] bcast_S8x1x8x1_S8x64x8x64_0_1_2_3 (broadcastInDim S8x1x8x1 ![0, 2] bcast_S8x8_S8x1x8x1_0_2 eye))
      (broadcastInDim S8x64x8x64 ![0, 1, 2, 3] bcast_S8x64x1x64_S8x64x8x64_0_1_2_3 (broadcastInDim S8x64x1x64 ![0, 1, 3] bcast_S8x64x64_S8x64x1x64_0_1_3 w)))
    shapeCasts_S8x64x8x64_S512x512

theorem same_group : ∀ g h : Fin 8, IntOp.cmpi .eq (BitVec.ofNat 32 g.val + 0#32) (BitVec.ofNat 32 h.val) = if g = h then 1#1 else 0#1 := by decide

theorem eye_apply (g h : Fin 8) : eye (ix2 g h) = if g = h then 1 else 0 := by
  have e : eye (ix2 g h) = (((IntOp.cmpi .eq (BitVec.ofNat 32 g.val + 0#32) (BitVec.ofNat 32 h.val)).toNat : ℝ) : EReal) := rfl
  rw [e, same_group]
  split <;> simp

theorem diagonal_apply (w : FVec Ideal S8x64x64 .f32) (e f : Fin 512) :
    diagonal w (ix2 e f) = (if groupOf e = groupOf f then 1 else 0 : EReal) * w (ix3 (groupOf e) (inGroup e) (inGroup f)) := by
  have h : diagonal w (ix2 e f) = (mulf (broadcastInDim S8x64x8x64 ![0, 1, 2, 3] bcast_S8x1x8x1_S8x64x8x64_0_1_2_3 (broadcastInDim S8x1x8x1 ![0, 2] bcast_S8x8_S8x1x8x1_0_2 eye))
      (broadcastInDim S8x64x8x64 ![0, 1, 2, 3] bcast_S8x64x1x64_S8x64x8x64_0_1_2_3 (broadcastInDim S8x64x1x64 ![0, 1, 3] bcast_S8x64x64_S8x64x1x64_0_1_3 w)))
        (ix4 (groupOf e) (inGroup e) (groupOf f) (inGroup f)) := by
    refine shapeCast_apply _ _ _ _ ?_
    refine (Shape.rowMajor_val_four _).trans (Eq.trans ?_ (Shape.rowMajor_val_two _).symm)
    show ((e.val / 64 * 64 + e.val % 64) * 8 + f.val / 64) * 64 + f.val % 64 = e.val * 512 + f.val; omega
  rw [h, ← eye_apply]
  pointwise

theorem V_v12 : V m c main_v12 = (truncf .bf16 (diagonal (m ((c : Thread nD τ).loc main_arg7))) bitsLt_bf16_f32 : FVec Ideal S512x512 .bf16) := by
  unfold_abbrev_sides
  simp only [hostOps0, hostOps0_1, hostOps0_2, List.flatten_cons, List.flatten_nil, List.append_nil, List.cons_append, List.nil_append]
  after_results; rfl
theorem V_v13 : V m c main_v13 = shapeCast S1x1024 (m ((c : Thread nD τ).loc main_arg5)) shapeCasts_S1024_S1x1024 := by
  unfold_abbrev_sides
  simp only [hostOps0, hostOps0_1, hostOps0_2, List.flatten_cons, List.flatten_nil, List.append_nil, List.cons_append, List.nil_append]
  after_results; rfl
theorem V_v14 : V m c main_v14 = shapeCast S1x1024 (m ((c : Thread nD τ).loc main_arg6)) shapeCasts_S1024_S1x1024 := by
  unfold_abbrev_sides
  simp only [hostOps0, hostOps0_1, hostOps0_2, List.flatten_cons, List.flatten_nil, List.append_nil, List.cons_append, List.nil_append]
  after_results; rfl
theorem V_v15 : V m c main_v15 = shapeCast S1x1024 (m ((c : Thread nD τ).loc main_arg10)) shapeCasts_S1024_S1x1024 := by
  unfold_abbrev_sides
  simp only [hostOps0, hostOps0_1, hostOps0_2, List.flatten_cons, List.flatten_nil, List.append_nil, List.cons_append, List.nil_append]
  after_results; rfl
theorem V_v16 : V m c main_v16 = shapeCast S1x1024 (m ((c : Thread nD τ).loc main_arg11)) shapeCasts_S1024_S1x1024 := by
  unfold_abbrev_sides
  simp only [hostOps0, hostOps0_1, hostOps0_2, List.flatten_cons, List.flatten_nil, List.append_nil, List.cons_append, List.nil_append]
  after_results; rfl
theorem V_v17 : V m c main_v17 = shapeCast S1x512 (m ((c : Thread nD τ).loc main_arg8)) shapeCasts_S8x64_S1x512 := by
  unfold_abbrev_sides
  simp only [hostOps0, hostOps0_1, hostOps0_2, List.flatten_cons, List.flatten_nil, List.append_nil, List.cons_append, List.nil_append]
  after_results; rfl
theorem V_v18 : V m c main_v18 = (truncf .bf16 (m ((c : Thread nD τ).loc main_arg9) : FVec Ideal S1024x1024 .f32) bitsLt_bf16_f32 : FVec Ideal S1024x1024 .bf16) := by
  unfold_abbrev_sides
  simp only [hostOps0, hostOps0_1, hostOps0_2, List.flatten_cons, List.flatten_nil, List.append_nil, List.cons_append, List.nil_append]
  after_results

theorem gain (k : Fin 1024) : (V m c main_v13 : S1x1024.Idx → EReal) (ix2 0 k) = (m ((c : Thread nD τ).loc main_arg5) : S1024.Idx → EReal) (ix1 k) := by
  rw [V_v13]; pointwise
theorem bias (k : Fin 1024) : (V m c main_v14 : S1x1024.Idx → EReal) (ix2 0 k) = (m ((c : Thread nD τ).loc main_arg6) : S1024.Idx → EReal) (ix1 k) := by
  rw [V_v14]; pointwise
theorem gain' (k : Fin 1024) : (V m c main_v15 : S1x1024.Idx → EReal) (ix2 0 k) = (m ((c : Thread nD τ).loc main_arg10) : S1024.Idx → EReal) (ix1 k) := by
  rw [V_v15]; pointwise
theorem bias' (k : Fin 1024) : (V m c main_v16 : S1x1024.Idx → EReal) (ix2 0 k) = (m ((c : Thread nD τ).loc main_arg11) : S1024.Idx → EReal) (ix1 k) := by
  rw [V_v16]; pointwise
theorem groupWeight (e f : Fin 512) : (V m c main_v12 : S512x512.Idx → EReal) (ix2 e f)
    = (if groupOf e = groupOf f then 1 else 0 : EReal) * (m ((c : Thread nD τ).loc main_arg7) : S8x64x64.Idx → EReal) (ix3 (groupOf e) (inGroup e) (inGroup f)) := by
  rw [V_v12]; exact diagonal_apply _ e f
theorem groupBias (e : Fin 512) : (V m c main_v17 : S1x512.Idx → EReal) (ix2 0 e) = (m ((c : Thread nD τ).loc main_arg8) : S8x64.Idx → EReal) (ix2 (groupOf e) (inGroup e)) := by
  rw [V_v17]
  refine shapeCast_apply _ _ _ _ ?_
  refine (Shape.rowMajor_val_two _).trans (Eq.trans ?_ (Shape.rowMajor_val_two _).symm)
  show e.val / 64 * 64 + e.val % 64 = 0 * 512 + e.val; omega
theorem weight (j k : Fin 1024) : (V m c main_v18 : S1024x1024.Idx → EReal) (ix2 j k) = (m ((c : Thread nD τ).loc main_arg9) : S1024x1024.Idx → EReal) (ix2 j k) := by
  rw [V_v18]; pointwise

/-! ## The windows' blocks -/

theorem tr0_eq : ∀ t : Fin grid0.N, cc0_transform_0 (grid0.coords t) = ![t.val / 8, t.val % 8, 0] := by decide +kernel
theorem tr1_eq : ∀ t : Fin grid0.N, cc0_transform_1 (grid0.coords t) = ![t.val / 8, t.val % 8, 0] := by decide +kernel
theorem tr2_eq : ∀ t : Fin grid0.N, cc0_transform_2 (grid0.coords t) = ![t.val / 8, t.val % 8, 0] := by decide +kernel
theorem tr3_eq : ∀ t : Fin grid0.N, cc0_transform_3 (grid0.coords t) = ![t.val / 8, t.val % 8, 0] := by decide +kernel
theorem tr15_eq : ∀ t : Fin grid0.N, cc0_transform_15 (grid0.coords t) = ![t.val / 8, t.val % 8, 0] := by decide +kernel
theorem tr16_eq : ∀ t : Fin grid0.N, cc0_transform_16 (grid0.coords t) = ![t.val / 8, t.val % 8, 0] := by decide +kernel
theorem tr4_eq : ∀ t : Fin grid0.N, cc0_transform_4 (grid0.coords t) = ![t.val / 8, 0, 0, 0] := by decide +kernel
theorem tr5_eq : ∀ t : Fin grid0.N, cc0_transform_5 (grid0.coords t) = ![0, 0] := by decide +kernel
theorem tr6_eq : ∀ t : Fin grid0.N, cc0_transform_6 (grid0.coords t) = ![0, 0] := by decide +kernel
theorem tr7_eq : ∀ t : Fin grid0.N, cc0_transform_7 (grid0.coords t) = ![0, 0] := by decide +kernel
theorem tr8_eq : ∀ t : Fin grid0.N, cc0_transform_8 (grid0.coords t) = ![0, 0] := by decide +kernel
theorem tr9_eq : ∀ t : Fin grid0.N, cc0_transform_9 (grid0.coords t) = ![0, 0] := by decide +kernel
theorem tr10_eq : ∀ t : Fin grid0.N, cc0_transform_10 (grid0.coords t) = ![0, 0] := by decide +kernel
theorem tr11_eq : ∀ t : Fin grid0.N, cc0_transform_11 (grid0.coords t) = ![0, 0] := by decide +kernel

/-- The batch of point `t`, and where its row `r` lies in it. -/
def batch (t : Fin cfg0.N) : Fin 16 := ⟨t.val / 8, by have := lt_of_lt_of_eq t.isLt N_0; omega⟩
def place (t : Fin cfg0.N) (r : Fin 512) : Fin 4096 := ⟨512 * (t.val % 8) + r.val, by omega⟩

theorem blk0 (t : Fin cfg0.N) (r : Fin 512) (k : Fin 1024) :
    (iblk m c 0 t : S1x512x1024.Idx → EReal) (ix3 0 r k) = (m ((c : Thread nD τ).loc main_arg0) : S16x4096x1024.Idx → EReal) (ix3 (batch t) (place t r) k) := by
  refine (congrArg (V m c main_arg0) (funext fun a => Fin.ext ?_)).trans (congrFun (V_main_arg0 m c) (ix3 (batch t) (place t r) k))
  show cc0_transform_0 (grid0.coords t) a * S1x512x1024.size a + 1 * ((ix3 0 r k : S1x512x1024.Idx) a).val = _
  rw [tr0_eq]
  fin_cases a
  · show t.val / 8 * 1 + 1 * 0 = t.val / 8; omega
  · show t.val % 8 * 512 + 1 * r.val = 512 * (t.val % 8) + r.val; omega
  · show 0 * 1024 + 1 * k.val = k.val; omega

theorem blk1 (t : Fin cfg0.N) (r : Fin 512) (k : Fin 512) :
    (iblk m c 1 t : S1x512x512.Idx → EReal) (ix3 0 r k) = (m ((c : Thread nD τ).loc main_arg1) : S16x4096x512.Idx → EReal) (ix3 (batch t) (place t r) k) := by
  refine (congrArg (V m c main_arg1) (funext fun a => Fin.ext ?_)).trans (congrFun (V_main_arg1 m c) (ix3 (batch t) (place t r) k))
  show cc0_transform_1 (grid0.coords t) a * S1x512x512.size a + 1 * ((ix3 0 r k : S1x512x512.Idx) a).val = _
  rw [tr1_eq]
  fin_cases a
  · show t.val / 8 * 1 + 1 * 0 = t.val / 8; omega
  · show t.val % 8 * 512 + 1 * r.val = 512 * (t.val % 8) + r.val; omega
  · show 0 * 512 + 1 * k.val = k.val; omega

theorem blk2 (t : Fin cfg0.N) (r : Fin 512) (k : Fin 512) :
    (iblk m c 2 t : S1x512x512.Idx → EReal) (ix3 0 r k) = (m ((c : Thread nD τ).loc main_arg2) : S16x4096x512.Idx → EReal) (ix3 (batch t) (place t r) k) := by
  refine (congrArg (V m c main_arg2) (funext fun a => Fin.ext ?_)).trans (congrFun (V_main_arg2 m c) (ix3 (batch t) (place t r) k))
  show cc0_transform_2 (grid0.coords t) a * S1x512x512.size a + 1 * ((ix3 0 r k : S1x512x512.Idx) a).val = _
  rw [tr2_eq]
  fin_cases a
  · show t.val / 8 * 1 + 1 * 0 = t.val / 8; omega
  · show t.val % 8 * 512 + 1 * r.val = 512 * (t.val % 8) + r.val; omega
  · show 0 * 512 + 1 * k.val = k.val; omega

theorem blk3 (t : Fin cfg0.N) (r : Fin 512) (k : Fin 512) :
    (iblk m c 3 t : S1x512x512.Idx → EReal) (ix3 0 r k) = (m ((c : Thread nD τ).loc main_arg3) : S16x4096x512.Idx → EReal) (ix3 (batch t) (place t r) k) := by
  refine (congrArg (V m c main_arg3) (funext fun a => Fin.ext ?_)).trans (congrFun (V_main_arg3 m c) (ix3 (batch t) (place t r) k))
  show cc0_transform_3 (grid0.coords t) a * S1x512x512.size a + 1 * ((ix3 0 r k : S1x512x512.Idx) a).val = _
  rw [tr3_eq]
  fin_cases a
  · show t.val / 8 * 1 + 1 * 0 = t.val / 8; omega
  · show t.val % 8 * 512 + 1 * r.val = 512 * (t.val % 8) + r.val; omega
  · show 0 * 512 + 1 * k.val = k.val; omega

theorem blk4 (t : Fin cfg0.N) (i : Fin 6) (k : Fin 1024) :
    (iblk m c 4 t : S1x6x1x1024.Idx → EReal) (ix4 0 i 0 k) = (m ((c : Thread nD τ).loc main_arg4) : S16x6x1x1024.Idx → EReal) (ix4 (batch t) i 0 k) := by
  refine (congrArg (V m c main_arg4) (funext fun a => Fin.ext ?_)).trans (congrFun (V_main_arg4 m c) (ix4 (batch t) i 0 k))
  show cc0_transform_4 (grid0.coords t) a * S1x6x1x1024.size a + 1 * ((ix4 0 i 0 k : S1x6x1x1024.Idx) a).val = _
  rw [tr4_eq]
  fin_cases a
  · show t.val / 8 * 1 + 1 * 0 = t.val / 8; omega
  · show 0 * 6 + 1 * i.val = i.val; omega
  · rfl
  · show 0 * 1024 + 1 * k.val = k.val; omega

theorem blk5 (t : Fin cfg0.N) (k : Fin 1024) :
    (iblk m c 5 t : S1x1024.Idx → EReal) (ix2 0 k) = (m ((c : Thread nD τ).loc main_arg5) : S1024.Idx → EReal) (ix1 k) := by
  refine (congrArg (V m c main_v13) (funext fun a => Fin.ext ?_)).trans (gain m c k)
  show cc0_transform_5 (grid0.coords t) a * S1x1024.size a + 1 * ((ix2 0 k : S1x1024.Idx) a).val = _
  rw [tr5_eq]
  fin_cases a
  · rfl
  · show 0 * 1024 + 1 * k.val = k.val; omega

theorem blk6 (t : Fin cfg0.N) (k : Fin 1024) :
    (iblk m c 6 t : S1x1024.Idx → EReal) (ix2 0 k) = (m ((c : Thread nD τ).loc main_arg6) : S1024.Idx → EReal) (ix1 k) := by
  refine (congrArg (V m c main_v14) (funext fun a => Fin.ext ?_)).trans (bias m c k)
  show cc0_transform_6 (grid0.coords t) a * S1x1024.size a + 1 * ((ix2 0 k : S1x1024.Idx) a).val = _
  rw [tr6_eq]
  fin_cases a
  · rfl
  · show 0 * 1024 + 1 * k.val = k.val; omega

theorem blk7 (t : Fin cfg0.N) (k : Fin 1024) :
    (iblk m c 7 t : S1x1024.Idx → EReal) (ix2 0 k) = (m ((c : Thread nD τ).loc main_arg10) : S1024.Idx → EReal) (ix1 k) := by
  refine (congrArg (V m c main_v15) (funext fun a => Fin.ext ?_)).trans (gain' m c k)
  show cc0_transform_7 (grid0.coords t) a * S1x1024.size a + 1 * ((ix2 0 k : S1x1024.Idx) a).val = _
  rw [tr7_eq]
  fin_cases a
  · rfl
  · show 0 * 1024 + 1 * k.val = k.val; omega

theorem blk8 (t : Fin cfg0.N) (k : Fin 1024) :
    (iblk m c 8 t : S1x1024.Idx → EReal) (ix2 0 k) = (m ((c : Thread nD τ).loc main_arg11) : S1024.Idx → EReal) (ix1 k) := by
  refine (congrArg (V m c main_v16) (funext fun a => Fin.ext ?_)).trans (bias' m c k)
  show cc0_transform_8 (grid0.coords t) a * S1x1024.size a + 1 * ((ix2 0 k : S1x1024.Idx) a).val = _
  rw [tr8_eq]
  fin_cases a
  · rfl
  · show 0 * 1024 + 1 * k.val = k.val; omega

theorem blk9 (t : Fin cfg0.N) (e f : Fin 512) : (iblk m c 9 t : S512x512.Idx → EReal) (ix2 e f)
    = (if groupOf e = groupOf f then 1 else 0 : EReal) * (m ((c : Thread nD τ).loc main_arg7) : S8x64x64.Idx → EReal) (ix3 (groupOf e) (inGroup e) (inGroup f)) := by
  refine (congrArg (V m c main_v12) (funext fun a => Fin.ext ?_)).trans (groupWeight m c e f)
  show cc0_transform_9 (grid0.coords t) a * S512x512.size a + 1 * ((ix2 e f : S512x512.Idx) a).val = _
  rw [tr9_eq]
  fin_cases a
  · show 0 * 512 + 1 * e.val = e.val; omega
  · show 0 * 512 + 1 * f.val = f.val; omega

theorem blk10 (t : Fin cfg0.N) (e : Fin 512) :
    (iblk m c 10 t : S1x512.Idx → EReal) (ix2 0 e) = (m ((c : Thread nD τ).loc main_arg8) : S8x64.Idx → EReal) (ix2 (groupOf e) (inGroup e)) := by
  refine (congrArg (V m c main_v17) (funext fun a => Fin.ext ?_)).trans (groupBias m c e)
  show cc0_transform_10 (grid0.coords t) a * S1x512.size a + 1 * ((ix2 0 e : S1x512.Idx) a).val = _
  rw [tr10_eq]
  fin_cases a
  · rfl
  · show 0 * 512 + 1 * e.val = e.val; omega

theorem blk11 (t : Fin cfg0.N) (j k : Fin 1024) :
    (iblk m c 11 t : S1024x1024.Idx → EReal) (ix2 j k) = (m ((c : Thread nD τ).loc main_arg9) : S1024x1024.Idx → EReal) (ix2 j k) := by
  refine (congrArg (V m c main_v18) (funext fun a => Fin.ext ?_)).trans (weight m c j k)
  show cc0_transform_11 (grid0.coords t) a * S1024x1024.size a + 1 * ((ix2 j k : S1024x1024.Idx) a).val = _
  rw [tr11_eq]
  fin_cases a
  · show 0 * 1024 + 1 * j.val = j.val; omega
  · show 0 * 1024 + 1 * k.val = k.val; omega

/-! ## What a point writes back -/

theorem upper_apply (w : Vec Ideal S1024x1024 .bf16) (e : Fin 512) (k : Fin 1024) : upper w (ix2 e k) = w (ix2 (lowRow e) k) := by
  refine congrArg w (funext fun a => Fin.ext ?_)
  fin_cases a
  · show 0 + 1 * e.val = e.val; omega
  · show 0 + 1 * k.val = k.val; omega

theorem lower_apply (w : Vec Ideal S1024x1024 .bf16) (e : Fin 512) (k : Fin 1024) : lower w (ix2 e k) = w (ix2 (highRow e) k) := by
  refine congrArg w (funext fun a => Fin.ext ?_)
  fin_cases a
  · show 512 + 1 * e.val = 512 + e.val; omega
  · show 0 + 1 * k.val = k.val; omega

/-- Row `r` of batch `b`, projected and normalized. -/
def out (b : Fin 16) (r : Fin 4096) : Fin 1024 → EReal :=
  row (fun k => (m ((c : Thread nD τ).loc main_arg0) : S16x4096x1024.Idx → EReal) (ix3 b r k))
    (fun k => (m ((c : Thread nD τ).loc main_arg5) : S1024.Idx → EReal) (ix1 k))
    (fun k => (m ((c : Thread nD τ).loc main_arg6) : S1024.Idx → EReal) (ix1 k))
    (fun e => (m ((c : Thread nD τ).loc main_arg1) : S16x4096x512.Idx → EReal) (ix3 b r e))
    (fun e => (m ((c : Thread nD τ).loc main_arg2) : S16x4096x512.Idx → EReal) (ix3 b r e))
    (fun e => (m ((c : Thread nD τ).loc main_arg3) : S16x4096x512.Idx → EReal) (ix3 b r e))
    (fun g l e => (m ((c : Thread nD τ).loc main_arg7) : S8x64x64.Idx → EReal) (ix3 g l e))
    (fun g e => (m ((c : Thread nD τ).loc main_arg8) : S8x64.Idx → EReal) (ix2 g e))
    (fun j k => (m ((c : Thread nD τ).loc main_arg9) : S1024x1024.Idx → EReal) (ix2 j k))
    (fun k => (m ((c : Thread nD τ).loc main_arg4) : S16x6x1x1024.Idx → EReal) (ix4 b 2 0 k))
    (fun k => (m ((c : Thread nD τ).loc main_arg10) : S1024.Idx → EReal) (ix1 k))
    (fun k => (m ((c : Thread nD τ).loc main_arg11) : S1024.Idx → EReal) (ix1 k))

/-- The two results. -/
def outX : S16x4096x1024.Idx → EReal := fun i => out m c (i 0) (i 1) (i 2)
def outH : S16x4096x1024.Idx → EReal := fun i =>
  shifted (out m c (i 0) (i 1)) (fun k => (m ((c : Thread nD τ).loc main_arg4) : S16x6x1x1024.Idx → EReal) (ix4 (i 0) 4 0 k))
    (fun k => (m ((c : Thread nD τ).loc main_arg4) : S16x6x1x1024.Idx → EReal) (ix4 (i 0) 3 0 k)) (i 2)

/-- The second normalization's row at point `t`. -/
theorem normal_apply (t : Fin cfg0.N) (r : Fin 512) (k : Fin 1024) :
    k0_pay14 (mid (iblk m c 0 t) (iblk m c 1 t) (iblk m c 2 t) (iblk m c 3 t) (iblk m c 4 t) (iblk m c 5 t) (iblk m c 6 t) (iblk m c 9 t) (iblk m c 10 t) (iblk m c 11 t))
        (k0_pay10 (iblk m c 7 t)) (k0_pay11 (iblk m c 8 t))
        (midSum (iblk m c 0 t) (iblk m c 1 t) (iblk m c 2 t) (iblk m c 3 t) (iblk m c 4 t) (iblk m c 5 t) (iblk m c 6 t) (iblk m c 9 t) (iblk m c 10 t) (iblk m c 11 t))
        k0_pay13 (ix2 r k)
      = out m c (batch t) (place t r) k := by
  unfold mid midSum out row
  rw [pay14_apply _ _ _ _ fun r => pay12_apply _ _ _ _ _ _ _ _ _ r]
  simp only [pay9_apply, pay7_apply, upper_apply, lower_apply, blk0, blk1, blk2, blk3, blk4, blk5, blk6, blk7, blk8, blk9, blk10, blk11]
  refine congrArg (lnorm · _ _ k) (congrArg (skip _ · _) (funext fun k => congrArg₂ (· + ·) rfl (Finset.sum_congr rfl fun e _ => ?_)))
  refine congrArg (· * _) (congrArg (· + _) ?_)
  exact sum_blocks _ (fun g l => (m ((c : Thread nD τ).loc main_arg7) : S8x64x64.Idx → EReal) (ix3 g l (inGroup e))) (groupOf e)

theorem first_apply (t : Fin cfg0.N) (r : Fin 512) (k : Fin 1024) : first m c t (ix3 0 r k) = out m c (batch t) (place t r) k := by
  unfold first
  rw [pay16_apply]; exact normal_apply m c t r k

theorem second_apply (t : Fin cfg0.N) (r : Fin 512) (k : Fin 1024) :
    second m c t (ix3 0 r k) = outH m c (ix3 (batch t) (place t r) k) := by
  unfold second
  rw [pay17_apply, normal_apply m c t r k, blk4, blk4]; rfl

/-! ## The two arrays -/

theorem emb15 (t : Fin cfg0.N) (r : Fin 512) (k : Fin 1024) :
    ((cfg0.win 15).blk t).view.emb (ix3 0 r k : S1x512x1024.Idx) = (ix3 (batch t) (place t r) k : S16x4096x1024.Idx) := by
  refine funext fun a => Fin.ext ?_
  show cc0_transform_15 (grid0.coords t) a * S1x512x1024.size a + 1 * ((ix3 0 r k : S1x512x1024.Idx) a).val = _
  rw [tr15_eq]
  fin_cases a
  · show t.val / 8 * 1 + 1 * 0 = t.val / 8; omega
  · show t.val % 8 * 512 + 1 * r.val = 512 * (t.val % 8) + r.val; omega
  · show 0 * 1024 + 1 * k.val = k.val; omega

theorem emb16 (t : Fin cfg0.N) (r : Fin 512) (k : Fin 1024) :
    ((cfg0.win 16).blk t).view.emb (ix3 0 r k : S1x512x1024.Idx) = (ix3 (batch t) (place t r) k : S16x4096x1024.Idx) := by
  refine funext fun a => Fin.ext ?_
  show cc0_transform_16 (grid0.coords t) a * S1x512x1024.size a + 1 * ((ix3 0 r k : S1x512x1024.Idx) a).val = _
  rw [tr16_eq]
  fin_cases a
  · show t.val / 8 * 1 + 1 * 0 = t.val / 8; omega
  · show t.val % 8 * 512 + 1 * r.val = 512 * (t.val % 8) + r.val; omega
  · show 0 * 1024 + 1 * k.val = k.val; omega

/-- Every row of every batch belongs to a point. -/
theorem point_of (b : Fin 16) (r : Fin 4096) : ∃ (t : Fin cfg0.N) (q : Fin 512), batch t = b ∧ place t q = r := by
  refine ⟨⟨8 * b.val + r.val / 512, lt_of_lt_of_eq (b := 128) (by omega) N_0.symm⟩, ⟨r.val % 512, by omega⟩, Fin.ext ?_, Fin.ext ?_⟩
  · show (8 * b.val + r.val / 512) / 8 = b.val; omega
  · show 512 * ((8 * b.val + r.val / 512) % 8) + r.val % 512 = r.val; omega

theorem arr15 : (dats m 0 c).arrAt 15 cfg0.N = outX m c := by
  refine Dat.arrAt_eq_of_cover (dats m 0 c) 15 (outX m c) (fun t _ => ?_) fun (i : S16x4096x1024.Idx) => ?_
  · rw [found15]
    funext (y : S1x512x1024.Idx)
    obtain ⟨r, k, rfl⟩ : ∃ (r : Fin 512) (k : Fin 1024), y = ix3 0 r k := ⟨y 1, y 2, (eq_ix3 y).trans (congrArg (ix3 · (y 1) (y 2)) (Subsingleton.elim (α := Fin 1) (y 0) 0))⟩
    refine Eq.trans ?_ (congrArg (outX m c) (emb15 t r k)).symm
    exact first_apply m c t r k
  · obtain ⟨t, q, hb, hr⟩ := point_of (i 0) (i 1)
    refine ⟨t, flush0_15 t, ?_⟩
    have hm := ((cfg0.win 15).blk t).view.emb_mem_set (ix3 0 q (i 2) : S1x512x1024.Idx)
    have e := (emb15 t q (i 2)).trans ((congrArg₂ (ix3 · · (i 2)) hb hr).trans (eq_ix3 i).symm)
    exact Eq.mp (congrArg (· ∈ ((cfg0.win 15).blk t).view.set) e) hm

theorem arr16 : (dats m 0 c).arrAt 16 cfg0.N = outH m c := by
  refine Dat.arrAt_eq_of_cover (dats m 0 c) 16 (outH m c) (fun t _ => ?_) fun (i : S16x4096x1024.Idx) => ?_
  · rw [found16]
    funext (y : S1x512x1024.Idx)
    obtain ⟨r, k, rfl⟩ : ∃ (r : Fin 512) (k : Fin 1024), y = ix3 0 r k := ⟨y 1, y 2, (eq_ix3 y).trans (congrArg (ix3 · (y 1) (y 2)) (Subsingleton.elim (α := Fin 1) (y 0) 0))⟩
    refine Eq.trans ?_ (congrArg (outH m c) (emb16 t r k)).symm
    exact second_apply m c t r k
  · obtain ⟨t, q, hb, hr⟩ := point_of (i 0) (i 1)
    refine ⟨t, flush0_16 t, ?_⟩
    have hm := ((cfg0.win 16).blk t).view.emb_mem_set (ix3 0 q (i 2) : S1x512x1024.Idx)
    have e := (emb16 t q (i 2)).trans ((congrArg₂ (ix3 · · (i 2)) hb hr).trans (eq_ix3 i).symm)
    exact Eq.mp (congrArg (· ∈ ((cfg0.win 16).blk t).view.set) e) hm

end Cert.Proj

end
-- ==== Proof.Proj.Reference.lean ====
/-
  The output projection's reference, read at an index.
-/
module

public import proofs.«01_k».proof.Proof.Proj.Mix
public import proofs.«01_k».proof.Proof.Gen.ProjReferenceIdeal.Run
public import Idealize.ShloMosaic.Lib.Pointwise.Reshape

@[expose] public section

set_option maxRecDepth 16384

noncomputable section

namespace Cert.Proj

open Idealize.ShloMosaic Cert.ProjReferenceIdeal Cert.ProjReferenceIdeal.Facts₀ Cert.Bridge

variable [Cert.ProjReferenceIdeal.Facts]

/-! ## The normalization of the rows -/

/-- The mean of every row. -/
def rowMean (x : FVec Ideal S16x4096x1024 .f32) : FVec Ideal S16x4096x1 .f32 :=
  Host.divf (broadcastInDim S16x4096x1 ![0, 1] bcast_S16x4096_S16x4096x1_0_1
      (Host.reduceAdd x (constant S_ .f32 0x00000000#32) reducesTo_S16x4096x1024_S16x4096_d2 h_S_))
    (broadcastInDim S16x4096x1 ![] bcast_S_S16x4096x1 (constant S_ .f32 0x44800000#32))

/-- Every row less its mean. -/
def rowDev (x : FVec Ideal S16x4096x1024 .f32) : FVec Ideal S16x4096x1024 .f32 :=
  subf x (broadcastInDim S16x4096x1024 ![0, 1, 2] bcast_S16x4096x1_S16x4096x1024_0_1_2 (rowMean x))

theorem rowDev_apply (x : FVec Ideal S16x4096x1024 .f32) (b : Fin 16) (t : Fin 4096) (k : Fin 1024) :
    rowDev x (ix3 b t k) = x (ix3 b t k) - mean (fun k => x (ix3 b t k)) := by
  pointwise [rowDev, rowMean, mean]

/-- The rows normalized. -/
def normed (x : FVec Ideal S16x4096x1024 .f32) (g v : FVec Ideal S1024 .f32) : FVec Ideal S16x4096x1024 .f32 :=
  addf (mulf (mulf (rowDev x) (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf (rowDev x) (rowDev x)) (constant S_ .f32 0x00000000#32) reducesTo_S16x4096x1024_S16x4096_d2 h_S_))
        (broadcastInDim S16x4096x1 ![] bcast_S_S16x4096x1 (constant S_ .f32 0x44800000#32)))
        (broadcastInDim S16x4096x1 ![] bcast_S_S16x4096x1 (constant S_ .f32 0x3727C5AC#32))))))
    (broadcastInDim S16x4096x1024 ![0, 1, 2] bcast_S1x1x1024_S16x4096x1024_0_1_2
      (broadcastInDim S1x1x1024 ![2] bcast_S1024_S1x1x1024_2 g)))
    (broadcastInDim S16x4096x1024 ![0, 1, 2] bcast_S1x1x1024_S16x4096x1024_0_1_2
      (broadcastInDim S1x1x1024 ![2] bcast_S1024_S1x1x1024_2 v))

theorem normed_apply (x : FVec Ideal S16x4096x1024 .f32) (g v : FVec Ideal S1024 .f32) (b : Fin 16) (t : Fin 4096) (k : Fin 1024) :
    normed x g v (ix3 b t k) = lnorm (fun k => x (ix3 b t k)) (fun k => g (ix1 k)) (fun k => v (ix1 k)) k := by
  pointwise [normed, rowDev_apply, lnorm]

/-! ## The mixed rows -/

/-- The groups of channels. -/
def grouped (z : FVec Ideal S16x4096x512 .f32) : FVec Ideal S16x4096x8x64 .f32 :=
  shapeCast S16x4096x8x64 z shapeCasts_S16x4096x512_S16x4096x8x64

theorem grouped_apply (z : FVec Ideal S16x4096x512 .f32) (b : Fin 16) (t : Fin 4096) (g : Fin 8) (c : Fin 64) :
    grouped z (ix4 b t g c) = z (ix3 b t (chan g c)) := by
  refine shapeCast_apply _ _ _ _ ?_
  refine (Shape.rowMajor_val_three _).trans (Eq.trans ?_ (Shape.rowMajor_val_four _).symm)
  show (b.val * 4096 + t.val) * 512 + (64 * g.val + c.val) = ((b.val * 4096 + t.val) * 8 + g.val) * 64 + c.val; omega

/-- Each group through its own weights. -/
def groups (z : FVec Ideal S16x4096x512 .f32) (w : FVec Ideal S8x64x64 .f32) (a : FVec Ideal S8x64 .f32) : FVec Ideal S16x4096x8x64 .f32 :=
  addf (transpose S16x4096x8x64 [2, 3, 0, 1] (Host.dotGeneral dot_S8x64x64_S16x4096x8x64_S8x64x16x4096_1_3_2_01_0_2 none w (grouped z))
      transposes_S8x64x16x4096_S16x4096x8x64_2_3_0_1)
    (broadcastInDim S16x4096x8x64 ![0, 1, 2, 3] bcast_S1x1x8x64_S16x4096x8x64_0_1_2_3
      (broadcastInDim S1x1x8x64 ![2, 3] bcast_S8x64_S1x1x8x64_2_3 a))

theorem groups_apply (z : FVec Ideal S16x4096x512 .f32) (w : FVec Ideal S8x64x64 .f32) (a : FVec Ideal S8x64 .f32)
    (b : Fin 16) (t : Fin 4096) (g : Fin 8) (e : Fin 64) :
    groups z w a (ix4 b t g e) = (∑ c : Fin 64, w (ix3 g c e) * z (ix3 b t (chan g c))) + a (ix2 g e) := by
  pointwise [groups, grouped_apply]

def flat (y : FVec Ideal S16x4096x8x64 .f32) : FVec Ideal S16x4096x512 .f32 :=
  shapeCast S16x4096x512 y shapeCasts_S16x4096x8x64_S16x4096x512

theorem flat_apply (y : FVec Ideal S16x4096x8x64 .f32) (b : Fin 16) (t : Fin 4096) (e : Fin 512) :
    flat y (ix3 b t e) = y (ix4 b t (groupOf e) (inGroup e)) := by
  refine shapeCast_apply _ _ _ _ ?_
  refine (Shape.rowMajor_val_four _).trans (Eq.trans ?_ (Shape.rowMajor_val_three _).symm)
  show ((b.val * 4096 + t.val) * 8 + e.val / 64) * 64 + e.val % 64 = (b.val * 4096 + t.val) * 512 + e.val; omega

/-- Both halves side by side. -/
def both (p q : FVec Ideal S16x4096x512 .f32) : FVec Ideal S16x4096x1024 .f32 :=
  concatenate S16x4096x1024 2 [⟨S16x4096x512, p⟩, ⟨S16x4096x512, q⟩] concatenates_S16x4096x512_S16x4096x512_S16x4096x1024_d2

/-- Their product with the output weights. -/
def output (u : FVec Ideal S16x4096x1024 .f32) (w : FVec Ideal S1024x1024 .f32) : FVec Ideal S16x4096x1024 .f32 :=
  Host.dotGeneral dot_S16x4096x1024_S1024x1024_S16x4096x1024_2_0_01_1_n_n none u w

theorem output_apply (u : FVec Ideal S16x4096x1024 .f32) (w : FVec Ideal S1024x1024 .f32) (b : Fin 16) (t : Fin 4096) (k : Fin 1024) :
    output u w (ix3 b t k) = ∑ j : Fin 1024, u (ix3 b t j) * w (ix2 j k) := by
  pointwise [output]

/-! ## The modulation -/

def part2 (d : FVec Ideal S16x6x1x1024 .f32) : FVec Ideal S16x1x1024 .f32 :=
  shapeCast S16x1x1024 (extractStridedSlice S16x1x1x1024 ![0, 2, 0, 0] d slices_S16x6x1x1024_S16x1x1x1024_0_2_0_0) shapeCasts_S16x1x1x1024_S16x1x1024
def part3 (d : FVec Ideal S16x6x1x1024 .f32) : FVec Ideal S16x1x1024 .f32 :=
  shapeCast S16x1x1024 (extractStridedSlice S16x1x1x1024 ![0, 3, 0, 0] d slices_S16x6x1x1024_S16x1x1x1024_0_3_0_0) shapeCasts_S16x1x1x1024_S16x1x1024
def part4 (d : FVec Ideal S16x6x1x1024 .f32) : FVec Ideal S16x1x1024 .f32 :=
  shapeCast S16x1x1024 (extractStridedSlice S16x1x1x1024 ![0, 4, 0, 0] d slices_S16x6x1x1024_S16x1x1x1024_0_4_0_0) shapeCasts_S16x1x1x1024_S16x1x1024

theorem part2_apply (d : FVec Ideal S16x6x1x1024 .f32) (b : Fin 16) (k : Fin 1024) : part2 d (ix3 b 0 k) = d (ix4 b 2 0 k) := by
  pointwise [part2]
theorem part3_apply (d : FVec Ideal S16x6x1x1024 .f32) (b : Fin 16) (k : Fin 1024) : part3 d (ix3 b 0 k) = d (ix4 b 3 0 k) := by
  pointwise [part3]
theorem part4_apply (d : FVec Ideal S16x6x1x1024 .f32) (b : Fin 16) (k : Fin 1024) : part4 d (ix3 b 0 k) = d (ix4 b 4 0 k) := by
  pointwise [part4]

/-- The rows before their second normalization. -/
def before (x o : FVec Ideal S16x4096x1024 .f32) (g : FVec Ideal S16x1x1024 .f32) : FVec Ideal S16x4096x1024 .f32 :=
  addf (mulf (broadcastInDim S16x4096x1024 ![] bcast_S_S16x4096x1024 (constant S_ .f32 0x3F9837F0#32)) x)
    (mulf (broadcastInDim S16x4096x1024 ![0, 1, 2] bcast_S16x1x1024_S16x4096x1024_0_1_2 g) o)

theorem before_apply (x o : FVec Ideal S16x4096x1024 .f32) (g : FVec Ideal S16x1x1024 .f32) (b : Fin 16) (t : Fin 4096) (k : Fin 1024) :
    before x o g (ix3 b t k) = skip (fun k => x (ix3 b t k)) (fun k => o (ix3 b t k)) (fun k => g (ix3 b 0 k)) k := by
  pointwise [before, skip]

/-- The second result, of the first. -/
def after (x : FVec Ideal S16x4096x1024 .f32) (sc sh : FVec Ideal S16x1x1024 .f32) : FVec Ideal S16x4096x1024 .f32 :=
  addf (mulf x (broadcastInDim S16x4096x1024 ![0, 1, 2] bcast_S16x1x1024_S16x4096x1024_0_1_2
      (addf (broadcastInDim S16x1x1024 ![] bcast_S_S16x1x1024 (constant S_ .f32 0x3F800000#32)) sc)))
    (broadcastInDim S16x4096x1024 ![0, 1, 2] bcast_S16x1x1024_S16x4096x1024_0_1_2 sh)

theorem after_apply (x : FVec Ideal S16x4096x1024 .f32) (sc sh : FVec Ideal S16x1x1024 .f32) (b : Fin 16) (t : Fin 4096) (k : Fin 1024) :
    after x sc sh (ix3 b t k) = x (ix3 b t k) * (Ideal.ofBits .f32 0x3F800000#32 + sc (ix3 b 0 k)) + sh (ix3 b 0 k) := by
  pointwise [after]

/-! ## The run, its results named -/

open Idealize.ShloMosaic.TcCoe Idealize.SL.Sem

variable (m : (ℓ : Loc nD τ sig) → Buf (Elt Ideal) ℓ) (ρ : Dev nD → PrngReg)

/-- The first result. -/
def refX (c : Dev nD) : FVec Ideal S16x4096x1024 .f32 :=
  normed (before (normed (m ((c.tc : Thread nD τ).loc main_arg0)) (m ((c.tc : Thread nD τ).loc main_arg5)) (m ((c.tc : Thread nD τ).loc main_arg6)))
      (output (both (addf (m ((c.tc : Thread nD τ).loc main_arg1) : FVec Ideal S16x4096x512 .f32) (m ((c.tc : Thread nD τ).loc main_arg2)))
          (flat (groups (m ((c.tc : Thread nD τ).loc main_arg3)) (m ((c.tc : Thread nD τ).loc main_arg7)) (m ((c.tc : Thread nD τ).loc main_arg8)))))
        (m ((c.tc : Thread nD τ).loc main_arg9)))
      (part2 (m ((c.tc : Thread nD τ).loc main_arg4))))
    (m ((c.tc : Thread nD τ).loc main_arg10)) (m ((c.tc : Thread nD τ).loc main_arg11))

/-- The second. -/
def refH (c : Dev nD) : FVec Ideal S16x4096x1024 .f32 :=
  after (refX m c) (part4 (m ((c.tc : Thread nD τ).loc main_arg4))) (part3 (m ((c.tc : Thread nD τ).loc main_arg4)))

theorem ref_run : θ_run defs (onTc (τ := τ) (main (F := Ideal))) ⟨m, fun _ => 0, ρ⟩ fun r => ∀ c : Dev nD,
      r.2.mem ((c.tc : Thread nD τ).loc main_v68) = refX m c
      ∧ r.2.mem ((c.tc : Thread nD τ).loc main_v74) = refH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  Cert.ProjReferenceIdeal.Value.run m ρ

/-- Both halves at a channel of the first, and at one of the second. -/
theorem both_low (p q : FVec Ideal S16x4096x512 .f32) (b : Fin 16) (t : Fin 4096) (e : Fin 512) : both p q (ix3 b t (lowRow e)) = p (ix3 b t e) := by
  pointwise [both, lowRow]

theorem both_high (p q : FVec Ideal S16x4096x512 .f32) (b : Fin 16) (t : Fin 4096) (e : Fin 512) : both p q (ix3 b t (highRow e)) = q (ix3 b t e) := by
  pointwise [both, highRow]

/-- The first result at an index. -/
theorem refX_apply (c : Dev nD) (b : Fin 16) (t : Fin 4096) (k : Fin 1024) :
    refX m c (ix3 b t k)
      = row (fun k => (m ((c.tc : Thread nD τ).loc main_arg0) : S16x4096x1024.Idx → EReal) (ix3 b t k))
          (fun k => (m ((c.tc : Thread nD τ).loc main_arg5) : S1024.Idx → EReal) (ix1 k))
          (fun k => (m ((c.tc : Thread nD τ).loc main_arg6) : S1024.Idx → EReal) (ix1 k))
          (fun e => (m ((c.tc : Thread nD τ).loc main_arg1) : S16x4096x512.Idx → EReal) (ix3 b t e))
          (fun e => (m ((c.tc : Thread nD τ).loc main_arg2) : S16x4096x512.Idx → EReal) (ix3 b t e))
          (fun e => (m ((c.tc : Thread nD τ).loc main_arg3) : S16x4096x512.Idx → EReal) (ix3 b t e))
          (fun g l e => (m ((c.tc : Thread nD τ).loc main_arg7) : S8x64x64.Idx → EReal) (ix3 g l e))
          (fun g e => (m ((c.tc : Thread nD τ).loc main_arg8) : S8x64.Idx → EReal) (ix2 g e))
          (fun j k => (m ((c.tc : Thread nD τ).loc main_arg9) : S1024x1024.Idx → EReal) (ix2 j k))
          (fun k => (m ((c.tc : Thread nD τ).loc main_arg4) : S16x6x1x1024.Idx → EReal) (ix4 b 2 0 k))
          (fun k => (m ((c.tc : Thread nD τ).loc main_arg10) : S1024.Idx → EReal) (ix1 k))
          (fun k => (m ((c.tc : Thread nD τ).loc main_arg11) : S1024.Idx → EReal) (ix1 k)) k := by
  unfold refX row mixed spread
  simp only [normed_apply, before_apply, part2_apply, output_apply, sum_halves, both_low, both_high, flat_apply, groups_apply]
  rfl

/-- The second result at an index. -/
theorem refH_apply (c : Dev nD) (b : Fin 16) (t : Fin 4096) (k : Fin 1024) :
    refH m c (ix3 b t k)
      = shifted (fun k => refX m c (ix3 b t k))
          (fun k => (m ((c.tc : Thread nD τ).loc main_arg4) : S16x6x1x1024.Idx → EReal) (ix4 b 4 0 k))
          (fun k => (m ((c.tc : Thread nD τ).loc main_arg4) : S16x6x1x1024.Idx → EReal) (ix4 b 3 0 k)) k := by
  unfold refH shifted
  rw [after_apply, part4_apply, part3_apply]

end Cert.Proj

end
-- ==== Proof.Proj.lean ====
/-
  The output projection: the kernel's first two results are the reference's.
-/
module

public import proofs.«01_k».proof.Proof.Proj.Kernel
public import proofs.«01_k».proof.Proof.Proj.Reference

@[expose] public section

set_option maxRecDepth 16384

noncomputable section

namespace Cert.Proj

open Idealize.ShloMosaic Idealize.ShloMosaic.TcCoe Idealize.SL.Sem Cert.Bridge

theorem result (m : (ℓ : Loc Cert.ProjKernelIdeal.nD Cert.ProjKernelIdeal.τ Cert.ProjKernelIdeal.sig) → Buf (Elt Ideal) ℓ)
    (m' : (ℓ : Loc Cert.ProjReferenceIdeal.nD Cert.ProjReferenceIdeal.τ Cert.ProjReferenceIdeal.sig) → Buf (Elt Ideal) ℓ) (c : Dev Cert.ProjKernelIdeal.nD)
    (e : m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)
      ∧ m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10)
      ∧ m' ((c.tc : Thread Cert.ProjReferenceIdeal.nD Cert.ProjReferenceIdeal.τ).loc Cert.ProjReferenceIdeal.main_arg11) = m ((c.tc : Thread Cert.ProjKernelIdeal.nD Cert.ProjKernelIdeal.τ).loc Cert.ProjKernelIdeal.main_arg11)
      ∧ m' ((c.tc : Thread Cert.ProjReferenceIdeal.nD Cert.ProjReferenceIdeal.τ).loc Cert.ProjReferenceIdeal.main_arg12) = m ((c.tc : Thread Cert.ProjKernelIdeal.nD Cert.ProjKernelIdeal.τ).loc Cert.ProjKernelIdeal.main_arg12)
      ∧ m' ((c.tc : Thread Cert.ProjReferenceIdeal.nD Cert.ProjReferenceIdeal.τ).loc Cert.ProjReferenceIdeal.main_arg13) = m ((c.tc : Thread Cert.ProjKernelIdeal.nD Cert.ProjKernelIdeal.τ).loc Cert.ProjKernelIdeal.main_arg13)) :
    refX m' c = outX m c ∧ refH m' c = outH m c := by
  obtain ⟨e0, e1, e2, e3, e4, e5, e6, e7, e8, e9, e10, e11, e12, e13⟩ := e
  have hx : ∀ (b : Fin 16) (t : Fin 4096) (k : Fin 1024), refX m' c (ix3 b t k) = out m c b t k := fun b t k => by
    rw [refX_apply, e0, e1, e2, e3, e4, e5, e6, e7, e8, e9, e10, e11]; rfl
  constructor
  · funext y
    obtain ⟨b, t, k, rfl⟩ : ∃ (b : Fin 16) (t : Fin 4096) (k : Fin 1024), y = ix3 b t k := ⟨y 0, y 1, y 2, eq_ix3 y⟩
    exact hx b t k
  · funext y
    obtain ⟨b, t, k, rfl⟩ : ∃ (b : Fin 16) (t : Fin 4096) (k : Fin 1024), y = ix3 b t k := ⟨y 0, y 1, y 2, eq_ix3 y⟩
    rw [refH_apply, e4]
    exact congrArg (shifted · _ _ k) (funext fun k => hx b t k)

end Cert.Proj

end
-- ==== Proof.lean ====
/-
  The calls of the layer, certified: each kernel and its reading over the extended reals run, leave their arguments
  as they were and every semaphore counter at zero, and the kernel computes what the reference computes.
-/
module

public import proofs.«01_k».proof.Defs
public import proofs.«01_k».proof.Proof.InRange
public import proofs.«01_k».proof.Proof.Kernel.Host
public import proofs.«01_k».proof.Proof.Value
public import proofs.«01_k».proof.Proof.Gen.InKernel.Frame
public import proofs.«01_k».proof.Proof.In
public import proofs.«01_k».proof.Proof.OutKernel.Host
public import proofs.«01_k».proof.Proof.Out
public import proofs.«01_k».proof.Proof.Gen.ProjKernel.Frame
public import proofs.«01_k».proof.Proof.Proj

@[expose] public section

namespace Cert.Proof

open Idealize.ShloMosaic Idealize.ShloMosaic.TcCoe Idealize.SL.Sem

/-- The reference has no semaphore: its counters are zero at the end as at the start. -/
theorem no_sem {V : EltTy → Type} (s : MemSt Cert.ReferenceIdeal.nD Cert.ReferenceIdeal.τ Cert.ReferenceIdeal.sig V) : s.sem = fun _ => 0 :=
  funext fun g => by
    obtain ⟨p, s⟩ := g
    cases s with
    | reg s => exact s.elim0
    | dma s => exact s.elim0

theorem no_sem_in {V : EltTy → Type} (s : MemSt Cert.InReferenceIdeal.nD Cert.InReferenceIdeal.τ Cert.InReferenceIdeal.sig V) : s.sem = fun _ => 0 :=
  funext fun g => by
    obtain ⟨p, s⟩ := g
    cases s with
    | reg s => exact s.elim0
    | dma s => exact s.elim0

theorem no_sem_out {V : EltTy → Type} (s : MemSt Cert.OutReferenceIdeal.nD Cert.OutReferenceIdeal.τ Cert.OutReferenceIdeal.sig V) : s.sem = fun _ => 0 :=
  funext fun g => by
    obtain ⟨p, s⟩ := g
    cases s with
    | reg s => exact s.elim0
    | dma s => exact s.elim0

theorem no_sem_proj {V : EltTy → Type} (s : MemSt Cert.ProjReferenceIdeal.nD Cert.ProjReferenceIdeal.τ Cert.ProjReferenceIdeal.sig V) : s.sem = fun _ => 0 :=
  funext fun g => by
    obtain ⟨p, s⟩ := g
    cases s with
    | reg s => exact s.elim0
    | dma s => exact s.elim0

theorem claim : Cert.Claim := ⟨Cert.Kernel.Gen.facts, Cert.KernelIdeal.Gen.facts, Cert.ReferenceIdeal.Gen.facts,
  Cert.InKernel.Gen.facts, Cert.InKernelIdeal.Gen.facts, Cert.InReferenceIdeal.Gen.facts,
  Cert.OutKernel.Gen.facts, Cert.OutKernelIdeal.Gen.facts, Cert.OutReferenceIdeal.Gen.facts,
  Cert.ProjKernel.Gen.facts, Cert.ProjKernelIdeal.Gen.facts, Cert.ProjReferenceIdeal.Gen.facts, Cert.Pre_in_range.Gen.facts, Cert.Pre_slots_in_range.Gen.facts,
  fun m ρ h => Cert.Kernel.Hand.frame m ρ (fun c => (Cert.Pre_in_range.Hand.ranges _ _ _ _ _ _ _ (h c)).1) (fun c => (Cert.Pre_in_range.Hand.ranges _ _ _ _ _ _ _ (h c)).2),
  fun m ρ h => Cert.KernelIdeal.Hand.frame m ρ (fun c => (Cert.Pre_in_range.Hand.ranges _ _ _ _ _ _ _ (h c)).1) (fun c => (Cert.Pre_in_range.Hand.ranges _ _ _ _ _ _ _ (h c)).2),
  fun m ρ _ => θ_run_mono (Cert.ReferenceIdeal.Value.run m ρ) fun r k => ⟨fun c => (k c).2, no_sem _⟩,
  fun m ρ _ => Cert.InKernel.Gen.frame m ρ,
  fun m ρ _ => Cert.InKernelIdeal.Gen.frame m ρ,
  fun m ρ _ => θ_run_mono (Cert.InReferenceIdeal.Value.run m ρ) fun r k => ⟨fun c => (k c).2.2, no_sem_in _⟩,
  fun m ρ h => Cert.OutKernel.Hand.frame m ρ fun c => Cert.Pre_slots_in_range.Hand.range _ _ _ _ _ _ _ (h c),
  fun m ρ h => Cert.OutKernelIdeal.Hand.frame m ρ fun c => Cert.Pre_slots_in_range.Hand.range _ _ _ _ _ _ _ (h c),
  fun m ρ _ => θ_run_mono (Cert.OutReferenceIdeal.Value.run m ρ) fun r k => ⟨fun c => (k c).2, no_sem_out _⟩,
  fun m ρ _ => Cert.ProjKernel.Gen.frame m ρ,
  fun m ρ _ => Cert.ProjKernelIdeal.Gen.frame m ρ,
  fun m ρ _ => θ_run_mono (Cert.ProjReferenceIdeal.Value.run m ρ) fun r k => ⟨fun c => (k c).2.2, no_sem_proj _⟩,
  trivial,
  fun m ρ m' ρ' h e => by
    have hE : Cert.KernelIdeal.Hand.Experts m := fun c => (Cert.Pre_in_range.Hand.ranges _ _ _ _ _ _ _ (h c)).1
    have hW : Cert.KernelIdeal.Hand.Words m := fun c => (Cert.Pre_in_range.Hand.ranges _ _ _ _ _ _ _ (h c)).2
    refine ⟨Cert.KernelIdeal.Hand.out m, θ_run_mono (Cert.KernelIdeal.Hand.run_out m ρ hE hW) fun r k c => ?_,
      θ_run_mono (Cert.ReferenceIdeal.Value.run m' ρ') fun r k c => ⟨(k c).1.trans ?_, (k c).2⟩⟩
    · have a := k.1.2 c
      exact ⟨k.1.1 c, a _ (by decide), a _ (by decide), a _ (by decide), a _ (by decide), a _ (by decide), a _ (by decide), a _ (by decide)⟩
    · exact Cert.Bridge.result m m' c (e c) hE hW,
  trivial,
  fun m ρ m' ρ' _ e => ⟨Cert.In.outS m, Cert.In.outZ m,
    θ_run_mono (Cert.InKernelIdeal.Value.run_blocks m ρ) fun r k c =>
      ⟨(k c).1.trans (Cert.In.arr7 m c), (k c).2.1.trans (Cert.In.arr8 m c), (k c).2.2⟩,
    θ_run_mono (Cert.In.ref_run m' ρ') fun r k c =>
      ⟨(k c).1.trans (Cert.In.result m m' c (e c)).1, (k c).2.1.trans (Cert.In.result m m' c (e c)).2, (k c).2.2⟩⟩,
  trivial,
  fun m ρ m' ρ' h e => by
    have hW : Cert.OutKernelIdeal.Hand.Words m := fun c => Cert.Pre_slots_in_range.Hand.range _ _ _ _ _ _ _ (h c)
    refine ⟨Cert.OutKernelIdeal.Hand.out m, θ_run_mono (Cert.OutKernelIdeal.Hand.run_out m ρ hW) fun r k c => ?_,
      θ_run_mono (Cert.Out.ref_run m' ρ') fun r k c => ⟨(k c).1.trans ?_, (k c).2⟩⟩
    · have a := k.1.2 c
      exact ⟨k.1.1 c, a _ (by decide), a _ (by decide), a _ (by decide), a _ (by decide), a _ (by decide), a _ (by decide), a _ (by decide)⟩
    · exact Cert.Out.result m m' c (e c) hW,
  trivial,
  fun m ρ m' ρ' _ e => ⟨Cert.Proj.outX m, Cert.Proj.outH m,
    θ_run_mono (Cert.ProjKernelIdeal.Value.run_blocks m ρ) fun r k c =>
      ⟨(k c).1.trans (Cert.Proj.arr15 m c), (k c).2.1.trans (Cert.Proj.arr16 m c), (k c).2.2.2.2.2⟩,
    θ_run_mono (Cert.Proj.ref_run m' ρ') fun r k c =>
      ⟨(k c).1.trans (Cert.Proj.result m m' c (e c)).1, (k c).2.1.trans (Cert.Proj.result m m' c (e c)).2, (k c).2.2⟩⟩⟩

end Cert.Proof

end
